-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "masked" .f32 0xF149F2CA#32 ⊥
  ∧ IdealRules.named_const.Statement Cert.KernelIdeal.κ "z_scale" .f32 0x3F38AA3B#32 (((Real.log 2)⁻¹ * (1 / 2) : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v40)) (v3 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_v43) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22_0) = v0 c
          ∧ r.2.mem ((c.tc : Thread Cert.ReferenceIdeal.nD Cert.ReferenceIdeal.τ).loc Cert.ReferenceIdeal.main_v22_1) = v1 c
          ∧ r.2.mem ((c.tc : Thread Cert.ReferenceIdeal.nD Cert.ReferenceIdeal.τ).loc Cert.ReferenceIdeal.main_v22_2) = v2 c
          ∧ r.2.mem ((c.tc : Thread Cert.ReferenceIdeal.nD Cert.ReferenceIdeal.τ).loc Cert.ReferenceIdeal.main_v22_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S3x128x2048 : Shape := ⟨3, ![3, 128, 2048]⟩
abbrev S3x128x8192 : Shape := ⟨3, ![3, 128, 8192]⟩
abbrev S2048 : Shape := ⟨1, ![2048]⟩
abbrev S8192 : Shape := ⟨1, ![8192]⟩
abbrev S4096x32000 : Shape := ⟨2, ![4096, 32000]⟩
abbrev S64x32000 : Shape := ⟨2, ![64, 32000]⟩
abbrev S32000x2048 : Shape := ⟨2, ![32000, 2048]⟩
abbrev S32000 : Shape := ⟨1, ![32000]⟩
abbrev S3 : Shape := ⟨1, ![3]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S3x128x2048 .bf16) (main_arg1 : FVec F S3x128x8192 .bf16) (main_arg2 : FVec F S2048 .f32) (main_arg3 : FVec F S8192 .f32) (main_arg4 : IVec S4096x32000 8) (main_arg5 : FVec F S64x32000 .f32) (main_arg6 : FVec F S64x32000 .f32) (main_arg7 : FVec F S32000x2048 .fp8e4m3) (main_arg8 : FVec F S32000 .f32) (main_arg9 : IVec S3 32) (main_arg10 : IVec S3 32) (main_arg11 : IVec S1 32) (main_arg12 : IVec S1 32) : IVec S1 1 :=
  let main_c : IVec S_ 32 := constantI S_ 32 32000#32
  let main_v0 : IVec S1 32 := broadcastInDim S1 ![] bcast_S_S1 main_c
  let main_v1 : IVec S1 1 := cmpi .sle main_arg12 main_v0
  main_v1
-- ==== Kernel.lean ====
abbrev S3x128x2048 : Shape := ⟨3, ![3, 128, 2048]⟩
abbrev S3x128x8192 : Shape := ⟨3, ![3, 128, 8192]⟩
abbrev S2048 : Shape := ⟨1, ![2048]⟩
abbrev S8192 : Shape := ⟨1, ![8192]⟩
abbrev S4096x32000 : Shape := ⟨2, ![4096, 32000]⟩
abbrev S64x32000 : Shape := ⟨2, ![64, 32000]⟩
abbrev S32000x2048 : Shape := ⟨2, ![32000, 2048]⟩
abbrev S32000 : Shape := ⟨1, ![32000]⟩
abbrev S3 : Shape := ⟨1, ![3]⟩
abbrev S1 : Shape := ⟨1, ![1]⟩
abbrev S384x2048 : Shape := ⟨2, ![384, 2048]⟩
abbrev S384x8192 : Shape := ⟨2, ![384, 8192]⟩
abbrev S1x2048 : Shape := ⟨2, ![1, 2048]⟩
abbrev S1x8192 : Shape := ⟨2, ![1, 8192]⟩
abbrev S128 : Shape := ⟨1, ![128]⟩
abbrev S1x128 : Shape := ⟨2, ![1, 128]⟩
abbrev S3x1 : Shape := ⟨2, ![3, 1]⟩
abbrev S3x128 : Shape := ⟨2, ![3, 128]⟩
abbrev S_ : Shape := ⟨0, ![]⟩
abbrev S384x1 : Shape := ⟨2, ![384, 1]⟩
abbrev S384x128 : Shape := ⟨2, ![384, 128]⟩
abbrev S128x2048 : Shape := ⟨2, ![128, 2048]⟩
abbrev S128x8192 : Shape := ⟨2, ![128, 8192]⟩
abbrev S128x128 : Shape := ⟨2, ![128, 128]⟩
abbrev S128x1 : Shape := ⟨2, ![128, 1]⟩
abbrev S256x256 : Shape := ⟨2, ![256, 256]⟩
abbrev S128x256 : Shape := ⟨2, ![128, 256]⟩
abbrev S1x32000 : Shape := ⟨2, ![1, 32000]⟩
abbrev S384x32000 : Shape := ⟨2, ![384, 32000]⟩
abbrev S4096x512 : Shape := ⟨2, ![4096, 512]⟩
abbrev S64x512 : Shape := ⟨2, ![64, 512]⟩
abbrev S512x2048 : Shape := ⟨2, ![512, 2048]⟩
abbrev S1x512 : Shape := ⟨2, ![1, 512]⟩
abbrev S384x512 : Shape := ⟨2, ![384, 512]⟩
abbrev S8192x512 : Shape := ⟨2, ![8192, 512]⟩
abbrev S384 : Shape := ⟨1, ![384]⟩

abbrev nBuf : Space → Nat
  | .hbm => 82
  | .vmem => 38
  | .smem => 2
  | _ => 0

abbrev bufTy : (tb : Table) → Fin (tcTables nBuf tb) → BufTy
  | .hbm, ⟨0, _⟩ => ⟨S3x128x2048, .bf16⟩
  | .hbm, ⟨1, _⟩ => ⟨S3x128x8192, .bf16⟩
  | .hbm, ⟨2, _⟩ => ⟨S2048, .f32⟩
  | .hbm, ⟨3, _⟩ => ⟨S8192, .f32⟩
  | .hbm, ⟨4, _⟩ => ⟨S4096x32000, .i8⟩
  | .hbm, ⟨5, _⟩ => ⟨S64x32000, .f32⟩
  | .hbm, ⟨6, _⟩ => ⟨S64x32000, .f32⟩
  | .hbm, ⟨7, _⟩ => ⟨S32000x2048, .fp8e4m3⟩
  | .hbm, ⟨8, _⟩ => ⟨S32000, .f32⟩
  | .hbm, ⟨9, _⟩ => ⟨S3, .i32⟩
  | .hbm, ⟨10, _⟩ => ⟨S3, .i32⟩
  | .hbm, ⟨11, _⟩ => ⟨S1, .i32⟩
  | .hbm, ⟨12, _⟩ => ⟨S384x2048, .bf16⟩
  | .hbm, ⟨13, _⟩ => ⟨S384x8192, .bf16⟩
  | .hbm, ⟨14, _⟩ => ⟨S1x2048, .f32⟩
  | .hbm, ⟨15, _⟩ => ⟨S1x8192, .f32⟩
  | .hbm, ⟨16, _⟩ => ⟨S128, .i32⟩
  | .hbm, ⟨17, _⟩ => ⟨S1x128, .i32⟩
  | .hbm, ⟨18, _⟩ => ⟨S3x1, .i32⟩
  | .hbm, ⟨19, _⟩ => ⟨S3x128, .i32⟩
  | .hbm, ⟨20, _⟩ => ⟨S3x128, .i32⟩
  | .hbm, ⟨21, _⟩ => ⟨S3x128, .i1⟩
  | .hbm, ⟨22, _⟩ => ⟨S3x1, .i32⟩
  | .hbm, ⟨23, _⟩ => ⟨S3x128, .i32⟩
  | .hbm, ⟨24, _⟩ => ⟨S3x128, .i32⟩
  | .hbm, ⟨25, _⟩ => ⟨S3x128, .i1⟩
  | .hbm, ⟨26, _⟩ => ⟨S3x128, .i1⟩
  | .hbm, ⟨27, _⟩ => ⟨S3x128, .f32⟩
  | .hbm, ⟨28, _⟩ => ⟨S_, .i32⟩
  | .hbm, ⟨29, _⟩ => ⟨S_, .f32⟩
  | .hbm, ⟨30, _⟩ => ⟨S3x128, .f32⟩
  | .hbm, ⟨31, _⟩ => ⟨S3x128, .f32⟩
  | .hbm, ⟨32, _⟩ => ⟨S384x1, .f32⟩
  | .hbm, ⟨33, _⟩ => ⟨S384x128, .f32⟩
  | .hbm, ⟨34, _⟩ => ⟨S384x8192, .bf16⟩
  | .hbm, ⟨35, _⟩ => ⟨S384x2048, .fp8e4m3⟩
  | .hbm, ⟨36, _⟩ => ⟨S384x128, .f32⟩
  | .hbm, ⟨37, _⟩ => ⟨S384x128, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x32000, .f32⟩
  | .hbm, ⟨62, _⟩ => ⟨S384x32000, .f32⟩
  | .hbm, ⟨63, _⟩ => ⟨S384x32000, .f32⟩
  | .hbm, ⟨64, _⟩ => ⟨S384x128, .f32⟩
  | .hbm, ⟨65, _⟩ => ⟨S384x128, .f32⟩
  | .hbm, ⟨66, _⟩ => ⟨S384x1, .f32⟩
  | .hbm, ⟨67, _⟩ => ⟨S384, .f32⟩
  | .hbm, ⟨68, _⟩ => ⟨S_, .f32⟩
  | .hbm, ⟨69, _⟩ => ⟨S384, .f32⟩
  | .hbm, ⟨70, _⟩ => ⟨S384, .f32⟩
  | .hbm, ⟨71, _⟩ => ⟨S3x128, .f32⟩
  | .hbm, ⟨72, _⟩ => ⟨S384x1, .f32⟩
  | .hbm, ⟨73, _⟩ => ⟨S384, .f32⟩
  | .hbm, ⟨74, _⟩ => ⟨S_, .f32⟩
  | .hbm, ⟨75, _⟩ => ⟨S384, .f32⟩
  | .hbm, ⟨76, _⟩ => ⟨S384, .f32⟩
  | .hbm, ⟨77, _⟩ => ⟨S3x128, .f32⟩
  | .hbm, ⟨78, _⟩ => ⟨S3x128x2048, .fp8e4m3⟩
  | .hbm, ⟨79, _⟩ => ⟨S384x1, .f32⟩
  | .hbm, ⟨80, _⟩ => ⟨S384, .f32⟩
  | .hbm, ⟨81, _⟩ => ⟨S3x128, .f32⟩
  | .local _ .vmem, ⟨0, _⟩ => ⟨S128x2048, .bf16⟩
  | .local _ .vmem, ⟨1, _⟩ => ⟨S128x2048, .bf16⟩
  | .local _ .vmem, ⟨2, _⟩ => ⟨S128x8192, .bf16⟩
  | .local _ .vmem, ⟨3, _⟩ => ⟨S128x8192, .bf16⟩
  | .local _ .vmem, ⟨4, _⟩ => ⟨S1x2048, .f32⟩
  | .local _ .vmem, ⟨5, _⟩ => ⟨S1x8192, .f32⟩
  | .local _ .vmem, ⟨6, _⟩ => ⟨S128x8192, .bf16⟩
  | .local _ .vmem, ⟨7, _⟩ => ⟨S128x8192, .bf16⟩
  | .local _ .vmem, ⟨8, _⟩ => ⟨S128x2048, .fp8e4m3⟩
  | .local _ .vmem, ⟨9, _⟩ => ⟨S128x2048, .fp8e4m3⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S384x8192, .bf16⟩
  | .local _ .vmem, ⟨15, _⟩ => ⟨S384x2048, .fp8e4m3⟩
  | .local _ .vmem, ⟨16, _⟩ => ⟨S384x128, .f32⟩
  | .local _ .vmem, ⟨17, _⟩ => ⟨S4096x512, .i8⟩
  | .local _ .vmem, ⟨18, _⟩ => ⟨S4096x512, .i8⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S512x2048, .fp8e4m3⟩
  | .local _ .vmem, ⟨24, _⟩ => ⟨S512x2048, .fp8e4m3⟩
  | .local _ .vmem, ⟨25, _⟩ => ⟨S1x512, .f32⟩
  | .local _ .vmem, ⟨26, _⟩ => ⟨S1x512, .f32⟩
  | .local _ .vmem, ⟨27, _⟩ => ⟨S384x512, .f32⟩
  | .local _ .vmem, ⟨28, _⟩ => ⟨S384x512, .f32⟩
  | .local _ .vmem, ⟨29, _⟩ => ⟨S384x512, .f32⟩
  | .local _ .vmem, ⟨30, _⟩ => ⟨S384x512, .f32⟩
  | .local _ .vmem, ⟨31, _⟩ => ⟨S384x128, .f32⟩
  | .local _ .vmem, ⟨32, _⟩ => ⟨S384x128, .f32⟩
  | .local _ .vmem, ⟨33, _⟩ => ⟨S8192x512, .bf16⟩
  | .local _ .vmem, ⟨34, _⟩ => ⟨S384x128, .f32⟩
  | .local _ .vmem, ⟨35, _⟩ => ⟨S384x128, .f32⟩
  | .local _ .vmem, ⟨36, _⟩ => ⟨S384x128, .f32⟩
  | .local _ .vmem, ⟨37, _⟩ => ⟨S384x128, .f32⟩
  | .local _ .smem, ⟨0, _⟩ => ⟨S_, .i32⟩
  | .local _ .smem, ⟨1, _⟩ => ⟨S1, .i32⟩
  | _, _ => ⟨S3x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_c_0 : Ref sig .tc := ⟨.hbm, 41, rfl⟩
abbrev main_v25 : Ref sig .tc := ⟨.hbm, 42, rfl⟩
abbrev main_c_1 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_c : Ref sig .tc := ⟨.hbm, 50, rfl⟩
abbrev main_call0_v6 : Ref sig .tc := ⟨.hbm, 51, rfl⟩
abbrev main_call0_v7 : Ref sig .tc := ⟨.hbm, 52, rfl⟩
abbrev main_call0_c_0 : Ref sig .tc := ⟨.hbm, 53, rfl⟩
abbrev main_call0_v8 : Ref sig .tc := ⟨.hbm, 54, rfl⟩
abbrev main_v26 : Ref sig .tc := ⟨.hbm, 55, rfl⟩
abbrev main_c_2 : Ref sig .tc := ⟨.hbm, 56, rfl⟩
abbrev main_c_3 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v28 : Ref sig .tc := ⟨.hbm, 61, rfl⟩
abbrev main_v29_0 : Ref sig .tc := ⟨.hbm, 62, rfl⟩
abbrev main_v29_1 : Ref sig .tc := ⟨.hbm, 63, rfl⟩
abbrev main_v29_2 : Ref sig .tc := ⟨.hbm, 64, rfl⟩
abbrev main_v29_3 : Ref sig .tc := ⟨.hbm, 65, rfl⟩
abbrev main_v30 : Ref sig .tc := ⟨.hbm, 66, rfl⟩
abbrev main_v31 : Ref sig .tc := ⟨.hbm, 67, rfl⟩
abbrev main_cst : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v27 : Ref sig .tc := ⟨.smem, 0, rfl⟩
abbrev main_arg12 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg11_0 : Ref sig .tc := ⟨.vmem, 32, rfl⟩
abbrev cc1_scratch0 : Ref sig .tc := ⟨.vmem, 33, rfl⟩
abbrev cc1_scratch1 : Ref sig .tc := ⟨.vmem, 34, rfl⟩
abbrev cc1_scratch2 : Ref sig .tc := ⟨.vmem, 35, rfl⟩
abbrev cc1_scratch3 : Ref sig .tc := ⟨.vmem, 36, rfl⟩
abbrev cc1_scratch4 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem11_0 : DmaSem sig := 32

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![0], ![true]⟩

abbrev pre1 : Pipeline.Prefetch sig := ⟨2, ![main_v27.idx, main_arg12.idx], fun | 0 => main_v27.names | 1 => main_arg12.names | ⟨_ + 2, h⟩ => absurd h (Nat.not_lt.2 (Nat.le_add_left _ _)), fun | 0 => rfl | 1 => rfl | ⟨_ + 2, h⟩ => absurd h (Nat.not_lt.2 (Nat.le_add_left _ _))⟩

def dynb1 (pf : pre1.Contents (Elt F)) : grid1.Bounds := ![(pf 0 fun a => a.elim0).toNat]

def k1_cond2 (arg0 : BitVec 32) (v1834 : BitVec 32) : BitVec 1 :=
  let c1_i32 : BitVec 32 := 1#32
  let v1835 : BitVec 32 := Scalar.subi v1834 c1_i32
  let v1836 : BitVec 1 := Scalar.cmpi .eq arg0 v1835
  let v1837 : BitVec 32 := Scalar.extui v1836
  let c0_i32_614 : BitVec 32 := 0#32
  let v1838 : BitVec 1 := Scalar.cmpi .ne v1837 c0_i32_614
  v1838

def cc1_transform_0 (b : grid1.Bounds) (i : (grid1.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (b : grid1.Bounds) (i : (grid1.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (b : grid1.Bounds) (i : (grid1.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (b : grid1.Bounds) (i : (grid1.at b).Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (b : grid1.Bounds) (i : (grid1.at b).Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (b : grid1.Bounds) (i : (grid1.at b).Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (b : grid1.Bounds) (i : (grid1.at b).Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (b : grid1.Bounds) (i : (grid1.at b).Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (b : grid1.Bounds) (i : (grid1.at b).Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_9 (b : grid1.Bounds) (i : (grid1.at b).Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_10 (b : grid1.Bounds) (i : (grid1.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (b : grid1.Bounds) (i : (grid1.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S384x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S384x2048 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S384x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S384x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S384x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S384x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S384x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "masked" => some ⊥
  | "z_scale" => some (((Real.log 2)⁻¹ * (1 / 2) : ℝ) : EReal)
  | _ => none
-- ==== ReferenceIdeal.lean ====
abbrev S3x128x2048 : Shape := ⟨3, ![3, 128, 2048]⟩
abbrev S3x128x8192 : Shape := ⟨3, ![3, 128, 8192]⟩
abbrev S2048 : Shape := ⟨1, ![2048]⟩
abbrev S8192 : Shape := ⟨1, ![8192]⟩
abbrev S4096x32000 : Shape := ⟨2, ![4096, 32000]⟩
abbrev S64x32000 : Shape := ⟨2, ![64, 32000]⟩
abbrev S32000x2048 : Shape := ⟨2, ![32000, 2048]⟩
abbrev S32000 : Shape := ⟨1, ![32000]⟩
abbrev S3 : Shape := ⟨1, ![3]⟩
abbrev S1 : Shape := ⟨1, ![1]⟩
abbrev S384x8192 : Shape := ⟨2, ![384, 8192]⟩
abbrev S_ : Shape := ⟨0, ![]⟩
abbrev S384 : Shape := ⟨1, ![384]⟩
abbrev S384x1 : Shape := ⟨2, ![384, 1]⟩
abbrev S1x8192 : Shape := ⟨2, ![1, 8192]⟩
abbrev S384x2048 : Shape := ⟨2, ![384, 2048]⟩
abbrev S384x4096 : Shape := ⟨2, ![384, 4096]⟩
abbrev S1x32000 : Shape := ⟨2, ![1, 32000]⟩
abbrev S1x2048 : Shape := ⟨2, ![1, 2048]⟩
abbrev S1x1 : Shape := ⟨2, ![1, 1]⟩
abbrev S3x128 : Shape := ⟨2, ![3, 128]⟩
abbrev S64x64x32000 : Shape := ⟨3, ![64, 64, 32000]⟩
abbrev S64x1x32000 : Shape := ⟨3, ![64, 1, 32000]⟩
abbrev S384x32000 : Shape := ⟨2, ![384, 32000]⟩

abbrev nBuf : Space → Nat
  | .hbm => 42
  | .vmem => 14
  | .smem => 0
  | _ => 0

abbrev bufTy : (tb : Table) → Fin (tcTables nBuf tb) → BufTy
  | .hbm, ⟨0, _⟩ => ⟨S3x128x2048, .bf16⟩
  | .hbm, ⟨1, _⟩ => ⟨S3x128x8192, .bf16⟩
  | .hbm, ⟨2, _⟩ => ⟨S2048, .f32⟩
  | .hbm, ⟨3, _⟩ => ⟨S8192, .f32⟩
  | .hbm, ⟨4, _⟩ => ⟨S4096x32000, .i8⟩
  | .hbm, ⟨5, _⟩ => ⟨S64x32000, .f32⟩
  | .hbm, ⟨6, _⟩ => ⟨S64x32000, .f32⟩
  | .hbm, ⟨7, _⟩ => ⟨S32000x2048, .fp8e4m3⟩
  | .hbm, ⟨8, _⟩ => ⟨S32000, .f32⟩
  | .hbm, ⟨9, _⟩ => ⟨S3, .i32⟩
  | .hbm, ⟨10, _⟩ => ⟨S3, .i32⟩
  | .hbm, ⟨11, _⟩ => ⟨S1, .i32⟩
  | .hbm, ⟨12, _⟩ => ⟨S1, .i32⟩
  | .hbm, ⟨13, _⟩ => ⟨S384x8192, .bf16⟩
  | .hbm, ⟨14, _⟩ => ⟨S384x8192, .f32⟩
  | .hbm, ⟨15, _⟩ => ⟨S384x8192, .f32⟩
  | .hbm, ⟨16, _⟩ => ⟨S_, .f32⟩
  | .hbm, ⟨17, _⟩ => ⟨S384, .f32⟩
  | .hbm, ⟨18, _⟩ => ⟨S384x1, .f32⟩
  | .hbm, ⟨19, _⟩ => ⟨S_, .f32⟩
  | .hbm, ⟨20, _⟩ => ⟨S384x1, .f32⟩
  | .hbm, ⟨21, _⟩ => ⟨S384x1, .f32⟩
  | .hbm, ⟨22, _⟩ => ⟨S_, .f32⟩
  | .hbm, ⟨23, _⟩ => ⟨S384x1, .f32⟩
  | .hbm, ⟨24, _⟩ => ⟨S384x1, .f32⟩
  | .hbm, ⟨25, _⟩ => ⟨S384x1, .f32⟩
  | .hbm, ⟨26, _⟩ => ⟨S384x8192, .f32⟩
  | .hbm, ⟨27, _⟩ => ⟨S384x8192, .f32⟩
  | .hbm, ⟨28, _⟩ => ⟨S1x8192, .f32⟩
  | .hbm, ⟨29, _⟩ => ⟨S384x8192, .f32⟩
  | .hbm, ⟨30, _⟩ => ⟨S384x8192, .f32⟩
  | .hbm, ⟨31, _⟩ => ⟨S384x8192, .bf16⟩
  | .hbm, ⟨32, _⟩ => ⟨S384x2048, .bf16⟩
  | .hbm, ⟨33, _⟩ => ⟨S384x4096, .bf16⟩
  | .hbm, ⟨34, _⟩ => ⟨S384x4096, .bf16⟩
  | .hbm, ⟨35, _⟩ => ⟨S1x32000, .f32⟩
  | .hbm, ⟨36, _⟩ => ⟨S1x2048, .f32⟩
  | .hbm, ⟨37, _⟩ => ⟨S1x1, .i32⟩
  | .hbm, ⟨38, _⟩ => ⟨S3x128, .f32⟩
  | .hbm, ⟨39, _⟩ => ⟨S3x128, .f32⟩
  | .hbm, ⟨40, _⟩ => ⟨S3x128x2048, .fp8e4m3⟩
  | .hbm, ⟨41, _⟩ => ⟨S3x128, .f32⟩
  | .local _ .vmem, ⟨0, _⟩ => ⟨S384x2048, .bf16⟩
  | .local _ .vmem, ⟨1, _⟩ => ⟨S384x4096, .bf16⟩
  | .local _ .vmem, ⟨2, _⟩ => ⟨S384x4096, .bf16⟩
  | .local _ .vmem, ⟨3, _⟩ => ⟨S4096x32000, .i8⟩
  | .local _ .vmem, ⟨4, _⟩ => ⟨S64x32000, .f32⟩
  | .local _ .vmem, ⟨5, _⟩ => ⟨S64x32000, .f32⟩
  | .local _ .vmem, ⟨6, _⟩ => ⟨S32000x2048, .fp8e4m3⟩
  | .local _ .vmem, ⟨7, _⟩ => ⟨S1x32000, .f32⟩
  | .local _ .vmem, ⟨8, _⟩ => ⟨S1x2048, .f32⟩
  | .local _ .vmem, ⟨9, _⟩ => ⟨S1x1, .i32⟩
  | .local _ .vmem, ⟨10, _⟩ => ⟨S3x128, .f32⟩
  | .local _ .vmem, ⟨11, _⟩ => ⟨S3x128, .f32⟩
  | .local _ .vmem, ⟨12, _⟩ => ⟨S3x128x2048, .fp8e4m3⟩
  | .local _ .vmem, ⟨13, _⟩ => ⟨S3x128, .f32⟩
  | _, _ => ⟨S3x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S384x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x32000 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32000x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32000 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x128x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Prep.lean ====
/-
  The preparation call: what its body leaves in each output window, its triple, the proof data of its pipeline and the body obligation.
-/
module

public import proofs.«01_k».proof.Proof.Gen.KernelIdeal.Regions
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- A buffer of core `c` when the preparation is entered. -/
abbrev V (c : Dev nD) (b : Ref sig .tc) : Buf (Elt F) ((c : Thread nD τ).loc b) := V1 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x8192 := Rect.unit (s := S128x8192) ![0, 0] S128x8192.size inb_S128x8192_S128x8192_0_0
abbrev r0_1 : Rect S1x8192 := Rect.unit (s := S1x8192) ![0, 0] S1x8192.size inb_S1x8192_S1x8192_0_0
abbrev r0_2 : Rect S128x8192 := Rect.unit (s := S128x8192) ![0, 0] S128x256.size inb_S128x8192_S128x256_0_0
abbrev r0_3 : Rect S128x8192 := Rect.unit (s := S128x8192) ![0, 256] S128x256.size inb_S128x8192_S128x256_0_256
abbrev r0_4 : Rect S128x8192 := Rect.unit (s := S128x8192) ![0, 512] S128x256.size inb_S128x8192_S128x256_0_512
abbrev r0_5 : Rect S128x8192 := Rect.unit (s := S128x8192) ![0, 768] S128x256.size inb_S128x8192_S128x256_0_768
abbrev r0_6 : Rect S128x8192 := Rect.unit (s := S128x8192) ![0, 1024] S128x256.size inb_S128x8192_S128x256_0_1024
abbrev r0_7 : Rect S128x8192 := Rect.unit (s := S128x8192) ![0, 1280] S128x256.size inb_S128x8192_S128x256_0_1280
abbrev r0_8 : Rect S128x8192 := Rect.unit (s := S128x8192) ![0, 1536] S128x256.size inb_S128x8192_S128x256_0_1536
abbrev r0_9 : Rect S128x8192 := Rect.unit (s := S128x8192) ![0, 1792] S128x256.size inb_S128x8192_S128x256_0_1792
abbrev r0_10 : Rect S128x8192 := Rect.unit (s := S128x8192) ![0, 2048] S128x256.size inb_S128x8192_S128x256_0_2048
abbrev r0_11 : Rect S128x8192 := Rect.unit (s := S128x8192) ![0, 2304] S128x256.size inb_S128x8192_S128x256_0_2304
abbrev r0_12 : Rect S128x8192 := Rect.unit (s := S128x8192) ![0, 2560] S128x256.size inb_S128x8192_S128x256_0_2560
abbrev r0_13 : Rect S128x8192 := Rect.unit (s := S128x8192) ![0, 2816] S128x256.size inb_S128x8192_S128x256_0_2816
abbrev r0_14 : Rect S128x8192 := Rect.unit (s := S128x8192) ![0, 3072] S128x256.size inb_S128x8192_S128x256_0_3072
abbrev r0_15 : Rect S128x8192 := Rect.unit (s := S128x8192) ![0, 3328] S128x256.size inb_S128x8192_S128x256_0_3328
abbrev r0_16 : Rect S128x8192 := Rect.unit (s := S128x8192) ![0, 3584] S128x256.size inb_S128x8192_S128x256_0_3584
abbrev r0_17 : Rect S128x8192 := Rect.unit (s := S128x8192) ![0, 3840] S128x256.size inb_S128x8192_S128x256_0_3840
abbrev r0_18 : Rect S128x8192 := Rect.unit (s := S128x8192) ![0, 4096] S128x256.size inb_S128x8192_S128x256_0_4096
abbrev r0_19 : Rect S128x8192 := Rect.unit (s := S128x8192) ![0, 4352] S128x256.size inb_S128x8192_S128x256_0_4352
abbrev r0_20 : Rect S128x8192 := Rect.unit (s := S128x8192) ![0, 4608] S128x256.size inb_S128x8192_S128x256_0_4608
abbrev r0_21 : Rect S128x8192 := Rect.unit (s := S128x8192) ![0, 4864] S128x256.size inb_S128x8192_S128x256_0_4864
abbrev r0_22 : Rect S128x8192 := Rect.unit (s := S128x8192) ![0, 5120] S128x256.size inb_S128x8192_S128x256_0_5120
abbrev r0_23 : Rect S128x8192 := Rect.unit (s := S128x8192) ![0, 5376] S128x256.size inb_S128x8192_S128x256_0_5376
abbrev r0_24 : Rect S128x8192 := Rect.unit (s := S128x8192) ![0, 5632] S128x256.size inb_S128x8192_S128x256_0_5632
abbrev r0_25 : Rect S128x8192 := Rect.unit (s := S128x8192) ![0, 5888] S128x256.size inb_S128x8192_S128x256_0_5888
abbrev r0_26 : Rect S128x8192 := Rect.unit (s := S128x8192) ![0, 6144] S128x256.size inb_S128x8192_S128x256_0_6144
abbrev r0_27 : Rect S128x8192 := Rect.unit (s := S128x8192) ![0, 6400] S128x256.size inb_S128x8192_S128x256_0_6400
abbrev r0_28 : Rect S128x8192 := Rect.unit (s := S128x8192) ![0, 6656] S128x256.size inb_S128x8192_S128x256_0_6656
abbrev r0_29 : Rect S128x8192 := Rect.unit (s := S128x8192) ![0, 6912] S128x256.size inb_S128x8192_S128x256_0_6912
abbrev r0_30 : Rect S128x8192 := Rect.unit (s := S128x8192) ![0, 7168] S128x256.size inb_S128x8192_S128x256_0_7168
abbrev r0_31 : Rect S128x8192 := Rect.unit (s := S128x8192) ![0, 7424] S128x256.size inb_S128x8192_S128x256_0_7424
abbrev r0_32 : Rect S128x8192 := Rect.unit (s := S128x8192) ![0, 7680] S128x256.size inb_S128x8192_S128x256_0_7680
abbrev r0_33 : Rect S128x8192 := Rect.unit (s := S128x8192) ![0, 7936] S128x256.size inb_S128x8192_S128x256_0_7936
abbrev r0_34 : Rect S128x2048 := Rect.unit (s := S128x2048) ![0, 0] S128x2048.size inb_S128x2048_S128x2048_0_0
abbrev r0_35 : Rect S1x2048 := Rect.unit (s := S1x2048) ![0, 0] S1x2048.size inb_S1x2048_S1x2048_0_0
abbrev r0_36 : Rect S128x128 := Rect.unit (s := S128x128) ![0, 0] S128x128.size inb_S128x128_S128x128_0_0

/-! ## What the body leaves in each output window's buffer -/

/-! ### Values of the body that the stores' payloads, spelt out, would write more than once

    Each is a vector the body binds (often a part call's result), stated over the input windows' blocks and
    numbered on from the skeleton's payload functions (`prepNormed` …, after `k0_pay43`), so that
    `out0_W` and the values after it name it instead of spelling it out (`unfold_out out0_W` opens a canon
    with them, `unfold_payloads` opens them with the payloads); the comment after each is the printed function's
    name for the value (a count appended where that name is bound again). -/

def prepNormed (x0 : Vec F S128x2048 .bf16) (x1 : Vec F S128x8192 .bf16) (x2 : Vec F S1x2048 .f32) (x3 : Vec F S1x8192 .f32) : FVec F S128x8192 .bf16 :=
  k0_pay2 (View.ld x1 r0_0) (View.ld x3 r0_1)
def prepPerm (x0 : Vec F S128x2048 .bf16) (x1 : Vec F S128x8192 .bf16) (x2 : Vec F S1x2048 .f32) (x3 : Vec F S1x8192 .f32) : FVec F S256x256 .bf16 :=
  k0_pay3 (F := F)

/-- Window 4's staging buffer after the body, from the input windows' blocks: its 32 stores as pieces, LAST
    FIRST (Lib/Pipeline/FrameBody.lean `View.canon`; the payloads are the skeleton's and the values stated above). -/
def out0_4 (x0 : Vec F S128x2048 .bf16) (x1 : Vec F S128x8192 .bf16) (x2 : Vec F S1x2048 .f32) (x3 : Vec F S1x8192 .f32) : Vec F S128x8192 .bf16 :=
  View.canon [⟨r0_33, k0_pay37 (prepNormed x0 x1 x2 x3) (prepPerm x0 x1 x2 x3)⟩,
    ⟨r0_32, k0_pay36 (prepNormed x0 x1 x2 x3) (prepPerm x0 x1 x2 x3)⟩,
    ⟨r0_31, k0_pay35 (prepNormed x0 x1 x2 x3) (prepPerm x0 x1 x2 x3)⟩,
    ⟨r0_30, k0_pay34 (prepNormed x0 x1 x2 x3) (prepPerm x0 x1 x2 x3)⟩,
    ⟨r0_29, k0_pay33 (prepNormed x0 x1 x2 x3) (prepPerm x0 x1 x2 x3)⟩,
    ⟨r0_28, k0_pay32 (prepNormed x0 x1 x2 x3) (prepPerm x0 x1 x2 x3)⟩,
    ⟨r0_27, k0_pay31 (prepNormed x0 x1 x2 x3) (prepPerm x0 x1 x2 x3)⟩,
    ⟨r0_26, k0_pay30 (k0_pay29 (prepNormed x0 x1 x2 x3) (prepPerm x0 x1 x2 x3))⟩,
    ⟨r0_25, k0_pay28 (prepNormed x0 x1 x2 x3) (prepPerm x0 x1 x2 x3)⟩,
    ⟨r0_24, k0_pay27 (prepNormed x0 x1 x2 x3) (prepPerm x0 x1 x2 x3)⟩,
    ⟨r0_23, k0_pay26 (prepNormed x0 x1 x2 x3) (prepPerm x0 x1 x2 x3)⟩,
    ⟨r0_22, k0_pay25 (prepNormed x0 x1 x2 x3) (prepPerm x0 x1 x2 x3)⟩,
    ⟨r0_21, k0_pay24 (prepNormed x0 x1 x2 x3) (prepPerm x0 x1 x2 x3)⟩,
    ⟨r0_20, k0_pay23 (prepNormed x0 x1 x2 x3) (prepPerm x0 x1 x2 x3)⟩,
    ⟨r0_19, k0_pay22 (prepNormed x0 x1 x2 x3) (prepPerm x0 x1 x2 x3)⟩,
    ⟨r0_18, k0_pay21 (prepNormed x0 x1 x2 x3) (prepPerm x0 x1 x2 x3)⟩,
    ⟨r0_17, k0_pay20 (prepNormed x0 x1 x2 x3) (prepPerm x0 x1 x2 x3)⟩,
    ⟨r0_16, k0_pay19 (prepNormed x0 x1 x2 x3) (prepPerm x0 x1 x2 x3)⟩,
    ⟨r0_15, k0_pay18 (prepNormed x0 x1 x2 x3) (prepPerm x0 x1 x2 x3)⟩,
    ⟨r0_14, k0_pay17 (prepNormed x0 x1 x2 x3) (prepPerm x0 x1 x2 x3)⟩,
    ⟨r0_13, k0_pay16 (prepNormed x0 x1 x2 x3) (prepPerm x0 x1 x2 x3)⟩,
    ⟨r0_12, k0_pay15 (prepNormed x0 x1 x2 x3) (prepPerm x0 x1 x2 x3)⟩,
    ⟨r0_11, k0_pay14 (k0_pay13 (prepNormed x0 x1 x2 x3) (prepPerm x0 x1 x2 x3))⟩,
    ⟨r0_10, k0_pay12 (prepNormed x0 x1 x2 x3) (prepPerm x0 x1 x2 x3)⟩,
    ⟨r0_9, k0_pay11 (prepNormed x0 x1 x2 x3) (prepPerm x0 x1 x2 x3)⟩,
    ⟨r0_8, k0_pay10 (prepNormed x0 x1 x2 x3) (prepPerm x0 x1 x2 x3)⟩,
    ⟨r0_7, k0_pay9 (prepNormed x0 x1 x2 x3) (prepPerm x0 x1 x2 x3)⟩,
    ⟨r0_6, k0_pay8 (prepNormed x0 x1 x2 x3) (prepPerm x0 x1 x2 x3)⟩,
    ⟨r0_5, k0_pay7 (prepNormed x0 x1 x2 x3) (prepPerm x0 x1 x2 x3)⟩,
    ⟨r0_4, k0_pay6 (prepNormed x0 x1 x2 x3) (prepPerm x0 x1 x2 x3)⟩,
    ⟨r0_3, k0_pay5 (View.ld x1 r0_0) (View.ld x3 r0_1)⟩,
    ⟨r0_2, k0_pay4 (View.ld x1 r0_0) (View.ld x3 r0_1)⟩]

/-- Its stores tile the buffer (checked by evaluation), so they cover it. -/
theorem cover0_4 (p0 : Vec F S128x256 .bf16) (p1 : Vec F S128x256 .bf16) (p2 : Vec F S128x256 .bf16) (p3 : Vec F S128x256 .bf16) (p4 : Vec F S128x256 .bf16) (p5 : Vec F S128x256 .bf16) (p6 : Vec F S128x256 .bf16) (p7 : Vec F S128x256 .bf16) (p8 : Vec F S128x256 .bf16) (p9 : Vec F S128x256 .bf16) (p10 : Vec F S128x256 .bf16) (p11 : Vec F S128x256 .bf16) (p12 : Vec F S128x256 .bf16) (p13 : Vec F S128x256 .bf16) (p14 : Vec F S128x256 .bf16) (p15 : Vec F S128x256 .bf16) (p16 : Vec F S128x256 .bf16) (p17 : Vec F S128x256 .bf16) (p18 : Vec F S128x256 .bf16) (p19 : Vec F S128x256 .bf16) (p20 : Vec F S128x256 .bf16) (p21 : Vec F S128x256 .bf16) (p22 : Vec F S128x256 .bf16) (p23 : Vec F S128x256 .bf16) (p24 : Vec F S128x256 .bf16) (p25 : Vec F S128x256 .bf16) (p26 : Vec F S128x256 .bf16) (p27 : Vec F S128x256 .bf16) (p28 : Vec F S128x256 .bf16) (p29 : Vec F S128x256 .bf16) (p30 : Vec F S128x256 .bf16) (p31 : Vec F S128x256 .bf16) (y : S128x8192.Idx) :
    ∃ pc ∈ ([⟨r0_33, p0⟩, ⟨r0_32, p1⟩, ⟨r0_31, p2⟩, ⟨r0_30, p3⟩, ⟨r0_29, p4⟩, ⟨r0_28, p5⟩, ⟨r0_27, p6⟩, ⟨r0_26, p7⟩, ⟨r0_25, p8⟩, ⟨r0_24, p9⟩, ⟨r0_23, p10⟩, ⟨r0_22, p11⟩, ⟨r0_21, p12⟩, ⟨r0_20, p13⟩, ⟨r0_19, p14⟩, ⟨r0_18, p15⟩, ⟨r0_17, p16⟩, ⟨r0_16, p17⟩, ⟨r0_15, p18⟩, ⟨r0_14, p19⟩, ⟨r0_13, p20⟩, ⟨r0_12, p21⟩, ⟨r0_11, p22⟩, ⟨r0_10, p23⟩, ⟨r0_9, p24⟩, ⟨r0_8, p25⟩, ⟨r0_7, p26⟩, ⟨r0_6, p27⟩, ⟨r0_5, p28⟩, ⟨r0_4, p29⟩, ⟨r0_3, p30⟩, ⟨r0_2, p31⟩] : List (View.Piece (Elt F) S128x8192 .bf16)), y ∈ pc.1.set :=
  View.cover_of_tiled [⟨r0_33, p0⟩, ⟨r0_32, p1⟩, ⟨r0_31, p2⟩, ⟨r0_30, p3⟩, ⟨r0_29, p4⟩, ⟨r0_28, p5⟩, ⟨r0_27, p6⟩, ⟨r0_26, p7⟩, ⟨r0_25, p8⟩, ⟨r0_24, p9⟩, ⟨r0_23, p10⟩, ⟨r0_22, p11⟩, ⟨r0_21, p12⟩, ⟨r0_20, p13⟩, ⟨r0_19, p14⟩, ⟨r0_18, p15⟩, ⟨r0_17, p16⟩, ⟨r0_16, p17⟩, ⟨r0_15, p18⟩, ⟨r0_14, p19⟩, ⟨r0_13, p20⟩, ⟨r0_12, p21⟩, ⟨r0_11, p22⟩, ⟨r0_10, p23⟩, ⟨r0_9, p24⟩, ⟨r0_8, p25⟩, ⟨r0_7, p26⟩, ⟨r0_6, p27⟩, ⟨r0_5, p28⟩, ⟨r0_4, p29⟩, ⟨r0_3, p30⟩, ⟨r0_2, p31⟩] S128x256.size (by rfl) y

/-- Window 5's staging buffer after the body, from the input windows' blocks: its 1 store as pieces, LAST
    FIRST (Lib/Pipeline/FrameBody.lean `View.canon`; the payloads are the skeleton's and the values stated above). -/
def out0_5 (x0 : Vec F S128x2048 .bf16) (x1 : Vec F S128x8192 .bf16) (x2 : Vec F S1x2048 .f32) (x3 : Vec F S1x8192 .f32) : Vec F S128x2048 .fp8e4m3 :=
  View.canon [⟨r0_34, k0_pay42 (View.ld x0 r0_34) (View.ld x2 r0_35)⟩]

/-- Its stores tile the buffer (checked by evaluation), so they cover it. -/
theorem cover0_5 (p0 : Vec F S128x2048 .fp8e4m3) (y : S128x2048.Idx) :
    ∃ pc ∈ ([⟨r0_34, p0⟩] : List (View.Piece (Elt F) S128x2048 .fp8e4m3)), y ∈ pc.1.set :=
  View.cover_of_tiled [⟨r0_34, p0⟩] S128x2048.size (by rfl) y

/-- Window 6's staging buffer after the body, from the input windows' blocks: its 1 store as pieces, LAST
    FIRST (Lib/Pipeline/FrameBody.lean `View.canon`; the payloads are the skeleton's and the values stated above). -/
def out0_6 (x0 : Vec F S128x2048 .bf16) (x1 : Vec F S128x8192 .bf16) (x2 : Vec F S1x2048 .f32) (x3 : Vec F S1x8192 .f32) : Vec F S128x128 .f32 :=
  View.canon [⟨r0_36, k0_pay43 (View.ld x0 r0_34) (View.ld x2 r0_35)⟩]

/-- Its stores tile the buffer (checked by evaluation), so they cover it. -/
theorem cover0_6 (p0 : Vec F S128x128 .f32) (y : S128x128.Idx) :
    ∃ pc ∈ ([⟨r0_36, p0⟩] : List (View.Piece (Elt F) S128x128 .f32)), y ∈ pc.1.set :=
  View.cover_of_tiled [⟨r0_36, p0⟩] S128x128.size (by rfl) y

/-- Window 7's staging buffer after the body, from the input windows' blocks: its 1 store as pieces, LAST
    FIRST (Lib/Pipeline/FrameBody.lean `View.canon`; the payloads are the skeleton's and the values stated above). -/
def out0_7 (x0 : Vec F S128x2048 .bf16) (x1 : Vec F S128x8192 .bf16) (x2 : Vec F S1x2048 .f32) (x3 : Vec F S1x8192 .f32) : Vec F S128x128 .f32 :=
  View.canon [⟨r0_36, k0_pay1 (k0_pay39 (View.ld x0 r0_34))⟩]

/-- Its stores tile the buffer (checked by evaluation), so they cover it. -/
theorem cover0_7 (p0 : Vec F S128x128 .f32) (y : S128x128.Idx) :
    ∃ pc ∈ ([⟨r0_36, p0⟩] : List (View.Piece (Elt F) S128x128 .f32)), y ∈ pc.1.set :=
  View.cover_of_tiled [⟨r0_36, p0⟩] S128x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x2048 .bf16) (harg1 : arg1.IsWhole) (arg2 : Memref sig .tc .vmem S128x8192 .bf16) (harg2 : arg2.IsWhole) (arg3 : Memref sig .tc .vmem S1x2048 .f32) (harg3 : arg3.IsWhole) (arg4 : Memref sig .tc .vmem S1x8192 .f32) (harg4 : arg4.IsWhole) (arg5 : Memref sig .tc .vmem S128x8192 .bf16) (harg5 : arg5.IsWhole) (arg6 : Memref sig .tc .vmem S128x2048 .fp8e4m3) (harg6 : arg6.IsWhole) (arg7 : Memref sig .tc .vmem S128x128 .f32) (harg7 : arg7.IsWhole) (arg8 : Memref sig .tc .vmem S128x128 .f32) (harg8 : arg8.IsWhole)
    (x0 : Vec F S128x2048 .bf16) (x1 : Vec F S128x8192 .bf16) (x2 : Vec F S1x2048 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3) ∗ owns (c : Thread nD τ) arg8 fullShare (out0_7 x0 x1 x2 x3)) -∗ K ⟨⟩))
      ⊢ wp frame (wpE (defs₀ (F := F)) Variants.none c none) E (cc0_prep i arg1 harg1 arg2 harg2 arg3 harg3 arg4 harg4 arg5 harg5 arg6 harg6 arg7 harg7 arg8 harg8) K := by
  simp only [cc0_prep_eq_skeleton]; unfold cc0_prep_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _ _ _ _ _ _ _ _ _ _ _ _ _ _ _ _ _ _ _ _ _ _ _ _ _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  iexists _; isplitr
  swap; · iexact H7
  ipureintro
  refine (View.read_writes_eq_canon _ _ _ (cover0_7 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def prepDat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
    | ⟨6, _⟩ => out0_6 (iblk m c 0 t) (iblk m c 1 t) (iblk m c 2 t) (iblk m c 3 t)
    | ⟨7, _⟩ => out0_7 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (prepDat m c).A w = V m c (Pipeline.arrRef spec0 w) := by
  dsimp only [prepDat]

/-- What the body leaves, window by window (the proof data's `match` reduced by `dsimp`, never `rfl`: Lib/Pipeline.lean `Dat`). -/
theorem after0_0 (c : Dev nD) (t : Fin cfg0.N) : (prepDat m c).after 0 t = iblk m c 0 t := by dsimp only [prepDat]
theorem after0_1 (c : Dev nD) (t : Fin cfg0.N) : (prepDat m c).after 1 t = iblk m c 1 t := by dsimp only [prepDat]
theorem after0_2 (c : Dev nD) (t : Fin cfg0.N) : (prepDat m c).after 2 t = iblk m c 2 t := by dsimp only [prepDat]
theorem after0_3 (c : Dev nD) (t : Fin cfg0.N) : (prepDat m c).after 3 t = iblk m c 3 t := by dsimp only [prepDat]
theorem after0_4 (c : Dev nD) (t : Fin cfg0.N) : (prepDat m c).after 4 t = out0_4 (iblk m c 0 t) (iblk m c 1 t) (iblk m c 2 t) (iblk m c 3 t) := by dsimp only [prepDat]
theorem after0_5 (c : Dev nD) (t : Fin cfg0.N) : (prepDat m c).after 5 t = out0_5 (iblk m c 0 t) (iblk m c 1 t) (iblk m c 2 t) (iblk m c 3 t) := by dsimp only [prepDat]
theorem after0_6 (c : Dev nD) (t : Fin cfg0.N) : (prepDat m c).after 6 t = out0_6 (iblk m c 0 t) (iblk m c 1 t) (iblk m c 2 t) (iblk m c 3 t) := by dsimp only [prepDat]
theorem after0_7 (c : Dev nD) (t : Fin cfg0.N) : (prepDat m c).after 7 t = out0_7 (iblk m c 0 t) (iblk m c 1 t) (iblk m c 2 t) (iblk m c 3 t) := by dsimp only [prepDat]

/-- Each input's current staging buffer holds its block at every point, fetched there or not (`beforeK_W_of`). -/
theorem before0_0 (c : Dev nD) (t : Fin cfg0.N) (d) : (prepDat m c).before 0 t d = iblk m c 0 t :=
  before0_0_of m (prepDat m c) (A_eq m c 0) (after0_0 m c) t d
theorem before0_1 (c : Dev nD) (t : Fin cfg0.N) (d) : (prepDat m c).before 1 t d = iblk m c 1 t :=
  before0_1_of m (prepDat m c) (A_eq m c 1) (after0_1 m c) t d
theorem before0_2 (c : Dev nD) (t : Fin cfg0.N) (d) : (prepDat m c).before 2 t d = iblk m c 2 t :=
  before0_2_of m (prepDat m c) (A_eq m c 2) (after0_2 m c) t d
theorem before0_3 (c : Dev nD) (t : Fin cfg0.N) (d) : (prepDat m c).before 3 t d = iblk m c 3 t :=
  before0_3_of m (prepDat m c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((prepDat m c).Φ t.castSucc ∗ (prepDat m c).owesAt () t.castSucc
    ∗ (∃ d, owns (c : Thread nD τ) (st0_0 t) fullShare ((prepDat m c).before 0 t d))
    ∗ (∃ d, owns (c : Thread nD τ) (st0_1 t) fullShare ((prepDat m c).before 1 t d))
    ∗ (∃ d, owns (c : Thread nD τ) (st0_2 t) fullShare ((prepDat m c).before 2 t d))
    ∗ (∃ d, owns (c : Thread nD τ) (st0_3 t) fullShare ((prepDat m c).before 3 t d))
    ∗ (∃ d, owns (c : Thread nD τ) (st0_4 t) fullShare ((prepDat m c).before 4 t d))
    ∗ (∃ d, owns (c : Thread nD τ) (st0_5 t) fullShare ((prepDat m c).before 5 t d))
    ∗ (∃ d, owns (c : Thread nD τ) (st0_6 t) fullShare ((prepDat m c).before 6 t d))
    ∗ (∃ d, owns (c : Thread nD τ) (st0_7 t) fullShare ((prepDat m c).before 7 t d)))

/-- and what it returns. -/
def bodyPost (c : Dev nD) (t : Fin cfg0.N) : sProp 𝕄 :=
  iprop((prepDat m c).Φ t.succ ∗ (prepDat m c).owesAt () t.succ
    ∗ owns (c : Thread nD τ) (st0_0 t) fullShare ((prepDat m c).after 0 t)
    ∗ owns (c : Thread nD τ) (st0_1 t) fullShare ((prepDat m c).after 1 t)
    ∗ owns (c : Thread nD τ) (st0_2 t) fullShare ((prepDat m c).after 2 t)
    ∗ owns (c : Thread nD τ) (st0_3 t) fullShare ((prepDat m c).after 3 t)
    ∗ owns (c : Thread nD τ) (st0_4 t) fullShare ((prepDat m c).after 4 t)
    ∗ owns (c : Thread nD τ) (st0_5 t) fullShare ((prepDat m c).after 5 t)
    ∗ owns (c : Thread nD τ) (st0_6 t) fullShare ((prepDat m c).after 6 t)
    ∗ owns (c : Thread nD τ) (st0_7 t) fullShare ((prepDat m c).after 7 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (prepDat m c).Φ t.succ = (prepDat m c).Φ t.castSucc from rfl,
    show (prepDat m c).owesAt () t.succ = (prepDat m c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (prepDat (F := F) m c) (defs₀ (F := F)) Variants.none () Set.univ := fun t => by
  rw [bigSep_W0, bigSep_W0, defs₀_row]
  exact triple_restated (sound_body m c t) rfl .rfl fun _ => .rfl

end Cert.KernelIdeal.Hand

end

end
-- ==== Proof.BodyDefs.lean ====
module

public import proofs.«01_k».proof.Proof.Gen.KernelIdeal.Regions
public import proofs.«01_k».proof.Proof.Gen.KernelIdeal.Skeleton
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow
public import Idealize.ShloMosaic.Lib.Writes

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-- Sixty-four rows of the packed teacher block, from row `64 k`. -/
def rows64 (x5 : Vec F S4096x512 .i8) (k : ℕ) (hk : k < 64) : Vec F S64x512 .i8 := fun y =>
  x5 (fun a => match a with
    | 0 => ⟨64 * k + (y 0).val, by have h : (y 0).val < 64 := (y 0).isLt; show _ < 4096; omega⟩
    | 1 => ⟨(y 1).val, (y 1).isLt⟩)

/-- Row `k` of a block of scales or zero points. -/
def row1 (x6 : Vec F S64x512 .f32) (k : ℕ) (hk : k < 64) : Vec F S1x512 .f32 := fun y =>
  x6 (fun a => match a with
    | 0 => ⟨k, hk⟩
    | 1 => ⟨(y 1).val, (y 1).isLt⟩)

/-- The dequantised teacher weights of one vocabulary block: 256 rows for each 128 packed rows, first the low nibbles and then the high ones. -/
def wScr (x5 : Vec F S4096x512 .i8) (x6 x7 : Vec F S64x512 .f32) : Vec F S8192x512 .bf16 := fun y =>
  have hy : (y 0).val < 8192 := (y 0).isLt
  have hk : 2 * ((y 0).val / 256) + (y 0).val % 128 / 64 < 64 := by omega
  let j : S64x512.Idx := fun a => match a with
    | 0 => ⟨(y 0).val % 64, Nat.mod_lt _ (by decide)⟩
    | 1 => ⟨(y 1).val, (y 1).isLt⟩
  if (y 0).val % 256 < 128
    then k1_pay10 (rows64 x5 _ hk) (row1 x6 _ hk) (row1 x7 _ hk) j
    else k1_pay11 (rows64 x5 _ hk) (row1 x6 _ hk) (row1 x7 _ hk) j

/-- The one index of a one-word array. -/
def idx0 : S1.Idx := fun a => match a with | 0 => (0 : Fin 1)

/-- The teacher's scaled and masked logits of one vocabulary block. -/
def zT (arg0 : BitVec 32) (x1 : Vec F S1 .i32) (x2 : Vec F S384x8192 .bf16) (x5 : Vec F S4096x512 .i8) (x6 x7 : Vec F S64x512 .f32) : Vec F S384x512 .f32 :=
  k1_pay307 (k1_pay306 (F := F) arg0 (x1 idx0)) x2 (wScr x5 x6 x7)

/-- Column 0 of the quantiser's scales. -/
def col0 (x4 : Vec F S384x128 .f32) : Vec F S384x1 .f32 := fun y =>
  x4 (fun a => match a with
    | 0 => ⟨(y 0).val, (y 0).isLt⟩
    | 1 => (0 : Fin 128))

/-- The student's scaled and masked logits of one vocabulary block. -/
def zS (arg0 : BitVec 32) (x1 : Vec F S1 .i32) (x3 : Vec F S384x2048 .fp8e4m3) (x4 : Vec F S384x128 .f32) (x8 : Vec F S512x2048 .fp8e4m3) (x9 : Vec F S1x512 .f32) : Vec F S384x512 .f32 :=
  k1_pay308 (k1_pay306 (F := F) arg0 (x1 idx0)) x3 x8 (col0 x4) x9

/-- The running maximum of each lane after one more block of logits. -/
def newMax (z : Vec F S384x512 .f32) (m : Vec F S384x128 .f32) : Vec F S384x128 .f32 := k1_pay310 (k1_pay312 z m)

/-- The running sum of each lane after one more block of logits. -/
def newSum (z : Vec F S384x512 .f32) (m l : Vec F S384x128 .f32) : Vec F S384x128 .f32 := k1_pay311 z m (k1_pay312 z m) l

/-- The log-sum-exp over a row's lanes from their maxima and sums. -/
def newLse (m l : Vec F S384x128 .f32) : Vec F S384x128 .f32 := k1_pay2 m l

/-- A load of a whole buffer that reads `x` gives `x`. -/
theorem readAt_all {s : Shape} {e : EltTy} {sp : Space} {a : Memref sig .tc sp s e} (h : a.IsWhole) (x : Vec F s e) {off : Fin s.rank → ℕ} (inb : ∀ k, off k + s.size k ≤ s.size k) :
    View.readAt (Elt F) a.view (Rect.unit off s.size inb).toLoadRect (h.unread x) = x :=
  (View.readAt_full a.view _ inb).trans (h.read_unread x)

/-- Reading back the dequantised weights after the stores that filled them, given that each store agrees with `wScr`. -/
theorem readCov_wScr (a : Memref sig .tc .vmem S8192x512 .bf16) (x5 : Vec F S4096x512 .i8) (x6 x7 : Vec F S64x512 .f32) (L : List (View.Piece (Elt F) S8192x512 .bf16))
    (inb : ∀ k, (![0, 0] : Fin 2 → ℕ) k + S8192x512.size k ≤ S8192x512.size k)
    (hL : ∀ p ∈ L, ∀ x : p.1.shape.Idx, p.2 x = wScr x5 x6 x7 (p.1.emb x)) (hc : ∀ y, ∃ p ∈ L, y ∈ p.1.set) :
    a.view.readCov L (Rect.unit ![0, 0] S8192x512.size inb).toLoadRect = wScr x5 x6 x7 := by
  funext y
  refine (View.read_writes_apply_of_pieces (v := a.view) (f := a.view.junk) (wScr x5 x6 x7) L hL _ (hc _)).trans ?_
  exact congrArg _ (Rect.emb_unit_full inb y)

/-- A store of low nibbles, chunk `k` of 64 packed rows, agrees with `wScr`. -/
theorem piece_lo {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (k r o : ℕ) (hk : k < 64) (hr : r = 64 * k) (ho : o = k / 2 * 256 + k % 2 * 64)
    (i5 : ∀ a, (![r, 0] : Fin 2 → ℕ) a + S64x512.size a ≤ S4096x512.size a) (i6 : ∀ a, (![k, 0] : Fin 2 → ℕ) a + S1x512.size a ≤ S64x512.size a) (i7 : ∀ a, (![k, 0] : Fin 2 → ℕ) a + S1x512.size a ≤ S64x512.size a)
    (io : ∀ a, (![o, 0] : Fin 2 → ℕ) a + S64x512.size a ≤ S8192x512.size a) (x : S64x512.Idx) :
    k1_pay10 (View.readAt (Elt F) arg5.view (Rect.unit (s := S4096x512) ![r, 0] S64x512.size i5).toLoadRect (h5.unread x5))
        (View.readAt (Elt F) arg6.view (Rect.unit (s := S64x512) ![k, 0] S1x512.size i6).toLoadRect (h6.unread x6))
        (View.readAt (Elt F) arg7.view (Rect.unit (s := S64x512) ![k, 0] S1x512.size i7).toLoadRect (h7.unread x7)) x
      = wScr x5 x6 x7 ((Rect.unit (s := S8192x512) ![o, 0] S64x512.size io).emb x) := by
  subst hr
  have hx : (x 0).val < 64 := (x 0).isLt
  have e0 : ((Rect.unit (s := S8192x512) ![o, 0] S64x512.size io).emb x 0).val = o + (x 0).val := by
    show o + 1 * (x 0).val = _; omega
  have e1 : ((Rect.unit (s := S8192x512) ![o, 0] S64x512.size io).emb x 1).val = (x 1).val := by
    show 0 + 1 * (x 1).val = _; omega
  have r5 : View.readAt (Elt F) arg5.view (Rect.unit (s := S4096x512) ![64 * k, 0] S64x512.size i5).toLoadRect (h5.unread x5) = rows64 x5 k hk := by
    funext y
    rw [h5.readAt_unread]
    refine congrArg x5 (funext fun a => Fin.ext ?_)
    match a with
    | 0 => show 64 * k + 1 * (y 0).val = 64 * k + (y 0).val; omega
    | 1 => show 0 + 1 * (y 1).val = (y 1).val; omega
  have r1 : ∀ {a : Memref sig .tc .vmem S64x512 .f32} (h : a.IsWhole) (z : Vec F S64x512 .f32) (inb : ∀ a, (![k, 0] : Fin 2 → ℕ) a + S1x512.size a ≤ S64x512.size a),
      View.readAt (Elt F) a.view (Rect.unit (s := S64x512) ![k, 0] S1x512.size inb).toLoadRect (h.unread z) = row1 z k hk := by
    intro a h z inb
    funext y
    rw [h.readAt_unread]
    refine congrArg z (funext fun a => Fin.ext ?_)
    match a with
    | 0 => have hy : (y 0).val < 1 := (y 0).isLt
           show k + 1 * (y 0).val = k; omega
    | 1 => show 0 + 1 * (y 1).val = (y 1).val; omega
  rw [r5, r1 h6, r1 h7]
  unfold wScr
  have hlt : ((Rect.unit (s := S8192x512) ![o, 0] S64x512.size io).emb x 0).val % 256 < 128 := by rw [e0]; omega
  rw [if_pos hlt]
  have hk' : 2 * (((Rect.unit (s := S8192x512) ![o, 0] S64x512.size io).emb x 0).val / 256) + ((Rect.unit (s := S8192x512) ![o, 0] S64x512.size io).emb x 0).val % 128 / 64 = k := by rw [e0]; omega
  have hj : x = (fun a => match a with
    | 0 => ⟨((Rect.unit (s := S8192x512) ![o, 0] S64x512.size io).emb x 0).val % 64, Nat.mod_lt _ (by decide)⟩
    | 1 => ⟨((Rect.unit (s := S8192x512) ![o, 0] S64x512.size io).emb x 1).val, ((Rect.unit (s := S8192x512) ![o, 0] S64x512.size io).emb x 1).isLt⟩ : S64x512.Idx) := by
    funext a
    apply Fin.ext
    match a with
    | 0 => show (x 0).val = ((Rect.unit (s := S8192x512) ![o, 0] S64x512.size io).emb x 0).val % 64
           rw [e0]; omega
    | 1 => exact e1.symm
  have hcong : ∀ k' (h' : k' < 64), k' = k → k1_pay10 (rows64 x5 k hk) (row1 x6 k hk) (row1 x7 k hk) x = k1_pay10 (rows64 x5 k' h') (row1 x6 k' h') (row1 x7 k' h') x := by
    rintro _ _ rfl; rfl
  exact (hcong _ _ hk').trans (congrArg _ hj)

/-- A store of high nibbles, chunk `k` of 64 packed rows, agrees with `wScr`. -/
theorem piece_hi {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (k r o : ℕ) (hk : k < 64) (hr : r = 64 * k) (ho : o = k / 2 * 256 + 128 + k % 2 * 64)
    (i5 : ∀ a, (![r, 0] : Fin 2 → ℕ) a + S64x512.size a ≤ S4096x512.size a) (i6 : ∀ a, (![k, 0] : Fin 2 → ℕ) a + S1x512.size a ≤ S64x512.size a) (i7 : ∀ a, (![k, 0] : Fin 2 → ℕ) a + S1x512.size a ≤ S64x512.size a)
    (io : ∀ a, (![o, 0] : Fin 2 → ℕ) a + S64x512.size a ≤ S8192x512.size a) (x : S64x512.Idx) :
    k1_pay11 (View.readAt (Elt F) arg5.view (Rect.unit (s := S4096x512) ![r, 0] S64x512.size i5).toLoadRect (h5.unread x5))
        (View.readAt (Elt F) arg6.view (Rect.unit (s := S64x512) ![k, 0] S1x512.size i6).toLoadRect (h6.unread x6))
        (View.readAt (Elt F) arg7.view (Rect.unit (s := S64x512) ![k, 0] S1x512.size i7).toLoadRect (h7.unread x7)) x
      = wScr x5 x6 x7 ((Rect.unit (s := S8192x512) ![o, 0] S64x512.size io).emb x) := by
  subst hr
  have hx : (x 0).val < 64 := (x 0).isLt
  have e0 : ((Rect.unit (s := S8192x512) ![o, 0] S64x512.size io).emb x 0).val = o + (x 0).val := by
    show o + 1 * (x 0).val = _; omega
  have e1 : ((Rect.unit (s := S8192x512) ![o, 0] S64x512.size io).emb x 1).val = (x 1).val := by
    show 0 + 1 * (x 1).val = _; omega
  have r5 : View.readAt (Elt F) arg5.view (Rect.unit (s := S4096x512) ![64 * k, 0] S64x512.size i5).toLoadRect (h5.unread x5) = rows64 x5 k hk := by
    funext y
    rw [h5.readAt_unread]
    refine congrArg x5 (funext fun a => Fin.ext ?_)
    match a with
    | 0 => show 64 * k + 1 * (y 0).val = 64 * k + (y 0).val; omega
    | 1 => show 0 + 1 * (y 1).val = (y 1).val; omega
  have r1 : ∀ {a : Memref sig .tc .vmem S64x512 .f32} (h : a.IsWhole) (z : Vec F S64x512 .f32) (inb : ∀ a, (![k, 0] : Fin 2 → ℕ) a + S1x512.size a ≤ S64x512.size a),
      View.readAt (Elt F) a.view (Rect.unit (s := S64x512) ![k, 0] S1x512.size inb).toLoadRect (h.unread z) = row1 z k hk := by
    intro a h z inb
    funext y
    rw [h.readAt_unread]
    refine congrArg z (funext fun a => Fin.ext ?_)
    match a with
    | 0 => have hy : (y 0).val < 1 := (y 0).isLt
           show k + 1 * (y 0).val = k; omega
    | 1 => show 0 + 1 * (y 1).val = (y 1).val; omega
  rw [r5, r1 h6, r1 h7]
  unfold wScr
  have hlt : ¬ ((Rect.unit (s := S8192x512) ![o, 0] S64x512.size io).emb x 0).val % 256 < 128 := by rw [e0]; omega
  rw [if_neg hlt]
  have hk' : 2 * (((Rect.unit (s := S8192x512) ![o, 0] S64x512.size io).emb x 0).val / 256) + ((Rect.unit (s := S8192x512) ![o, 0] S64x512.size io).emb x 0).val % 128 / 64 = k := by rw [e0]; omega
  have hj : x = (fun a => match a with
    | 0 => ⟨((Rect.unit (s := S8192x512) ![o, 0] S64x512.size io).emb x 0).val % 64, Nat.mod_lt _ (by decide)⟩
    | 1 => ⟨((Rect.unit (s := S8192x512) ![o, 0] S64x512.size io).emb x 1).val, ((Rect.unit (s := S8192x512) ![o, 0] S64x512.size io).emb x 1).isLt⟩ : S64x512.Idx) := by
    funext a
    apply Fin.ext
    match a with
    | 0 => show (x 0).val = ((Rect.unit (s := S8192x512) ![o, 0] S64x512.size io).emb x 0).val % 64
           rw [e0]; omega
    | 1 => exact e1.symm
  have hcong : ∀ k' (h' : k' < 64), k' = k → k1_pay11 (rows64 x5 k hk) (row1 x6 k hk) (row1 x7 k hk) x = k1_pay11 (rows64 x5 k' h') (row1 x6 k' h') (row1 x7 k' h') x := by
    rintro _ _ rfl; rfl
  exact (hcong _ _ hk').trans (congrArg _ hj)

theorem chunk_inb (k : ℕ) (hk : k < 64) : ∀ a, (![64 * k, 0] : Fin 2 → ℕ) a + S64x512.size a ≤ S4096x512.size a := by
  intro a
  match a with
  | 0 => show 64 * k + 64 ≤ 4096; omega
  | 1 => show 0 + 512 ≤ 512; omega

theorem chunk_inb1 (k : ℕ) (hk : k < 64) : ∀ a, (![k, 0] : Fin 2 → ℕ) a + S1x512.size a ≤ S64x512.size a := by
  intro a
  match a with
  | 0 => show k + 1 ≤ 64; omega
  | 1 => show 0 + 512 ≤ 512; omega

theorem chunk_inb2 (o : ℕ) (ho : o + 64 ≤ 8192) : ∀ a, (![o, 0] : Fin 2 → ℕ) a + S64x512.size a ≤ S8192x512.size a := by
  intro a
  match a with
  | 0 => show o + 64 ≤ 8192; omega
  | 1 => show 0 + 512 ≤ 512; omega

/-- A load of column 0 of the quantiser's scales. -/
theorem readAt_col0 {a : Memref sig .tc .vmem S384x128 .f32} (h : a.IsWhole) (x : Vec F S384x128 .f32) (inb : ∀ k, (![0, 0] : Fin 2 → ℕ) k + S384x1.size k ≤ S384x128.size k) :
    View.readAt (Elt F) a.view (Rect.unit (s := S384x128) ![0, 0] S384x1.size inb).toLoadRect (h.unread x) = col0 x := by
  funext y
  rw [h.readAt_unread]
  refine congrArg x (funext fun k => Fin.ext ?_)
  match k with
  | 0 => show 0 + 1 * (y 0).val = (y 0).val; omega
  | 1 => have hy : (y 1).val < 1 := (y 1).isLt
         show 0 + 1 * (y 1).val = 0; omega

/-- Equal block logits, maxima and sums give equal new sums. -/
theorem newSum_congr {z z' : Vec F S384x512 .f32} {m m' l l' : Vec F S384x128 .f32} (hz : z = z') (hm : m = m') (hl : l = l') :
    newSum z m l = newSum z' m' l' := by rw [hz, hm, hl]

/-- There is one index. -/
theorem eq_idx0 (i : S1.Idx) : i = idx0 := funext fun a => match a with
  | 0 => Subsingleton.elim (α := Fin 1) _ _

/-- The same, the chunk computed from the row `o` of the store. -/
theorem piece_lo_at {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (o : ℕ)
    (ho : o % 64 = 0 ∧ o + 64 ≤ 8192 ∧ o % 256 < 128) (x : S64x512.Idx) (w : S64x512.Idx → Elt F .bf16)
    (hw : w = k1_pay10 (View.readAt (Elt F) arg5.view (Rect.unit (s := S4096x512) ![64 * (2 * (o / 256) + o % 128 / 64), 0] S64x512.size (chunk_inb _ (by omega))).toLoadRect (h5.unread x5))
        (View.readAt (Elt F) arg6.view (Rect.unit (s := S64x512) ![2 * (o / 256) + o % 128 / 64, 0] S1x512.size (chunk_inb1 _ (by omega))).toLoadRect (h6.unread x6))
        (View.readAt (Elt F) arg7.view (Rect.unit (s := S64x512) ![2 * (o / 256) + o % 128 / 64, 0] S1x512.size (chunk_inb1 _ (by omega))).toLoadRect (h7.unread x7))) :
    w x = wScr x5 x6 x7 ((Rect.unit (s := S8192x512) ![o, 0] S64x512.size (chunk_inb2 o (by omega))).emb x) := by
  subst hw
  exact piece_lo h5 h6 h7 x5 x6 x7 _ _ o (by omega) rfl (by omega) _ _ _ _ x

/-- The same, the chunk computed from the row `o` of the store. -/
theorem piece_hi_at {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (o : ℕ)
    (ho : o % 64 = 0 ∧ o + 64 ≤ 8192 ∧ 128 ≤ o % 256) (x : S64x512.Idx) (w : S64x512.Idx → Elt F .bf16)
    (hw : w = k1_pay11 (View.readAt (Elt F) arg5.view (Rect.unit (s := S4096x512) ![64 * (2 * (o / 256) + o % 128 / 64), 0] S64x512.size (chunk_inb _ (by omega))).toLoadRect (h5.unread x5))
        (View.readAt (Elt F) arg6.view (Rect.unit (s := S64x512) ![2 * (o / 256) + o % 128 / 64, 0] S1x512.size (chunk_inb1 _ (by omega))).toLoadRect (h6.unread x6))
        (View.readAt (Elt F) arg7.view (Rect.unit (s := S64x512) ![2 * (o / 256) + o % 128 / 64, 0] S1x512.size (chunk_inb1 _ (by omega))).toLoadRect (h7.unread x7))) :
    w x = wScr x5 x6 x7 ((Rect.unit (s := S8192x512) ![o, 0] S64x512.size (chunk_inb2 o (by omega))).emb x) := by
  subst hw
  exact piece_hi h5 h6 h7 x5 x6 x7 _ _ o (by omega) rfl (by omega) _ _ _ _ x

end Cert.KernelIdeal.Hand

end
-- ==== Proof.BodyRunA.lean ====
module

public import proofs.«01_k».proof.Proof.BodyDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- One run of the logits body, at the first grid point, before the last: what each output block and each scratch array holds afterwards. -/
theorem runA (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : (Scalar.cmpi .ne (Scalar.extui (Scalar.cmpi .eq arg0 0#32)) 0#32) = 1#1) (hc1 : ¬ k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare x12 ∗ owns (c : Thread nD τ) arg13 fullShare x13 ∗ (∃ d, owns (c : Thread nD τ) arg14 fullShare d) ∗ owns (c : Thread nD τ) arg15 fullShare (newMax (zT arg0 x1 x2 x5 x6 x7) k1_pay4) ∗ owns (c : Thread nD τ) arg16 fullShare (newSum (zT arg0 x1 x2 x5 x6 x7) k1_pay4 k1_pay6) ∗ owns (c : Thread nD τ) arg17 fullShare (newMax (zS arg0 x1 x3 x4 x8 x9) k1_pay5) ∗ owns (c : Thread nD τ) arg18 fullShare (newSum (zS arg0 x1 x3 x4 x8 x9) k1_pay5 k1_pay7)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hM : runA.sl.v1737 c arg0 arg1 harg1 x1 = k1_pay306 (F := F) arg0 (x1 idx0) := by
    have h0 : runA.sl.r_22 c arg1 harg1 x1 = x1 idx0 :=
      (congrFun (harg1.read_unread x1) _).trans (congrArg x1 (eq_idx0 _))
    rw [← h0]; rfl
  have hW : runA.sl.v1740 c arg5 harg5 arg6 harg6 arg7 harg7 arg14 x5 x6 x7 = wScr x5 x6 x7 := by
    unfold runA.sl.v1740
    refine readCov_wScr _ _ _ _ _ _ ?_ (View.cover_of_tiled _ ![64, 512] (by rfl))
    unfold runA.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : k1_pay307 (runA.sl.v1737 c arg0 arg1 harg1 x1) (View.readAt (Elt F) arg2.view (Rect.unit ![0, 0] S384x8192.size inb_S384x8192_S384x8192_0_0).toLoadRect (harg2.unread x2))
      (runA.sl.v1740 c arg5 harg5 arg6 harg6 arg7 harg7 arg14 x5 x6 x7) = zT arg0 x1 x2 x5 x6 x7 := by
    rw [hM, hW, readAt_all harg2]; rfl
  have hS : k1_pay308 (runA.sl.v1737 c arg0 arg1 harg1 x1)
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    rw [hM, readAt_all harg3, readAt_all harg8, readAt_all harg9, readAt_col0]; rfl
  isplitl [H10]
  · iexists _; isplitr
    swap; · iexact H10
    ipureintro
    refine (View.read_writes_full _ _ _ _ _).trans ?_
    exact hT
  isplitl [H11]
  · iexists _; isplitr
    swap; · iexact H11
    ipureintro
    refine (View.read_writes_full _ _ _ _ _).trans ?_
    exact hS
  isplitl [H12]
  · iexists _; isplitr
    swap; · iexact H12
    ipureintro
    exact harg12.read_unread _
  isplitl [H13]
  · iexists _; isplitr
    swap; · iexact H13
    ipureintro
    exact harg13.read_unread _
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 hT (View.readCov_full _ _ _ _ _)))
  isplitl [H16]
  · iexists _; isplitr
    swap; · iexact H16
    ipureintro
    refine (View.read_writes_full _ _ _ _ _).trans ?_
    exact (newSum_congr hT (View.readCov_full _ _ _ _ _) (View.readCov_full _ _ _ _ _))
  isplitl [H17]
  · iexists _; isplitr
    swap; · iexact H17
    ipureintro
    refine (View.read_writes_full _ _ _ _ _).trans ?_
    exact (congrArg k1_pay310 (congrArg₂ k1_pay312 hS (View.readCov_full _ _ _ _ _)))
  iexists _; isplitr
  swap; · iexact H18
  ipureintro
  refine (View.read_writes_full _ _ _ _ _).trans ?_
  exact (newSum_congr hS (View.readCov_full _ _ _ _ _) (View.readCov_full _ _ _ _ _))

end Cert.KernelIdeal.Hand

end
-- ==== Proof.BodyRunB.lean ====
module

public import proofs.«01_k».proof.Proof.BodyDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- One run of the logits body, past the first grid point, before the last: what each output block and each scratch array holds afterwards. -/
theorem runB (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : ¬ (Scalar.cmpi .ne (Scalar.extui (Scalar.cmpi .eq arg0 0#32)) 0#32) = 1#1) (hc1 : ¬ k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare x12 ∗ owns (c : Thread nD τ) arg13 fullShare x13 ∗ (∃ d, owns (c : Thread nD τ) arg14 fullShare d) ∗ owns (c : Thread nD τ) arg15 fullShare (newMax (zT arg0 x1 x2 x5 x6 x7) x15) ∗ owns (c : Thread nD τ) arg16 fullShare (newSum (zT arg0 x1 x2 x5 x6 x7) x15 x16) ∗ owns (c : Thread nD τ) arg17 fullShare (newMax (zS arg0 x1 x3 x4 x8 x9) x17) ∗ owns (c : Thread nD τ) arg18 fullShare (newSum (zS arg0 x1 x3 x4 x8 x9) x17 x18)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hM : runB.sl.v1737 c arg0 arg1 harg1 x1 = k1_pay306 (F := F) arg0 (x1 idx0) := by
    have h0 : runB.sl.r_22 c arg1 harg1 x1 = x1 idx0 :=
      (congrFun (harg1.read_unread x1) _).trans (congrArg x1 (eq_idx0 _))
    rw [← h0]; rfl
  have hW : runB.sl.v1740 c arg5 harg5 arg6 harg6 arg7 harg7 arg14 x5 x6 x7 = wScr x5 x6 x7 := by
    unfold runB.sl.v1740
    refine readCov_wScr _ _ _ _ _ _ ?_ (View.cover_of_tiled _ ![64, 512] (by rfl))
    unfold runB.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : k1_pay307 (runB.sl.v1737 c arg0 arg1 harg1 x1) (View.readAt (Elt F) arg2.view (Rect.unit ![0, 0] S384x8192.size inb_S384x8192_S384x8192_0_0).toLoadRect (harg2.unread x2))
      (runB.sl.v1740 c arg5 harg5 arg6 harg6 arg7 harg7 arg14 x5 x6 x7) = zT arg0 x1 x2 x5 x6 x7 := by
    rw [hM, hW, readAt_all harg2]; rfl
  have hS : k1_pay308 (runB.sl.v1737 c arg0 arg1 harg1 x1)
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    rw [hM, readAt_all harg3, readAt_all harg8, readAt_all harg9, readAt_col0]; rfl
  isplitl [H10]
  · iexists _; isplitr
    swap; · iexact H10
    ipureintro
    refine (View.read_writes_full _ _ _ _ _).trans ?_
    exact hT
  isplitl [H11]
  · iexists _; isplitr
    swap; · iexact H11
    ipureintro
    refine (View.read_writes_full _ _ _ _ _).trans ?_
    exact hS
  isplitl [H12]
  · iexists _; isplitr
    swap; · iexact H12
    ipureintro
    exact harg12.read_unread _
  isplitl [H13]
  · iexists _; isplitr
    swap; · iexact H13
    ipureintro
    exact harg13.read_unread _
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 hT (readAt_all harg15 x15 _)))
  isplitl [H16]
  · iexists _; isplitr
    swap; · iexact H16
    ipureintro
    refine (View.read_writes_full _ _ _ _ _).trans ?_
    exact (newSum_congr hT (readAt_all harg15 x15 _) (readAt_all harg16 x16 _))
  isplitl [H17]
  · iexists _; isplitr
    swap; · iexact H17
    ipureintro
    refine (View.read_writes_full _ _ _ _ _).trans ?_
    exact (congrArg k1_pay310 (congrArg₂ k1_pay312 hS (readAt_all harg17 x17 _)))
  iexists _; isplitr
  swap; · iexact H18
  ipureintro
  refine (View.read_writes_full _ _ _ _ _).trans ?_
  exact (newSum_congr hS (readAt_all harg17 x17 _) (readAt_all harg18 x18 _))

end Cert.KernelIdeal.Hand

end
-- ==== Proof.BodyRunC.lean ====
module

public import proofs.«01_k».proof.Proof.BodyDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- One run of the logits body, past the first grid point and at the last: what each output block and each scratch array holds afterwards. -/
theorem runC (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : ¬ (Scalar.cmpi .ne (Scalar.extui (Scalar.cmpi .eq arg0 0#32)) 0#32) = 1#1) (hc1 : k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare (newLse (newMax (zT arg0 x1 x2 x5 x6 x7) x15) (newSum (zT arg0 x1 x2 x5 x6 x7) x15 x16)) ∗ owns (c : Thread nD τ) arg13 fullShare (newLse (newMax (zS arg0 x1 x3 x4 x8 x9) x17) (newSum (zS arg0 x1 x3 x4 x8 x9) x17 x18)) ∗ (∃ d, owns (c : Thread nD τ) arg14 fullShare d) ∗ owns (c : Thread nD τ) arg15 fullShare (newMax (zT arg0 x1 x2 x5 x6 x7) x15) ∗ owns (c : Thread nD τ) arg16 fullShare (newSum (zT arg0 x1 x2 x5 x6 x7) x15 x16) ∗ owns (c : Thread nD τ) arg17 fullShare (newMax (zS arg0 x1 x3 x4 x8 x9) x17) ∗ owns (c : Thread nD τ) arg18 fullShare (newSum (zS arg0 x1 x3 x4 x8 x9) x17 x18)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hM : runC.sl.v1737 c arg0 arg1 harg1 x1 = k1_pay306 (F := F) arg0 (x1 idx0) := by
    have h0 : runC.sl.r_22 c arg1 harg1 x1 = x1 idx0 :=
      (congrFun (harg1.read_unread x1) _).trans (congrArg x1 (eq_idx0 _))
    rw [← h0]; rfl
  have hW : runC.sl.v1740 c arg5 harg5 arg6 harg6 arg7 harg7 arg14 x5 x6 x7 = wScr x5 x6 x7 := by
    unfold runC.sl.v1740
    refine readCov_wScr _ _ _ _ _ _ ?_ (View.cover_of_tiled _ ![64, 512] (by rfl))
    unfold runC.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : k1_pay307 (runC.sl.v1737 c arg0 arg1 harg1 x1) (View.readAt (Elt F) arg2.view (Rect.unit ![0, 0] S384x8192.size inb_S384x8192_S384x8192_0_0).toLoadRect (harg2.unread x2))
      (runC.sl.v1740 c arg5 harg5 arg6 harg6 arg7 harg7 arg14 x5 x6 x7) = zT arg0 x1 x2 x5 x6 x7 := by
    rw [hM, hW, readAt_all harg2]; rfl
  have hS : k1_pay308 (runC.sl.v1737 c arg0 arg1 harg1 x1)
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    rw [hM, readAt_all harg3, readAt_all harg8, readAt_all harg9, readAt_col0]; rfl
  isplitl [H10]
  · iexists _; isplitr
    swap; · iexact H10
    ipureintro
    refine (View.read_writes_full _ _ _ _ _).trans ?_
    exact hT
  isplitl [H11]
  · iexists _; isplitr
    swap; · iexact H11
    ipureintro
    refine (View.read_writes_full _ _ _ _ _).trans ?_
    exact hS
  isplitl [H12]
  · iexists _; isplitr
    swap; · iexact H12
    ipureintro
    refine (View.read_writes_full _ _ _ _ _).trans ?_
    exact (congrArg₂ k1_pay2 ((View.readCov_full _ _ _ _ _).trans (congrArg k1_pay310 (congrArg₂ k1_pay312 hT (readAt_all harg15 x15 _)))) ((View.readCov_full _ _ _ _ _).trans (newSum_congr hT (readAt_all harg15 x15 _) (readAt_all harg16 x16 _))))
  isplitl [H13]
  · iexists _; isplitr
    swap; · iexact H13
    ipureintro
    refine (View.read_writes_full _ _ _ _ _).trans ?_
    exact (congrArg₂ k1_pay2 ((View.readCov_full _ _ _ _ _).trans (congrArg k1_pay310 (congrArg₂ k1_pay312 hS (readAt_all harg17 x17 _)))) ((View.readCov_full _ _ _ _ _).trans (newSum_congr hS (readAt_all harg17 x17 _) (readAt_all harg18 x18 _))))
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 hT (readAt_all harg15 x15 _)))
  isplitl [H16]
  · iexists _; isplitr
    swap; · iexact H16
    ipureintro
    refine (View.read_writes_full _ _ _ _ _).trans ?_
    exact (newSum_congr hT (readAt_all harg15 x15 _) (readAt_all harg16 x16 _))
  isplitl [H17]
  · iexists _; isplitr
    swap; · iexact H17
    ipureintro
    refine (View.read_writes_full _ _ _ _ _).trans ?_
    exact (congrArg k1_pay310 (congrArg₂ k1_pay312 hS (readAt_all harg17 x17 _)))
  iexists _; isplitr
  swap; · iexact H18
  ipureintro
  refine (View.read_writes_full _ _ _ _ _).trans ?_
  exact (newSum_congr hS (readAt_all harg17 x17 _) (readAt_all harg18 x18 _))

end Cert.KernelIdeal.Hand

end
-- ==== Proof.BodyRunD.lean ====
module

public import proofs.«01_k».proof.Proof.BodyDefs

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- One run of the logits body, at the first grid point and at the last: what each output block and each scratch array holds afterwards. -/
theorem runD (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : (Scalar.cmpi .ne (Scalar.extui (Scalar.cmpi .eq arg0 0#32)) 0#32) = 1#1) (hc1 : k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare (newLse (newMax (zT arg0 x1 x2 x5 x6 x7) k1_pay4) (newSum (zT arg0 x1 x2 x5 x6 x7) k1_pay4 k1_pay6)) ∗ owns (c : Thread nD τ) arg13 fullShare (newLse (newMax (zS arg0 x1 x3 x4 x8 x9) k1_pay5) (newSum (zS arg0 x1 x3 x4 x8 x9) k1_pay5 k1_pay7)) ∗ (∃ d, owns (c : Thread nD τ) arg14 fullShare d) ∗ owns (c : Thread nD τ) arg15 fullShare (newMax (zT arg0 x1 x2 x5 x6 x7) k1_pay4) ∗ owns (c : Thread nD τ) arg16 fullShare (newSum (zT arg0 x1 x2 x5 x6 x7) k1_pay4 k1_pay6) ∗ owns (c : Thread nD τ) arg17 fullShare (newMax (zS arg0 x1 x3 x4 x8 x9) k1_pay5) ∗ owns (c : Thread nD τ) arg18 fullShare (newSum (zS arg0 x1 x3 x4 x8 x9) k1_pay5 k1_pay7)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hM : runD.sl.v1737 c arg0 arg1 harg1 x1 = k1_pay306 (F := F) arg0 (x1 idx0) := by
    have h0 : runD.sl.r_22 c arg1 harg1 x1 = x1 idx0 :=
      (congrFun (harg1.read_unread x1) _).trans (congrArg x1 (eq_idx0 _))
    rw [← h0]; rfl
  have hW : runD.sl.v1740 c arg5 harg5 arg6 harg6 arg7 harg7 arg14 x5 x6 x7 = wScr x5 x6 x7 := by
    unfold runD.sl.v1740
    refine readCov_wScr _ _ _ _ _ _ ?_ (View.cover_of_tiled _ ![64, 512] (by rfl))
    unfold runD.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : k1_pay307 (runD.sl.v1737 c arg0 arg1 harg1 x1) (View.readAt (Elt F) arg2.view (Rect.unit ![0, 0] S384x8192.size inb_S384x8192_S384x8192_0_0).toLoadRect (harg2.unread x2))
      (runD.sl.v1740 c arg5 harg5 arg6 harg6 arg7 harg7 arg14 x5 x6 x7) = zT arg0 x1 x2 x5 x6 x7 := by
    rw [hM, hW, readAt_all harg2]; rfl
  have hS : k1_pay308 (runD.sl.v1737 c arg0 arg1 harg1 x1)
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    rw [hM, readAt_all harg3, readAt_all harg8, readAt_all harg9, readAt_col0]; rfl
  isplitl [H10]
  · iexists _; isplitr
    swap; · iexact H10
    ipureintro
    refine (View.read_writes_full _ _ _ _ _).trans ?_
    exact hT
  isplitl [H11]
  · iexists _; isplitr
    swap; · iexact H11
    ipureintro
    refine (View.read_writes_full _ _ _ _ _).trans ?_
    exact hS
  isplitl [H12]
  · iexists _; isplitr
    swap; · iexact H12
    ipureintro
    refine (View.read_writes_full _ _ _ _ _).trans ?_
    exact (congrArg₂ k1_pay2 ((View.readCov_full _ _ _ _ _).trans (congrArg k1_pay310 (congrArg₂ k1_pay312 hT (View.readCov_full _ _ _ _ _)))) ((View.readCov_full _ _ _ _ _).trans (newSum_congr hT (View.readCov_full _ _ _ _ _) (View.readCov_full _ _ _ _ _))))
  isplitl [H13]
  · iexists _; isplitr
    swap; · iexact H13
    ipureintro
    refine (View.read_writes_full _ _ _ _ _).trans ?_
    exact (congrArg₂ k1_pay2 ((View.readCov_full _ _ _ _ _).trans (congrArg k1_pay310 (congrArg₂ k1_pay312 hS (View.readCov_full _ _ _ _ _)))) ((View.readCov_full _ _ _ _ _).trans (newSum_congr hS (View.readCov_full _ _ _ _ _) (View.readCov_full _ _ _ _ _))))
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 hT (View.readCov_full _ _ _ _ _)))
  isplitl [H16]
  · iexists _; isplitr
    swap; · iexact H16
    ipureintro
    refine (View.read_writes_full _ _ _ _ _).trans ?_
    exact (newSum_congr hT (View.readCov_full _ _ _ _ _) (View.readCov_full _ _ _ _ _))
  isplitl [H17]
  · iexists _; isplitr
    swap; · iexact H17
    ipureintro
    refine (View.read_writes_full _ _ _ _ _).trans ?_
    exact (congrArg k1_pay310 (congrArg₂ k1_pay312 hS (View.readCov_full _ _ _ _ _)))
  iexists _; isplitr
  swap; · iexact H18
  ipureintro
  refine (View.read_writes_full _ _ _ _ _).trans ?_
  exact (newSum_congr hS (View.readCov_full _ _ _ _ _) (View.readCov_full _ _ _ _ _))

end Cert.KernelIdeal.Hand

end
-- ==== Proof.Tables.lean ====
/-
  The run-time tables of the logits kernel: its number of vocabulary tiles, computed by the host from `vocab_valid`, lies
  between 1 and 63 and its tiles cover every valid column; so the contents pass the region's side condition.
-/
module

public import proofs.«01_k».proof.Proof.BodyDefs
public import proofs.«01_k».proof.Proof.Gen.KernelIdeal.Regions
public import Idealize.ShloMosaic.Lib.Pipeline.ClipFacts

@[expose] public section

noncomputable section

namespace Cert.KernelIdeal.Hand

open Idealize.ShloMosaic Idealize.ShloMosaic.Pipeline Idealize.SL.Sem
open Cert.KernelIdeal Cert.KernelIdeal.Gen
open TcCoe

variable {F : FTy → Type} [FloatOps F] [Named F]

/-- Floor division of rank-zero words, as the host computes it. -/
def floorDiv (x y : IVec S_ 32) : IVec S_ 32 :=
  select (andi (cmpi .ne (signi x) (signi y)) (cmpi .ne (Host.remsi x y) (constantI S_ 32 0#32)))
    (subi (Host.divsi x y) (constantI S_ 32 1#32)) (Host.divsi x y)

variable (X : Valuation τ sig (Elt F))

theorem ops1_v25 : StableHlo.after hostOps1 X main_v25
    = subi (addi (shapeCast S_ (X main_arg12 : (⟨S1, .i32⟩ : BufTy).Contents (Elt F)) shapeCasts_S1_S_) (constantI S_ 32 512#32)) (constantI S_ 32 1#32) := by
  after_results <;> rfl
theorem ops1_c1 : StableHlo.after hostOps1 X main_c_1 = constantI S_ 32 512#32 := by
  after_results <;> rfl
theorem ops1_1_v26 : StableHlo.after hostOps1_1 X main_v26 = floorDiv (X main_v25) (X main_c_1) := by
  after_results <;> rfl
theorem ops1_2_c2 : StableHlo.after hostOps1_2 X main_c_2 = constantI S_ 32 1#32 := by
  after_results <;> rfl
theorem ops1_2_c3 : StableHlo.after hostOps1_2 X main_c_3 = constantI S_ 32 63#32 := by
  after_results <;> rfl
theorem ops1_3_v27 : StableHlo.after hostOps1_3 X main_v27 = minsi (X main_c_3) (maxsi (X main_c_2) (X main_v26)) := by
  after_results <;> rfl

/-- The number of vocabulary tiles for the word `vv` of valid columns: `(vv + 512 - 1) / 512` between 1 and 63. -/
def ntOf (vv : BitVec 32) : BitVec 32 :=
  IntOp.minsi 63#32 (IntOp.maxsi 1#32 (floorDiv (fun _ => vv + 512#32 - 1#32) (fun _ => 512#32) fun a => a.elim0))

/-- The count of points is between 1 and 63. -/
theorem ntOf_toInt (vv : BitVec 32) : 1 ≤ (ntOf vv).toInt ∧ (ntOf vv).toInt ≤ 63 := by
  unfold ntOf IntOp.minsi IntOp.maxsi
  generalize floorDiv (fun _ => vv + 512#32 - 1#32) (fun _ => 512#32) (fun a => a.elim0) = q
  simp only [BitVec.slt_iff_toInt_lt]
  have h63 : (63#32).toInt = 63 := by decide
  have h1 : (1#32).toInt = 1 := by decide
  split_ifs with h2 h3 h3 <;> simp only [h63, h1] at * <;> omega

/-- The count of points is between 1 and 63. -/
theorem ntOf_toNat (vv : BitVec 32) : 1 ≤ (ntOf vv).toNat ∧ (ntOf vv).toNat ≤ 63 := by
  have h := ntOf_toInt vv
  have := BitVec.toInt_eq_toNat_cond (ntOf vv)
  split at this <;> omega

/-- Every valid column lies in one of the tiles. -/
theorem ntOf_covers (vv : BitVec 32) (h : vv.toInt ≤ 32000) (n : ℕ) (hn : (n : ℤ) < vv.toInt) : n < (ntOf vv).toNat * 512 := by
  obtain ⟨k, hk, rfl⟩ : ∃ k : ℕ, k ≤ 32000 ∧ vv = BitVec.ofNat 32 k := by
    refine ⟨vv.toNat, ?_, by simp⟩
    have := BitVec.toInt_eq_toNat_cond vv
    split at this <;> omega
  have hkI : (BitVec.ofNat 32 k).toInt = k := by
    rw [BitVec.toInt_eq_toNat_cond, BitVec.toNat_ofNat, Nat.mod_eq_of_lt (by omega)]; split <;> omega
  rw [hkI] at hn
  have hx : BitVec.ofNat 32 k + 512#32 - 1#32 = BitVec.ofNat 32 (k + 511) := by
    apply BitVec.eq_of_toNat_eq; simp [BitVec.toNat_add, BitVec.toNat_sub]; omega
  have hms : (BitVec.ofNat 32 (k + 511)).msb = false := by
    rw [BitVec.msb_eq_false_iff_two_mul_lt, BitVec.toNat_ofNat, Nat.mod_eq_of_lt (by omega)]; omega
  have hfl : floorDiv (fun _ => BitVec.ofNat 32 (k + 511)) (fun _ => 512#32) (fun a => a.elim0) = BitVec.ofNat 32 ((k + 511) / 512) := by
    have h0 : BitVec.ofNat 32 (k + 511) ≠ 0 := by
      intro h; have := congrArg BitVec.toNat h; simp at this; omega
    have hs1 : (if BitVec.ofNat 32 (k + 511) = 0 then (0 : BitVec 32) else if (BitVec.ofNat 32 (k + 511)).msb then -1 else 1) = 1 := by
      rw [if_neg h0, hms]; rfl
    have hs2 : (if 512#32 = 0 then (0 : BitVec 32) else if (512#32).msb then -1 else 1) = 1 := by decide
    have hd : IntOp.divsi .host (BitVec.ofNat 32 (k + 511)) 512#32 = BitVec.ofNat 32 ((k + 511) / 512) := by
      unfold IntOp.divsi
      rw [if_neg (by simp [IntOp.SDivCorner])]
      have : BitVec.sdiv (BitVec.ofNat 32 (k + 511)) 512#32 = BitVec.ofNat 32 (k + 511) / 512#32 := by
        unfold BitVec.sdiv; rw [hms]; rfl
      rw [this]
      apply BitVec.eq_of_toNat_eq; simp; omega
    unfold floorDiv select andi cmpi signi subi Host.divsi
    simp only [hs1, hs2, hd]
    have hz : ∀ z : BitVec 1, IntOp.andi (IntOp.cmpi CmpIPredicate.ne (1 : BitVec 32) 1) z = 0#1 := by decide
    rw [hz]
    rfl
  unfold ntOf
  rw [hx, hfl]
  unfold IntOp.minsi IntOp.maxsi
  simp only [BitVec.slt_iff_toInt_lt]
  have hq : (BitVec.ofNat 32 ((k + 511) / 512)).toInt = ((k + 511) / 512 : ℕ) := by
    rw [BitVec.toInt_eq_toNat_cond, BitVec.toNat_ofNat, Nat.mod_eq_of_lt (by omega)]; split <;> omega
  have hqn : (BitVec.ofNat 32 ((k + 511) / 512)).toNat = (k + 511) / 512 := by
    rw [BitVec.toNat_ofNat, Nat.mod_eq_of_lt (by omega)]
  have h63 : (63#32).toInt = 63 := by decide
  have h1 : (1#32).toInt = 1 := by decide
  have h63' : (63#32).toNat = 63 := by decide
  have h1' : (1#32).toNat = 1 := by decide
  split_ifs with h2 h3 h3 <;> simp only [h63, h1, h63', h1', hq, hqn] at * <;> omega

variable (m : (ℓ : Loc nD τ sig) → Buf (Elt F) ℓ) (outs : Outs (F := F))

/-- The word of valid columns at launch. -/
def vvWord (c : Dev nD) : BitVec 32 := (m ((c : Thread nD τ).loc main_arg12) : (⟨S1, .i32⟩ : BufTy).Contents (Elt F)) idx0

/-- The count of valid columns is unchanged at the second call. -/
theorem V7_arg12 (c : Dev nD) : V7 m outs c main_arg12 = m ((c : Thread nD τ).loc main_arg12) :=
  (V7_of m outs c main_arg12 (by decide)).trans <| (V6_of m outs c main_arg12 (by decide)).trans <| (V5_of m outs c main_arg12 (by decide)).trans <|
    (V4_of m outs c main_arg12 (by decide)).trans <| (V3_of m outs c main_arg12 (by decide)).trans <| (V2_of m outs c main_arg12 (by decide)).trans <|
    (V1_of m c main_arg12 (by decide)).trans rfl

/-- What the host leaves in the tile count's table. -/
theorem V7_v27 (c : Dev nD) : V7 m outs c main_v27 = fun _ => ntOf (vvWord m c) := by
  have h2 : V2 m outs c main_arg12 = m ((c : Thread nD τ).loc main_arg12) :=
    (V2_of m outs c main_arg12 (by decide)).trans ((V1_of m c main_arg12 (by decide)).trans rfl)
  refine (V7_of m outs c main_v27 (by decide)).trans ?_
  refine (ops1_3_v27 _).trans ?_
  rw [show V5 m outs c main_c_2 = _ from ops1_2_c2 _, show V5 m outs c main_c_3 = _ from ops1_2_c3 _, show V5 m outs c main_v26 = V4 m outs c main_v26 from V5_of m outs c main_v26 (by decide),
    show V4 m outs c main_v26 = _ from ops1_1_v26 _, show V3 m outs c main_v25 = _ from ops1_v25 _, show V3 m outs c main_c_1 = _ from ops1_c1 _, h2]
  have hc : shapeCast S_ (m ((c : Thread nD τ).loc main_arg12) : (⟨S1, .i32⟩ : BufTy).Contents (Elt F)) shapeCasts_S1_S_ = fun _ => vvWord m c :=
    funext fun i => congrArg (m ((c : Thread nD τ).loc main_arg12) : (⟨S1, .i32⟩ : BufTy).Contents (Elt F)) (eq_idx0 _)
  rw [hc]
  funext i
  obtain rfl : i = fun a => a.elim0 := funext fun a => a.elim0
  rfl

/-- The tables' contents. -/
def tbl (c : Dev nD) : pre1.Contents (Elt F) := fun k => V7 m (fun _ r c => m ((c : Thread nD τ).loc r)) c (Proc.devRef .tc (pre1.ref k))

/-- The table is what the scalar references hold at the second call. -/
theorem tbl_eq (c : Dev nD) (k) : tbl m c k = V7 m outs c (Proc.devRef .tc (pre1.ref k)) := by
  unfold tbl
  match k with
  | ⟨0, _⟩ => exact (V7_v27 m _ c).trans (V7_v27 m outs c).symm
  | ⟨1, _⟩ => exact (V7_arg12 m _ c).trans (V7_arg12 m outs c).symm

/-- The grid's length from the table. -/
theorem dynb_tbl (c : Dev nD) : dynb1 (tbl m c) = ![(ntOf (vvWord m c)).toNat] := by
  unfold dynb1; rw [show tbl m c 0 = _ from V7_v27 m _ c]

/-- The side condition holds at every tile count between 1 and 63. -/
theorem ok1_of (pf : pre1.Contents (Elt F)) (h63 : dynb1 pf 0 ≤ 63) : ok1 pf := by
  have hi : ∀ i : (grid1.at (dynb1 pf)).Coords, (i 0).val < 63 := fun i => lt_of_lt_of_le (i 0).isLt h63
  have hz : ∀ i : (grid1.at (dynb1 pf)).Coords, (BitVec.ofNat 32 (i 0).val).toNat = (i 0).val := fun i => by
    rw [BitVec.toNat_ofNat, Nat.mod_eq_of_lt (by have := hi i; omega)]
  have row : ∀ (i : (grid1.at (dynb1 pf)).Coords) (r : ℕ), 0 < r → ∀ a : Fin 2,
      (![0, (BitVec.ofNat 32 (i 0).val).toNat] : Fin 2 → ℕ) a * (![r, 512] : Fin 2 → ℕ) a < (![r, 32000] : Fin 2 → ℕ) a := by
    intro i r hr a
    have := hi i
    have := hz i
    fin_cases a
    · simpa using hr
    · show (BitVec.ofNat 32 (i 0).val).toNat * 512 < 32000; omega
  have col : ∀ (i : (grid1.at (dynb1 pf)).Coords) (a : Fin 2),
      (![(BitVec.ofNat 32 (i 0).val).toNat, 0] : Fin 2 → ℕ) a * (![512, 2048] : Fin 2 → ℕ) a < (![32000, 2048] : Fin 2 → ℕ) a := by
    intro i a
    have := hi i
    have := hz i
    fin_cases a
    · show (BitVec.ofNat 32 (i 0).val).toNat * 512 < 32000; omega
    · show 0 * 2048 < 2048; omega
  have whole : ∀ (r k : ℕ) (a : Fin 2), ((![0, 0] : Fin 2 → ℕ) a + 1) * (![r, k] : Fin 2 → ℕ) a ≤ (![r, k] : Fin 2 → ℕ) a := by
    intro r k a; fin_cases a <;> simp
  have hr3 : (0 + 1) * 4096 ≤ 4096 := by omega
  unfold ok1
  refine ⟨?_, fun i => ⟨whole 384 8192, .inr (Affine.block_words_rows (by decide) rfl)⟩, fun i => ⟨whole 384 2048, .inr (Affine.block_words_rows (by decide) rfl)⟩,
    fun i => ⟨whole 384 128, .inl rfl⟩, fun i => ⟨row i 4096 (by decide), .inr (Affine.clip_words_dvd (s := S4096x32000) (size := S4096x512.size) (ix := cc1_transform_3 (dynb1 pf) i) (le_refl 2) hr3 (show 4 ∣ 4096 by decide)), .inr (Affine.clip_srect_words (s := S4096x32000) (size := S4096x512.size) (ix := cc1_transform_3 (dynb1 pf) i) (le_refl 2) hr3)⟩,
    fun i => ⟨row i 64 (by decide), .inl rfl, .inl rfl⟩, fun i => ⟨row i 64 (by decide), .inl rfl, .inl rfl⟩, fun i => ⟨col i, .inr (.inl (Affine.packed_dvd (by decide) ?_ ?_)), .inr (.inl (Affine.packed_dvd (by decide) ?_ ?_))⟩,
    fun i => ⟨row i 1 (by decide), .inl rfl, .inl rfl⟩, fun i => ⟨row i 384 (by decide), .inl rfl, .inl rfl⟩, fun i => ⟨row i 384 (by decide), .inl rfl, .inl rfl⟩,
    fun i => ⟨whole 384 128, .inl rfl⟩, fun i => ⟨whole 384 128, .inl rfl⟩⟩
  · show (List.ofFn (grid1.boundAt (dynb1 pf))).prod + 2 < 2 ^ 31
    rw [show List.ofFn (grid1.boundAt (dynb1 pf)) = [grid1.boundAt (dynb1 pf) 0] from rfl, List.prod_singleton]
    have : grid1.boundAt (dynb1 pf) 0 ≤ 63 := h63
    omega
  · exact Dvd.dvd.mul_left (show 4 ∣ 512 by decide) _
  · show 4 ∣ (Clip.of (BitVec.ofNat 32 (i 0).val).toNat 512 32000).extent 512
    have := hi i
    rw [hz i]; unfold Clip.of; split
    · exact (by decide : 4 ∣ 512)
    · show 4 ∣ 32000 - (i 0).val * 512; omega
  · exact Dvd.intro 0 rfl
  · show 4 ∣ (Clip.of (BitVec.ofNat 32 (i 0).val).toNat 512 32000).extent 512
    have := hi i
    rw [hz i]; unfold Clip.of; split
    · exact (by decide : 4 ∣ 512)
    · show 4 ∣ 32000 - (i 0).val * 512; omega

/-- The tables the kernel is launched with are admissible. -/
def adm1 (c : Dev nD) : (pcfgs (F := F) 1).Adm := ⟨tbl m c, ok1_of _ (by rw [dynb_tbl]; exact (ntOf_toNat _).2)⟩

end Cert.KernelIdeal.Hand

end

end
-- ==== Proof.LogitsStep.lean ====
/-
  One point of the logits kernel, and the running statistics it carries: what any of its runs does to the scratch arrays (`step`), which
  statistics a number of points can leave (`Reach`), the region's proof data and its body obligation.
-/
module

public import proofs.«01_k».proof.Proof.BodyRunA
public import proofs.«01_k».proof.Proof.BodyRunB
public import proofs.«01_k».proof.Proof.BodyRunC
public import proofs.«01_k».proof.Proof.BodyRunD
public import proofs.«01_k».proof.Proof.Tables
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F] [Named F]

local notation "𝕄" => MT nD τ sig Unit (Elt F) ℕ (UR sig nD τ) ℕ

/-- The running statistics of the two log-sum-exps: per row and lane a maximum and a sum, of the teacher's and of the student's logits. -/
structure Stats (F : FTy → Type) [FloatOps F] where
  mt : Vec F S384x128 .f32
  lt : Vec F S384x128 .f32
  ms : Vec F S384x128 .f32
  ls : Vec F S384x128 .f32

/-- The condition of the body's first branch: the point is the first. -/
abbrev isFirst (arg0 : BitVec 32) : Prop := (Scalar.cmpi .ne (Scalar.extui (Scalar.cmpi .eq arg0 0#32)) 0#32) = 1#1

/-- What the first point starts from. -/
def start : Stats F := ⟨k1_pay4, k1_pay6, k1_pay5, k1_pay7⟩

/-- The statistics a point starts from, if the scratch arrays hold `M`. -/
def base (arg0 : BitVec 32) (M : Stats F) : Stats F := if isFirst arg0 then start else M

/-- The statistics after the tile of inputs `x1 … x9`, if the scratch arrays hold `M` before. -/
def step (arg0 : BitVec 32) (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (M : Stats F) : Stats F :=
  ⟨newMax (zT arg0 x1 x2 x5 x6 x7) (base arg0 M).mt, newSum (zT arg0 x1 x2 x5 x6 x7) (base arg0 M).mt (base arg0 M).lt,
   newMax (zS arg0 x1 x3 x4 x8 x9) (base arg0 M).ms, newSum (zS arg0 x1 x3 x4 x8 x9) (base arg0 M).ms (base arg0 M).ls⟩

theorem step_first {arg0 : BitVec 32} {x1 : Vec F S1 .i32} {x2 : Vec F S384x8192 .bf16} {x3 : Vec F S384x2048 .fp8e4m3} {x4 : Vec F S384x128 .f32} {x5 : Vec F S4096x512 .i8} {x6 : Vec F S64x512 .f32} {x7 : Vec F S64x512 .f32} {x8 : Vec F S512x2048 .fp8e4m3} {x9 : Vec F S1x512 .f32} (M : Stats F) (h : isFirst arg0) :
    step arg0 x1 x2 x3 x4 x5 x6 x7 x8 x9 M = ⟨newMax (zT arg0 x1 x2 x5 x6 x7) k1_pay4, newSum (zT arg0 x1 x2 x5 x6 x7) k1_pay4 k1_pay6,
      newMax (zS arg0 x1 x3 x4 x8 x9) k1_pay5, newSum (zS arg0 x1 x3 x4 x8 x9) k1_pay5 k1_pay7⟩ := by
  unfold step base; rw [if_pos h]; rfl

theorem step_later {arg0 : BitVec 32} {x1 : Vec F S1 .i32} {x2 : Vec F S384x8192 .bf16} {x3 : Vec F S384x2048 .fp8e4m3} {x4 : Vec F S384x128 .f32} {x5 : Vec F S4096x512 .i8} {x6 : Vec F S64x512 .f32} {x7 : Vec F S64x512 .f32} {x8 : Vec F S512x2048 .fp8e4m3} {x9 : Vec F S1x512 .f32} (M : Stats F) (h : ¬ isFirst arg0) :
    step arg0 x1 x2 x3 x4 x5 x6 x7 x8 x9 M = ⟨newMax (zT arg0 x1 x2 x5 x6 x7) M.mt, newSum (zT arg0 x1 x2 x5 x6 x7) M.mt M.lt,
      newMax (zS arg0 x1 x3 x4 x8 x9) M.ms, newSum (zS arg0 x1 x3 x4 x8 x9) M.ms M.ls⟩ := by
  unfold step base; rw [if_neg h]

/-- One run of the logits body at any point: the inputs as they were, the scratch statistics advanced by `step`, and at the last point the
    two log-sum-exp blocks finished. -/
theorem runAny (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (M : Stats F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare M.mt ∗ owns (c : Thread nD τ) arg16 fullShare M.lt ∗ owns (c : Thread nD τ) arg17 fullShare M.ms ∗ owns (c : Thread nD τ) arg18 fullShare M.ls ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ X, ⌜k1_cond2 arg0 (BitVec.ofNat 32 (b 0)) = 1#1 → X = newLse (step arg0 x1 x2 x3 x4 x5 x6 x7 x8 x9 M).mt (step arg0 x1 x2 x3 x4 x5 x6 x7 x8 x9 M).lt⌝ ∗ owns (c : Thread nD τ) arg12 fullShare X) ∗ (∃ X, ⌜k1_cond2 arg0 (BitVec.ofNat 32 (b 0)) = 1#1 → X = newLse (step arg0 x1 x2 x3 x4 x5 x6 x7 x8 x9 M).ms (step arg0 x1 x2 x3 x4 x5 x6 x7 x8 x9 M).ls⌝ ∗ owns (c : Thread nD τ) arg13 fullShare X) ∗ (∃ d, owns (c : Thread nD τ) arg14 fullShare d) ∗ owns (c : Thread nD τ) arg15 fullShare (step arg0 x1 x2 x3 x4 x5 x6 x7 x8 x9 M).mt ∗ owns (c : Thread nD τ) arg16 fullShare (step arg0 x1 x2 x3 x4 x5 x6 x7 x8 x9 M).lt ∗ owns (c : Thread nD τ) arg17 fullShare (step arg0 x1 x2 x3 x4 x5 x6 x7 x8 x9 M).ms ∗ owns (c : Thread nD τ) arg18 fullShare (step arg0 x1 x2 x3 x4 x5 x6 x7 x8 x9 M).ls) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H5, H6, H7, H8, H9, H10, H11, H12, H13, H14, H15, H16, H17, H18, Hk⟩
  by_cases h0 : isFirst arg0
  · by_cases h1 : k1_cond2 arg0 (BitVec.ofNat 32 (b 0)) = 1#1
    · -- first point, the last
      iapply (runD c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun _ => by rw [step_first _ h0]
      isplitl [H13]
      · iexists _; isplitr
        swap; · iexact H13
        ipureintro; exact fun _ => by rw [step_first _ h0]
      isplitl [H14]; · iexact H14
      isplitl [H15]
      · rw [step_first _ h0]; iexact H15
      isplitl [H16]
      · rw [step_first _ h0]; iexact H16
      isplitl [H17]
      · rw [step_first _ h0]; iexact H17
      rw [step_first _ h0]; iexact H18
    · -- first point, not the last
      iapply (runA c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun h => absurd h h1
      isplitl [H13]
      · iexists _; isplitr
        swap; · iexact H13
        ipureintro; exact fun h => absurd h h1
      isplitl [H14]; · iexact H14
      isplitl [H15]
      · rw [step_first _ h0]; iexact H15
      isplitl [H16]
      · rw [step_first _ h0]; iexact H16
      isplitl [H17]
      · rw [step_first _ h0]; iexact H17
      rw [step_first _ h0]; iexact H18
  · by_cases h1 : k1_cond2 arg0 (BitVec.ofNat 32 (b 0)) = 1#1
    · -- a later point, the last
      iapply (runC c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun _ => by rw [step_later _ h0]
      isplitl [H13]
      · iexists _; isplitr
        swap; · iexact H13
        ipureintro; exact fun _ => by rw [step_later _ h0]
      isplitl [H14]; · iexact H14
      isplitl [H15]
      · rw [step_later _ h0]; iexact H15
      isplitl [H16]
      · rw [step_later _ h0]; iexact H16
      isplitl [H17]
      · rw [step_later _ h0]; iexact H17
      rw [step_later _ h0]; iexact H18
    · -- a later point, not the last
      iapply (runB c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun h => absurd h h1
      isplitl [H13]
      · iexists _; isplitr
        swap; · iexact H13
        ipureintro; exact fun h => absurd h h1
      isplitl [H14]; · iexact H14
      isplitl [H15]
      · rw [step_later _ h0]; iexact H15
      isplitl [H16]
      · rw [step_later _ h0]; iexact H16
      isplitl [H17]
      · rw [step_later _ h0]; iexact H17
      rw [step_later _ h0]; iexact H18

end Cert.KernelIdeal.Hand

end

end
-- ==== Proof.Logits.lean ====
/-
  The logits region's proof data: which running statistics a number of points can leave (`Reach`), what the windows hold, and the body
  obligation at every point.
-/
module

public import proofs.«01_k».proof.Proof.LogitsStep
public import proofs.«01_k».proof.Proof.Tables
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F] [Named F]

local notation "𝕄" => MT nD τ sig Unit (Elt F) ℕ (UR sig nD τ) ℕ

/-- The logits pipeline at admissible contents of its tables. -/
abbrev cfgL (a : (pcfgs (F := F) 1).Adm) : Cfg sig Λ₀ := (pcfgs (F := F) 1).at a

variable (a : (pcfgs (F := F) 1).Adm) (W : Valuation τ sig (Elt F)) (c : Dev nD)

/-- The array of window `w` when the region is entered. -/
def arr1 (w : Fin (cfgL a).W) : Buf (Elt F) (((cfgL a).win w).arr.view.loc (c.tc : Thread nD τ)) := W (Proc.devRef .tc (Pipeline.arrRef spec1 w))

/-- `x` is what the fetch at point `t` puts in the staging buffer of window `w`: the array's block, and anything outside the array. -/
def Blk (w : Fin (cfgL a).W) (t : Fin (cfgL a).N) (x : ((cfgL a).win w).block.Idx → Elt F ((cfgL a).win w).elt) : Prop :=
  ∃ d, x = ((cfgL a).win w).fill ((cfgL a).grid.coords t) d ((((cfgL a).win w).blk t).view.read (Elt F) (arr1 a W c w))

/-- The grid point as the body's word. -/
def pointWord (t : Fin (cfgL a).N) : BitVec 32 := BitVec.ofNat 32 ((cfgL a).grid.coords t 0).val

/-- The statistics that the first `n` points can leave. -/
def Reach : ℕ → Stats F → Prop
  | 0, _ => True
  | n + 1, M' => ∃ (h : n < (cfgL a).N) (M : Stats F) (y0 : Vec F S384x8192 .bf16) (y1 : Vec F S384x2048 .fp8e4m3) (y2 : Vec F S384x128 .f32) (y3 : Vec F S4096x512 .i8) (y4 : Vec F S64x512 .f32) (y5 : Vec F S64x512 .f32) (y6 : Vec F S512x2048 .fp8e4m3) (y7 : Vec F S1x512 .f32), Reach n M ∧ (Blk a W c 0 ⟨n, h⟩ y0 ∧ Blk a W c 1 ⟨n, h⟩ y1 ∧ Blk a W c 2 ⟨n, h⟩ y2 ∧ Blk a W c 3 ⟨n, h⟩ y3 ∧ Blk a W c 4 ⟨n, h⟩ y4 ∧ Blk a W c 5 ⟨n, h⟩ y5 ∧ Blk a W c 6 ⟨n, h⟩ y6 ∧ Blk a W c 7 ⟨n, h⟩ y7) ∧
      M' = step (pointWord a ⟨n, h⟩) (a.1 1) y0 y1 y2 y3 y4 y5 y6 y7 M

/-- The windows whose contents the proof data constrain but do not name: the four outputs. -/
def fgt1 : Fin 12 → Bool := ![false, false, false, false, false, false, false, false, true, true, true, true]

/-- What the body leaves in an output window: at the last point the finished log-sum-exps of some statistics that the points can leave. -/
def Rl1 (w : Fin (cfgL a).W) (t : Fin (cfgL a).N) (X : ((cfgL a).win w).block.Idx → Elt F ((cfgL a).win w).elt) : Prop :=
  match w, X with
  | ⟨10, _⟩, X => k1_cond2 (pointWord a t) (BitVec.ofNat 32 (dynb1 a.1 0)) = 1#1 → ∃ M, Reach a W c (t.val + 1) M ∧ X = newLse M.mt M.lt
  | ⟨11, _⟩, X => k1_cond2 (pointWord a t) (BitVec.ofNat 32 (dynb1 a.1 0)) = 1#1 → ∃ M, Reach a W c (t.val + 1) M ∧ X = newLse M.ms M.ls
  | _, _ => True

/-- What the body's invariant holds at a point: statistics in the four scratch arrays that the points before can leave, the rest of the
    scoped buffers and the generator register at anything, the tables at their contents. -/
def logitsInv (n : ℕ) : sProp 𝕄 :=
  iprop((∃ M : Stats F, ⌜Reach a W c n M⌝ ∗ owns (c : Thread nD τ) (Memref.whole cc1_scratch1) fullShare M.mt ∗ owns (c : Thread nD τ) (Memref.whole cc1_scratch2) fullShare M.lt
      ∗ owns (c : Thread nD τ) (Memref.whole cc1_scratch3) fullShare M.ms ∗ owns (c : Thread nD τ) (Memref.whole cc1_scratch4) fullShare M.ls)
    ∗ (∃ d, owns (c : Thread nD τ) (Memref.whole cc1_scratch0) fullShare d)
    ∗ Pipeline.scopedRestBut spec1 c [cc1_scratch0, cc1_scratch1, cc1_scratch2, cc1_scratch3, cc1_scratch4] ∗ (∃ r, prngReg c r)
    ∗ (((c.tc : Thread nD τ).loc (pre1.ref 0)) ↦{fullShare} a.1 0) ∗ owns (c : Thread nD τ) (Memref.whole main_arg12) fullShare (a.1 1))

/-- The proof data of the logits pipeline on core `c`, entered at the valuation `W`. -/
def logitsDat : Dat τ (Elt F) Unit ℕ (UR sig nD τ) ℕ (cfgL a) c where
  A w := arr1 a W c w
  after w t := ((cfgL a).win w).fill ((cfgL a).grid.coords t) (fun _ => Classical.arbitrary _) ((((cfgL a).win w).blk t).view.read (Elt F) (arr1 a W c w))
  Φ t := logitsInv a W c t.val
  q _ := fullShare
  owed _ := 0

theorem cut_after (w : Fin (cfgL a).W) (t : Fin (cfgL a).N) :
    ((cfgL a).win w).cut ((cfgL a).grid.coords t) ((logitsDat a W c).after w t) = (logitsDat a W c).blockOf w t :=
  ((cfgL a).win w).cut_fill _ _ _

/-- An input window's buffer holds a fetched block at every point. -/
theorem before_in (w : Fin (cfgL a).W) (hw : ((cfgL a).win w).isOut = false) (hlive : ∀ i, (cfgL a).idle w i = false)
    (hclip : ∀ t t' : Fin (cfgL a).N, ((cfgL a).win w).index t = ((cfgL a).win w).index t' →
      ((cfgL a).win w).clip ((cfgL a).grid.coords t) = ((cfgL a).win w).clip ((cfgL a).grid.coords t'))
    (t : Fin (cfgL a).N) (d : ((cfgL a).win w).block.Idx → Elt F ((cfgL a).win w).elt) :
    (logitsDat a W c).before w t d = ((cfgL a).win w).fill ((cfgL a).grid.coords t) d ((((cfgL a).win w).blk t).view.read (Elt F) (arr1 a W c w)) :=
  (logitsDat a W c).before_in_eq_fetched w hw hlive hclip (cut_after a W c w) t d

theorem before1_0 (t : Fin (cfgL a).N) (d) : (logitsDat a W c).before 0 t d = ((cfgL a).win 0).fill ((cfgL a).grid.coords t) d ((((cfgL a).win 0).blk t).view.read (Elt F) (arr1 a W c 0)) :=
  before_in a W c 0 rfl (fun _ => rfl) (fun _ _ _ => rfl) t d
theorem before1_1 (t : Fin (cfgL a).N) (d) : (logitsDat a W c).before 1 t d = ((cfgL a).win 1).fill ((cfgL a).grid.coords t) d ((((cfgL a).win 1).blk t).view.read (Elt F) (arr1 a W c 1)) :=
  before_in a W c 1 rfl (fun _ => rfl) (fun _ _ _ => rfl) t d
theorem before1_2 (t : Fin (cfgL a).N) (d) : (logitsDat a W c).before 2 t d = ((cfgL a).win 2).fill ((cfgL a).grid.coords t) d ((((cfgL a).win 2).blk t).view.read (Elt F) (arr1 a W c 2)) :=
  before_in a W c 2 rfl (fun _ => rfl) (fun _ _ _ => rfl) t d
theorem before1_3 (t : Fin (cfgL a).N) (d) : (logitsDat a W c).before 3 t d = ((cfgL a).win 3).fill ((cfgL a).grid.coords t) d ((((cfgL a).win 3).blk t).view.read (Elt F) (arr1 a W c 3)) :=
  before_in a W c 3 rfl (fun _ => rfl) (fun t t' h => funext fun k => congrArg (fun j => Pipeline.Clip.of j ((spec1 3).size k) ((spec1 3).shape.size k)) (congrFun h k)) t d
theorem before1_4 (t : Fin (cfgL a).N) (d) : (logitsDat a W c).before 4 t d = ((cfgL a).win 4).fill ((cfgL a).grid.coords t) d ((((cfgL a).win 4).blk t).view.read (Elt F) (arr1 a W c 4)) :=
  before_in a W c 4 rfl (fun _ => rfl) (fun t t' h => funext fun k => congrArg (fun j => Pipeline.Clip.of j ((spec1 4).size k) ((spec1 4).shape.size k)) (congrFun h k)) t d
theorem before1_5 (t : Fin (cfgL a).N) (d) : (logitsDat a W c).before 5 t d = ((cfgL a).win 5).fill ((cfgL a).grid.coords t) d ((((cfgL a).win 5).blk t).view.read (Elt F) (arr1 a W c 5)) :=
  before_in a W c 5 rfl (fun _ => rfl) (fun t t' h => funext fun k => congrArg (fun j => Pipeline.Clip.of j ((spec1 5).size k) ((spec1 5).shape.size k)) (congrFun h k)) t d
theorem before1_6 (t : Fin (cfgL a).N) (d) : (logitsDat a W c).before 6 t d = ((cfgL a).win 6).fill ((cfgL a).grid.coords t) d ((((cfgL a).win 6).blk t).view.read (Elt F) (arr1 a W c 6)) :=
  before_in a W c 6 rfl (fun _ => rfl) (fun t t' h => funext fun k => congrArg (fun j => Pipeline.Clip.of j ((spec1 6).size k) ((spec1 6).shape.size k)) (congrFun h k)) t d
theorem before1_7 (t : Fin (cfgL a).N) (d) : (logitsDat a W c).before 7 t d = ((cfgL a).win 7).fill ((cfgL a).grid.coords t) d ((((cfgL a).win 7).blk t).view.read (Elt F) (arr1 a W c 7)) :=
  before_in a W c 7 rfl (fun _ => rfl) (fun t t' h => funext fun k => congrArg (fun j => Pipeline.Clip.of j ((spec1 7).size k) ((spec1 7).shape.size k)) (congrFun h k)) t d
theorem before1_0_after (t : Fin (cfgL a).N) (d) : (logitsDat a W c).before 0 t d = (logitsDat a W c).after 0 t :=
  (before1_0 a W c t d).trans (Pipeline.fill_of_clip_none (cfg := cfgL a) 0 _ (fun _ => rfl) _ (fun _ => Classical.arbitrary _) _)
theorem before1_1_after (t : Fin (cfgL a).N) (d) : (logitsDat a W c).before 1 t d = (logitsDat a W c).after 1 t :=
  (before1_1 a W c t d).trans (Pipeline.fill_of_clip_none (cfg := cfgL a) 1 _ (fun _ => rfl) _ (fun _ => Classical.arbitrary _) _)
theorem before1_2_after (t : Fin (cfgL a).N) (d) : (logitsDat a W c).before 2 t d = (logitsDat a W c).after 2 t :=
  (before1_2 a W c t d).trans (Pipeline.fill_of_clip_none (cfg := cfgL a) 2 _ (fun _ => rfl) _ (fun _ => Classical.arbitrary _) _)
theorem before1_3_loose (t : Fin (cfgL a).N) (d) : (logitsDat a W c).before 3 t d
    = ((cfgL a).win 3).fill ((cfgL a).grid.coords t) d (((cfgL a).win 3).cut ((cfgL a).grid.coords t) ((logitsDat a W c).after 3 t)) := by
  rw [cut_after]; exact before1_3 a W c t d
theorem before1_4_loose (t : Fin (cfgL a).N) (d) : (logitsDat a W c).before 4 t d
    = ((cfgL a).win 4).fill ((cfgL a).grid.coords t) d (((cfgL a).win 4).cut ((cfgL a).grid.coords t) ((logitsDat a W c).after 4 t)) := by
  rw [cut_after]; exact before1_4 a W c t d
theorem before1_5_loose (t : Fin (cfgL a).N) (d) : (logitsDat a W c).before 5 t d
    = ((cfgL a).win 5).fill ((cfgL a).grid.coords t) d (((cfgL a).win 5).cut ((cfgL a).grid.coords t) ((logitsDat a W c).after 5 t)) := by
  rw [cut_after]; exact before1_5 a W c t d
theorem before1_6_loose (t : Fin (cfgL a).N) (d) : (logitsDat a W c).before 6 t d
    = ((cfgL a).win 6).fill ((cfgL a).grid.coords t) d (((cfgL a).win 6).cut ((cfgL a).grid.coords t) ((logitsDat a W c).after 6 t)) := by
  rw [cut_after]; exact before1_6 a W c t d
theorem before1_7_loose (t : Fin (cfgL a).N) (d) : (logitsDat a W c).before 7 t d
    = ((cfgL a).win 7).fill ((cfgL a).grid.coords t) d (((cfgL a).win 7).cut ((cfgL a).grid.coords t) ((logitsDat a W c).after 7 t)) := by
  rw [cut_after]; exact before1_7 a W c t d

/-- Owning a memref at equal contents. -/
theorem owns_of_eq {t : Thread nD τ} {sp : Space} {S : Shape} {e : EltTy} {r : Memref sig t.2.kind sp S e} {q : PosShare TreeShare}
    {x y : S.Idx → Elt F e} (h : x = y) : (owns t r q x : sProp 𝕄) ⊢ owns t r q y := h ▸ .rfl

/-- What the body is called with at point `t`, the windows one by one, -/
def bodyPre1 (t : Fin (cfgL a).N) : sProp 𝕄 :=
  iprop((logitsDat a W c).Φ t.castSucc ∗ (logitsDat a W c).owesAt () t.castSucc ∗ (∃ d, owns (c : Thread nD τ) (spec1_0.stage ((cfgL a).slots t 0)) fullShare ((logitsDat a W c).before 0 t d)) ∗ (∃ d, owns (c : Thread nD τ) (spec1_1.stage ((cfgL a).slots t 1)) fullShare ((logitsDat a W c).before 1 t d)) ∗ (∃ d, owns (c : Thread nD τ) (spec1_2.stage ((cfgL a).slots t 2)) fullShare ((logitsDat a W c).before 2 t d)) ∗ (∃ d, owns (c : Thread nD τ) (spec1_3.stage ((cfgL a).slots t 3)) fullShare ((logitsDat a W c).before 3 t d)) ∗ (∃ d, owns (c : Thread nD τ) (spec1_4.stage ((cfgL a).slots t 4)) fullShare ((logitsDat a W c).before 4 t d)) ∗ (∃ d, owns (c : Thread nD τ) (spec1_5.stage ((cfgL a).slots t 5)) fullShare ((logitsDat a W c).before 5 t d)) ∗ (∃ d, owns (c : Thread nD τ) (spec1_6.stage ((cfgL a).slots t 6)) fullShare ((logitsDat a W c).before 6 t d)) ∗ (∃ d, owns (c : Thread nD τ) (spec1_7.stage ((cfgL a).slots t 7)) fullShare ((logitsDat a W c).before 7 t d)) ∗ (∃ Y, ⌜((logitsDat a W c).toRRel fgt1 (Rl1 a W c)).Finds 8 t Y⌝ ∗ owns (c : Thread nD τ) (spec1_8.stage ((cfgL a).slots t 8)) fullShare Y) ∗ (∃ Y, ⌜((logitsDat a W c).toRRel fgt1 (Rl1 a W c)).Finds 9 t Y⌝ ∗ owns (c : Thread nD τ) (spec1_9.stage ((cfgL a).slots t 9)) fullShare Y) ∗ (∃ Y, ⌜((logitsDat a W c).toRRel fgt1 (Rl1 a W c)).Finds 10 t Y⌝ ∗ owns (c : Thread nD τ) (spec1_10.stage ((cfgL a).slots t 10)) fullShare Y) ∗ (∃ Y, ⌜((logitsDat a W c).toRRel fgt1 (Rl1 a W c)).Finds 11 t Y⌝ ∗ owns (c : Thread nD τ) (spec1_11.stage ((cfgL a).slots t 11)) fullShare Y))

/-- and what it returns. -/
def bodyPost1 (t : Fin (cfgL a).N) : sProp 𝕄 :=
  iprop((logitsDat a W c).Φ t.succ ∗ (logitsDat a W c).owesAt () t.succ ∗ owns (c : Thread nD τ) (spec1_0.stage ((cfgL a).slots t 0)) fullShare ((logitsDat a W c).after 0 t) ∗ owns (c : Thread nD τ) (spec1_1.stage ((cfgL a).slots t 1)) fullShare ((logitsDat a W c).after 1 t) ∗ owns (c : Thread nD τ) (spec1_2.stage ((cfgL a).slots t 2)) fullShare ((logitsDat a W c).after 2 t) ∗ (∃ d, owns (c : Thread nD τ) (spec1_3.stage ((cfgL a).slots t 3)) fullShare (((cfgL a).win 3).fill ((cfgL a).grid.coords t) d (((cfgL a).win 3).cut ((cfgL a).grid.coords t) ((logitsDat a W c).after 3 t)))) ∗ (∃ d, owns (c : Thread nD τ) (spec1_4.stage ((cfgL a).slots t 4)) fullShare (((cfgL a).win 4).fill ((cfgL a).grid.coords t) d (((cfgL a).win 4).cut ((cfgL a).grid.coords t) ((logitsDat a W c).after 4 t)))) ∗ (∃ d, owns (c : Thread nD τ) (spec1_5.stage ((cfgL a).slots t 5)) fullShare (((cfgL a).win 5).fill ((cfgL a).grid.coords t) d (((cfgL a).win 5).cut ((cfgL a).grid.coords t) ((logitsDat a W c).after 5 t)))) ∗ (∃ d, owns (c : Thread nD τ) (spec1_6.stage ((cfgL a).slots t 6)) fullShare (((cfgL a).win 6).fill ((cfgL a).grid.coords t) d (((cfgL a).win 6).cut ((cfgL a).grid.coords t) ((logitsDat a W c).after 6 t)))) ∗ (∃ d, owns (c : Thread nD τ) (spec1_7.stage ((cfgL a).slots t 7)) fullShare (((cfgL a).win 7).fill ((cfgL a).grid.coords t) d (((cfgL a).win 7).cut ((cfgL a).grid.coords t) ((logitsDat a W c).after 7 t)))) ∗ (∃ X, ⌜Rl1 a W c 8 t X⌝ ∗ owns (c : Thread nD τ) (spec1_8.stage ((cfgL a).slots t 8)) fullShare X) ∗ (∃ X, ⌜Rl1 a W c 9 t X⌝ ∗ owns (c : Thread nD τ) (spec1_9.stage ((cfgL a).slots t 9)) fullShare X) ∗ (∃ X, ⌜Rl1 a W c 10 t X⌝ ∗ owns (c : Thread nD τ) (spec1_10.stage ((cfgL a).slots t 10)) fullShare X) ∗ (∃ X, ⌜Rl1 a W c 11 t X⌝ ∗ owns (c : Thread nD τ) (spec1_11.stage ((cfgL a).slots t 11)) fullShare X))

/-- The body at any point, by `runAny`. -/
theorem sound_body1 (t : Fin (cfgL a).N) :
    bodyPre1 a W c t ⊢ wp frame (wpE (defs₀ (F := F)) Variants.none c none) Set.univ (cc1_logits (dynb1 a.1) (Pipeline.Grid.Coords.static grid1 ((cfgL a).grid.coords t)) (pointWord a t) (Memref.whole main_arg12) (Memref.isWhole_whole _) (spec1_0.stage ((cfgL a).slots t 0)) (hstage1_0 (((cfgL a).slots t 0).cast nbuf1_0)) (spec1_1.stage ((cfgL a).slots t 1)) (hstage1_1 (((cfgL a).slots t 1).cast nbuf1_1)) (spec1_2.stage ((cfgL a).slots t 2)) (hstage1_2 (((cfgL a).slots t 2).cast nbuf1_2)) (spec1_3.stage ((cfgL a).slots t 3)) (hstage1_3 (((cfgL a).slots t 3).cast nbuf1_3)) (spec1_4.stage ((cfgL a).slots t 4)) (hstage1_4 (((cfgL a).slots t 4).cast nbuf1_4)) (spec1_5.stage ((cfgL a).slots t 5)) (hstage1_5 (((cfgL a).slots t 5).cast nbuf1_5)) (spec1_6.stage ((cfgL a).slots t 6)) (hstage1_6 (((cfgL a).slots t 6).cast nbuf1_6)) (spec1_7.stage ((cfgL a).slots t 7)) (hstage1_7 (((cfgL a).slots t 7).cast nbuf1_7)) (spec1_8.stage ((cfgL a).slots t 8)) (hstage1_8 (((cfgL a).slots t 8).cast nbuf1_8)) (spec1_9.stage ((cfgL a).slots t 9)) (hstage1_9 (((cfgL a).slots t 9).cast nbuf1_9)) (spec1_10.stage ((cfgL a).slots t 10)) (hstage1_10 (((cfgL a).slots t 10).cast nbuf1_10)) (spec1_11.stage ((cfgL a).slots t 11)) (hstage1_11 (((cfgL a).slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _)) (fun _ => bodyPost1 a W c t) := by
  unfold bodyPre1 bodyPost1
  rw [show (logitsDat a W c).Φ t.succ = logitsInv a W c (t.val + 1) from rfl, show (logitsDat a W c).Φ t.castSucc = logitsInv a W c t.val from rfl,
    show (logitsDat a W c).owesAt () t.succ = (logitsDat a W c).owesAt () t.castSucc from rfl]
  unfold logitsInv
  iintro ⟨⟨⟨%M, %hM, HS1, HS2, HS3, HS4⟩, HS0, HR, Hp, Hn, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, -, H8⟩, ⟨%Y9, -, H9⟩, ⟨%Y10, -, H10⟩, ⟨%Y11, -, H11⟩⟩
  have hR : Reach a W c (t.val + 1) (step (pointWord a t) (a.1 1) ((logitsDat a W c).before 0 t d0) ((logitsDat a W c).before 1 t d1) ((logitsDat a W c).before 2 t d2) ((logitsDat a W c).before 3 t d3) ((logitsDat a W c).before 4 t d4) ((logitsDat a W c).before 5 t d5) ((logitsDat a W c).before 6 t d6) ((logitsDat a W c).before 7 t d7) M) :=
    ⟨t.isLt, M, _, _, _, _, _, _, _, _, hM, ⟨⟨d0, before1_0 a W c t d0⟩, ⟨d1, before1_1 a W c t d1⟩, ⟨d2, before1_2 a W c t d2⟩, ⟨d3, before1_3 a W c t d3⟩, ⟨d4, before1_4 a W c t d4⟩, ⟨d5, before1_5 a W c t d5⟩, ⟨d6, before1_6 a W c t d6⟩, ⟨d7, before1_7 a W c t d7⟩⟩, rfl⟩
  iapply (runAny c (dynb1 a.1) (Pipeline.Grid.Coords.static grid1 ((cfgL a).grid.coords t)) (pointWord a t) (Memref.whole main_arg12) (Memref.isWhole_whole _) (spec1_0.stage ((cfgL a).slots t 0)) (hstage1_0 (((cfgL a).slots t 0).cast nbuf1_0)) (spec1_1.stage ((cfgL a).slots t 1)) (hstage1_1 (((cfgL a).slots t 1).cast nbuf1_1)) (spec1_2.stage ((cfgL a).slots t 2)) (hstage1_2 (((cfgL a).slots t 2).cast nbuf1_2)) (spec1_3.stage ((cfgL a).slots t 3)) (hstage1_3 (((cfgL a).slots t 3).cast nbuf1_3)) (spec1_4.stage ((cfgL a).slots t 4)) (hstage1_4 (((cfgL a).slots t 4).cast nbuf1_4)) (spec1_5.stage ((cfgL a).slots t 5)) (hstage1_5 (((cfgL a).slots t 5).cast nbuf1_5)) (spec1_6.stage ((cfgL a).slots t 6)) (hstage1_6 (((cfgL a).slots t 6).cast nbuf1_6)) (spec1_7.stage ((cfgL a).slots t 7)) (hstage1_7 (((cfgL a).slots t 7).cast nbuf1_7)) (spec1_8.stage ((cfgL a).slots t 8)) (hstage1_8 (((cfgL a).slots t 8).cast nbuf1_8)) (spec1_9.stage ((cfgL a).slots t 9)) (hstage1_9 (((cfgL a).slots t 9).cast nbuf1_9)) (spec1_10.stage ((cfgL a).slots t 10)) (hstage1_10 (((cfgL a).slots t 10).cast nbuf1_10)) (spec1_11.stage ((cfgL a).slots t 11)) (hstage1_11 (((cfgL a).slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _)
    (a.1 1) ((logitsDat a W c).before 0 t d0) ((logitsDat a W c).before 1 t d1) ((logitsDat a W c).before 2 t d2) ((logitsDat a W c).before 3 t d3) ((logitsDat a W c).before 4 t d4) ((logitsDat a W c).before 5 t d5) ((logitsDat a W c).before 6 t d6) ((logitsDat a W c).before 7 t d7) Y10 Y11 M Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨HT, H0, H1, H2, H3, H4, H5, H6, H7, ⟨%X8, H8⟩, ⟨%X9, H9⟩, ⟨%X10, %h10, H10⟩, ⟨%X11, %h11, H11⟩, HS0, HS1, HS2, HS3, HS4⟩
  isplitl [HS0 HS1 HS2 HS3 HS4 HR Hp Hn HT]
  · isplitl [HS1 HS2 HS3 HS4]
    · iexists _; isplitr
      · ipureintro; exact hR
      isplitl [HS1]; · iexact HS1
      isplitl [HS2]; · iexact HS2
      isplitl [HS3]; · iexact HS3
      iexact HS4
    isplitl [HS0]; · iexact HS0
    isplitl [HR]; · iexact HR
    isplitl [Hp]; · iexact Hp
    isplitl [Hn]; · iexact Hn
    iexact HT
  isplitl [Ho]; · iexact Ho
  isplitl [H0]
  · iapply (owns_of_eq (before1_0_after a W c t d0)); iexact H0
  isplitl [H1]
  · iapply (owns_of_eq (before1_1_after a W c t d1)); iexact H1
  isplitl [H2]
  · iapply (owns_of_eq (before1_2_after a W c t d2)); iexact H2
  isplitl [H3]
  · iexists d3; iapply (owns_of_eq (before1_3_loose a W c t d3)); iexact H3
  isplitl [H4]
  · iexists d4; iapply (owns_of_eq (before1_4_loose a W c t d4)); iexact H4
  isplitl [H5]
  · iexists d5; iapply (owns_of_eq (before1_5_loose a W c t d5)); iexact H5
  isplitl [H6]
  · iexists d6; iapply (owns_of_eq (before1_6_loose a W c t d6)); iexact H6
  isplitl [H7]
  · iexists d7; iapply (owns_of_eq (before1_7_loose a W c t d7)); iexact H7
  isplitl [H8]
  · iexists X8; isplitr
    · ipureintro; exact trivial
    iexact H8
  isplitl [H9]
  · iexists X9; isplitr
    · ipureintro; exact trivial
    iexact H9
  isplitl [H10]
  · iexists X10; isplitr
    · ipureintro; exact fun h => ⟨_, hR, h10 h⟩
    iexact H10
  iexists X11; isplitr
  · ipureintro; exact fun h => ⟨_, hR, h11 h⟩
  iexact H11

/-- The body table's row at point `t`'s slots. -/
theorem defs₀_row1 (t : Fin (cfgL a).N) :
    defs₀ (F := F) .tc (cfgL a).body ((cfgL a).bodyArgs t ((cfgL a).slots t)) = cc1_logits (dynb1 a.1) (Pipeline.Grid.Coords.static grid1 ((cfgL a).grid.coords t)) (pointWord a t) (Memref.whole main_arg12) (Memref.isWhole_whole _) (spec1_0.stage ((cfgL a).slots t 0)) (hstage1_0 (((cfgL a).slots t 0).cast nbuf1_0)) (spec1_1.stage ((cfgL a).slots t 1)) (hstage1_1 (((cfgL a).slots t 1).cast nbuf1_1)) (spec1_2.stage ((cfgL a).slots t 2)) (hstage1_2 (((cfgL a).slots t 2).cast nbuf1_2)) (spec1_3.stage ((cfgL a).slots t 3)) (hstage1_3 (((cfgL a).slots t 3).cast nbuf1_3)) (spec1_4.stage ((cfgL a).slots t 4)) (hstage1_4 (((cfgL a).slots t 4).cast nbuf1_4)) (spec1_5.stage ((cfgL a).slots t 5)) (hstage1_5 (((cfgL a).slots t 5).cast nbuf1_5)) (spec1_6.stage ((cfgL a).slots t 6)) (hstage1_6 (((cfgL a).slots t 6).cast nbuf1_6)) (spec1_7.stage ((cfgL a).slots t 7)) (hstage1_7 (((cfgL a).slots t 7).cast nbuf1_7)) (spec1_8.stage ((cfgL a).slots t 8)) (hstage1_8 (((cfgL a).slots t 8).cast nbuf1_8)) (spec1_9.stage ((cfgL a).slots t 9)) (hstage1_9 (((cfgL a).slots t 9).cast nbuf1_9)) (spec1_10.stage ((cfgL a).slots t 10)) (hstage1_10 (((cfgL a).slots t 10).cast nbuf1_10)) (spec1_11.stage ((cfgL a).slots t 11)) (hstage1_11 (((cfgL a).slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) := by
  unfold defs₀; rw [Defs.onTc_tc]; rfl

/-- The body obligation of the logits region. -/
theorem body_obligation1 : BodyObligationRel (logitsDat a W c) (defs₀ (F := F)) Variants.none () Set.univ fgt1 (Rl1 a W c) := fun t => by
  rw [bigSep_W1, bigSep_W1, defs₀_row1]
  exact triple_restated (sound_body1 a W c t) rfl .rfl fun _ => .rfl

end Cert.KernelIdeal.Hand

end

end
-- ==== Proof.RegionRel.lean ====
/-
  A kernel region with prefetched tables, left at contents that are known only through what the write-backs must meet: the record of a
  pipeline whose proof data are read with some windows held to a relation, over any set of held buffers that contains its arrays and tables.
-/
module

public import Idealize.ShloMosaic.Lib.Pipeline.DatRel
public import Idealize.ShloMosaic.Lib.Pipeline.RegionArraysF
public import Idealize.ShloMosaic.Lib.Pipeline.RegionArraysTS

@[expose] public section

noncomputable section

namespace Idealize.ShloMosaic

open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {Ix : Type} [DecidableEq Ix] {Name : Type} [DecidableEq Name] {U : Type} [URA U] {Lvl : Type} [Preorder Lvl]

local notation "𝕄" => MT nD τ sig Ix Val Name U Lvl

namespace Pipeline

open PCS
open Idealize.ShloMosaic.Rounds

variable {Λ₀ : SL.Sem.Labels} {P : Type} [Fintype P]

omit [Fintype P] [Preorder Lvl] in
/-- The arrays after a region, at some contents each of which the relational data admit. -/
theorem RDat.arraysAt_some [∀ e, Nonempty (Val e)] {cfg : Cfg sig Λ₀} {c : Dev nD} (r : RDat τ Val Ix Name U Lvl cfg c) (n : Nat) :
    (r.arraysAt n : sProp 𝕄) ⊢ iprop(∃ A : (w : Fin cfg.W) → Buf Val ((cfg.win w).arr.view.loc (c.tc : Thread nD τ)),
      ⌜∀ w, r.ArrAt w n (A w)⌝ ∗ r.arrays A) := by
  unfold RDat.arraysAt RDat.arrays
  refine (BI.bigSep_exists_pi Finset.univ _).trans ?_
  iintro ⟨%A, H⟩
  ihave H' := (BI.bigSep_pure_sep Finset.univ (fun w => r.ArrAt w n (A w)) _) $$ H
  icases H' with ⟨%hA, H⟩
  iexists A
  isplitr
  · ipureintro; exact fun w => hA w (Finset.mem_univ w)
  iexact H

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl)
  (fgt : (p : P) → Fin (pin pcs a p).W → Bool)
  (Rl : (p : P) → Dev nD → (w : Fin (pin pcs a p).W) → Fin (pin pcs a p).N → (((pin pcs a p).win w).block.Idx → Val ((pin pcs a p).win w).elt) → Prop)
  (p : P) (D : Dev nD → CellTallies nD τ sig Ix)

/-- The exact data of every pipeline read as relational data, the windows that `fgt` marks held to `Rl`. -/
abbrev toRsRel : (p : P) → (c : Dev nD) → RDat τ Val Ix Name U Lvl (pin pcs a p) c := fun p c => (pdats p c).toRRel (fgt p) (Rl p c)

/-- What the arrays may hold when the region is left. -/
abbrev ExitArrays (c : Dev nD) : Type :=
  { A : (w : Fin (pin pcs a p).W) → Buf Val (((pin pcs a p).win w).arr.view.loc (c.tc : Thread nD τ)) //
    ∀ w, (toRsRel pcs a pdats fgt Rl p c).ArrAt w (pin pcs a p).N (A w) }

omit [Fintype P] in
variable {pcs a pdats fgt Rl p} in
/-- An input window's array is left at its entry contents. -/
theorem ExitArrays.input (c : Dev nD) (A : ExitArrays pcs a pdats fgt Rl p c) (w : Fin (pin pcs a p).W)
    (hw : ((pin pcs a p).win w).isOut = false) : A.1 w = (pdats p c).A w :=
  (congrFun (RDat.ArrAt_in (toRsRel pcs a pdats fgt Rl p c) w hw (pin pcs a p).N) (A.1 w)).mp (A.2 w)

/-- Pipeline `p`'s region, entered with the buffers of `S` held at `W c` and left with them at `mk c A` for some admitted contents `A` of its
    arrays: `mk c A` has the arrays at `A` and every other buffer of `S` as it was. -/
def RDat.RegionSeg.ofHeldRel [∀ e, Nonempty (Val e)] (S : Finset (DevRef τ sig)) (hS : arrRefs (pcs p).spec ⊆ S) (hS' : tblRefs (pcs p).pre ⊆ S)
    (X Y : Dev nD → sProp 𝕄) (kit : PLaunchFacts (nD := nD) (τ := τ) pcs p)
    (hbody : ∀ c, (toRsRel pcs a pdats fgt Rl p c).BodyObligation defs₀ 𝒱₀ ι Set.univ)
    (howed : ∀ c t, (pdats p c).owed t = D c) (hrec : ∀ c, (pdats p c).recorded 0 = Set.univ)
    (hshare : ∀ c w, (pdats p c).share w = fullShare)
    (hin : ∀ c, iprop(iprop(scopedRest (pin pcs a p).spec c ∗ X c) ∗ tablesAt pcs a p c) ⊢ (pdats p c).Φ 0)
    (hout : ∀ c, (pdats p c).Φ (Fin.last (pin pcs a p).N) ⊢ iprop(iprop(scopedRest (pin pcs a p).spec c ∗ Y c) ∗ tablesAt pcs a p c))
    (b : Dev nD → Lvl) (hcut : LevelCut pcs a ι L lv p D b) (R : Dev nD → sProp 𝕄)
    (W : Dev nD → Valuation τ sig Val)
    (mk : (c : Dev nD) → ((w : Fin (pin pcs a p).W) → Buf Val (((pin pcs a p).win w).arr.view.loc (c.tc : Thread nD τ))) → Valuation τ sig Val)
    (hmkA : ∀ c, ∀ A : ExitArrays pcs a pdats fgt Rl p c, ∀ w, A.1 w = mk c A.1 (Proc.devRef .tc (arrRef (pin pcs a p).spec w)))
    (hmkO : ∀ c A, ∀ d ∈ S \ arrRefs (pcs p).spec, mk c A d = W c d)
    (hW : ∀ c w, (pdats p c).arrAt w 0 = W c (Proc.devRef .tc (arrRef (pin pcs a p).spec w)))
    (hT : ∀ c k, (a p).1 k = W c (Proc.devRef .tc ((pcs p).pre.ref k))) :
    RDat.RegionSeg pcs a (toRsRel pcs a pdats fgt Rl) ι defs₀ 𝒱₀ L lv p where
  win := kit.to₀.win
  block_pos := kit.to₀.block_pos
  stage_whole := kit.to₀.stage_whole
  K := PEmpty
  osem k := k.elim
  ho := OwnSemFacts.none _
  hbody := hbody
  hwaits c := RDat.cellsWaits_of_cut (pin pcs a) (toRsRel pcs a pdats fgt Rl) ι p c (b c) (D c) (howed c) (hcut.hι c) (hcut.hιb c) (hcut.hD c)
  pre c := iprop(StableHlo.held (c.tc : Thread nD τ) S (W c) ∗ ((∃ Wd, owes (c : Thread nD τ) (D c) Wd) ∗ X c ∗ R c))
  post c := iprop((∃ A : ExitArrays pcs a pdats fgt Rl p c, StableHlo.held (c.tc : Thread nD τ) S (mk c A.1))
    ∗ ((∃ Wd, owes (c : Thread nD τ) (D c) Wd) ∗ Y c ∗ R c))
  X := X
  Y c := iprop(Y c ∗ tablesAt pcs a p c)
  Z c := iprop(StableHlo.held (c.tc : Thread nD τ) ((S \ arrRefs (pcs p).spec) \ tblRefs (pcs p).pre) (W c) ∗ R c)
  hentry c := by
    show _ ⊢ |={Set.univ}=> iprop((pdats p c).arrays ((pdats p c).arrAt · 0) ∗ prefHeld (pcs p).pre c (fun _ => fullShare) (a p).1
        ∗ (pdats p c).owesAt ι 0 ∗ _ ∗ _)
    rw [ownSems0_none, prefHeld_held (pcs p).pre kit.pre.inj c (a p).1 (W c) (hT c),
      StableHlo.held_sub_split (c.tc : Thread nD τ) hS (W c),
      StableHlo.held_sub_split (c.tc : Thread nD τ) (tblRefs_sub_sdiff (pcs p).spec (pcs p).pre kit.pre.disj hS') (W c),
      ← arrays_held pcs a pdats p kit c (hshare c) ((pdats p c).arrAt · 0) (W c) (hW c)]
    iintro ⟨⟨⟨Ha, Ht, Hu⟩, HO, HX, HR⟩, -, -⟩
    imodintro
    isplitl [Ha]; · iexact Ha
    isplitl [Ht]; · iexact Ht
    isplitl [HO]
    · unfold Dat.owesAt owesWithin Dat.bound
      rw [howed c 0, hrec c]
      icases HO with ⟨%Wd, HO⟩; iexists Wd; isplitr; · ipureintro; exact fun _ _ => Or.inl trivial
      iexact HO
    isplitl [HX]; · iexact HX
    isplitl [Hu]; · iexact Hu
    iexact HR
  hin c := (show _ ⊢ iprop(iprop(scopedRest (pin pcs a p).spec c ∗ X c) ∗ tablesAt pcs a p c) from by
    iintro ⟨HX, Hpf, Hr⟩
    isplitl [Hr HX]; · isplitl [Hr] <;> iassumption
    iexact Hpf).trans (hin c)
  hout c := (hout c).trans (by
    rw [ownSems0_none]
    iintro ⟨⟨Hr, HY⟩, Ht⟩
    isplitl [HY Ht]; · isplitl [HY] <;> iassumption
    isplitr; · iempintro
    iexact Hr)
  hexit c := by
    show iprop(((pdats p c).toRRel (fgt p) (Rl p c)).arraysAt (pin pcs a p).N ∗ (pdats p c).owesAt ι (Fin.last (pin pcs a p).N) ∗ _ ∗ _) ⊢ _
    have hsome : (((pdats p c).toRRel (fgt p) (Rl p c)).arraysAt (pin pcs a p).N : sProp 𝕄)
        ⊢ iprop(∃ A : (w : Fin (pin pcs a p).W) → Buf Val (((pin pcs a p).win w).arr.view.loc (c.tc : Thread nD τ)),
          ⌜∀ w, ((pdats p c).toRRel (fgt p) (Rl p c)).ArrAt w (pin pcs a p).N (A w)⌝ ∗ (pdats p c).arrays A) :=
      ((pdats p c).toRRel (fgt p) (Rl p c)).arraysAt_some (pin pcs a p).N
    iintro ⟨Ha, HO, ⟨HY, Ht⟩, ⟨Hu, HR⟩⟩
    ihave Ha := hsome $$ Ha
    icases Ha with ⟨%A, %hA, Ha⟩
    imodintro
    isplitl [Ha Ht Hu]
    · iexists ⟨A, hA⟩
      rw [StableHlo.held_sub_split (c.tc : Thread nD τ) hS (mk c A),
        StableHlo.held_congr (c.tc : Thread nD τ) (S := S \ arrRefs (pcs p).spec) (V := mk c A) (V' := W c) (hmkO c A),
        StableHlo.held_sub_split (c.tc : Thread nD τ) (tblRefs_sub_sdiff (pcs p).spec (pcs p).pre kit.pre.disj hS') (W c),
        ← prefHeld_held (pcs p).pre kit.pre.inj c (a p).1 (W c) (hT c),
        ← arrays_held pcs a pdats p kit c (hshare c) A (mk c A) (hmkA c ⟨A, hA⟩)]
      isplitl [Ha]; · iexact Ha
      isplitl [Ht]; · iexact Ht
      iexact Hu
    isplitl [HO]
    · unfold Dat.owesAt owesWithin
      rw [howed c (Fin.last _)]
      icases HO with ⟨%Wd, -, HO⟩; iexists Wd; iexact HO
    isplitl [HY]; · iexact HY
    iexact HR

end Pipeline

end Idealize.ShloMosaic

end
-- ==== Proof.Run.lean ====
/-
  The whole kernel program, run: the records of its two regions, and what every execution ends in.
-/
module

public import proofs.«01_k».proof.Proof.Prep
public import proofs.«01_k».proof.Proof.Logits
public import proofs.«01_k».proof.Proof.RegionRel
public import Idealize.ShloMosaic.Lib.Pipeline.RegionsOwned
public import Idealize.ShloMosaic.Lib.Pipeline.RegionArraysTS
public import Idealize.ShloMosaic.Lib.Pipeline.FrameTail

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The contents of each region's tables. -/
def adms : (p : Fin 2) → (pcfgs (F := F) p).Adm
  | 0 => cfg0.toPCfg_adm
  | 1 => adm1 m 0

/-- What the first region leaves in the buffers it may change. -/
def outs0 : Outs (F := F) := fun _ r c => Pipeline.afterRegion (prepDat m c) (V1 m c) (Proc.devRef .tc r)

/-- The proof data of both regions: the second is entered at the contents the host leaves before it. -/
def dats : (p : Fin 2) → (c : Dev nD) → Dat τ (Elt F) Unit ℕ (UR sig nD τ) ℕ (Pipeline.pin (pcfgs (F := F)) (adms m) p) c
  | 0 => prepDat m
  | 1 => fun c => logitsDat (adm1 m 0) (V7 m (outs0 m) c) c

/-- The windows held to a relation: the outputs of the second region. -/
def fgts : (p : Fin 2) → Fin (Pipeline.pin (pcfgs (F := F)) (adms m) p).W → Bool
  | 0 => fun _ => false
  | 1 => fgt1

def Rls : (p : Fin 2) → Dev nD → (w : Fin (Pipeline.pin (pcfgs (F := F)) (adms m) p).W) → Fin (Pipeline.pin (pcfgs (F := F)) (adms m) p).N →
    (((Pipeline.pin (pcfgs (F := F)) (adms m) p).win w).block.Idx → Elt F ((Pipeline.pin (pcfgs (F := F)) (adms m) p).win w).elt) → Prop
  | 0 => fun _ _ _ _ => True
  | 1 => fun c => Rl1 (adm1 m 0) (V7 m (outs0 m) c) c

/-- What the arrays of the second region may hold when it is left. -/
abbrev Exit1 (c : Dev nD) : Type := Pipeline.ExitArrays (pcfgs (F := F)) (adms m) (dats m) (fgts m) (Rls m) 1 c

/-- What the regions leave, the second region's arrays left at `A`. -/
def outsA (c : Dev nD) (A : (w : Fin 12) → Buf (Elt F) ((spec1 w).arr.view.loc (c.tc : Thread nD τ))) : Outs (F := F) := fun n r c' =>
  match n with
  | 8 => Pipeline.withArrays spec1 c (V7 m (outs0 m) c) A (Proc.devRef .tc r)
  | _ => outs0 m n r c'

theorem V7_outsA (c : Dev nD) (A) (c' : Dev nD) : V7 m (outsA m c A) c' = V7 m (outs0 m) c' := rfl

abbrev L : GSem nD τ sig → Finset Unit := fun g => match g.1.2 with | .tc => {()} | _ => ∅
abbrev lv : GSem nD τ sig → Unit → ℕ := fun _ _ => 0

/-- What rides along beside the buffers: nothing owed, and the generator register at anything. -/
abbrev rest (c : Dev nD) : sProp 𝕄 := iprop((∃ Wd, owes (c : Thread nD τ) (0 : CellTallies nD τ sig Unit) Wd) ∗ (∃ r, prngReg c r) ∗ emp)

theorem cut (p : Fin 2) : Pipeline.LevelCut (pcfgs (F := F)) (adms m) () L lv p (fun _ => 0) (fun _ => 0) where
  hι _ _ _ := Finset.mem_singleton_self _
  hιb _ _ _ := le_refl 0
  hD _ _ _ h := absurd h (lt_irrefl _)

theorem tables0 (c : Dev nD) (q) (pf) : (Pipeline.prefHeld (Ix := Unit) (Name := ℕ) (U := UR sig nD τ) (Lvl := ℕ) (Val := Elt F) (pcfgs (F := F) 0).pre c q pf : sProp 𝕄) = BI.emp :=
  bigSep_univ_eq_bigSepL (I := Fin 0) [] (show Finset.univ = ([] : List (Fin 0)).toFinset by decide) List.nodup_nil _

theorem tables1 (c : Dev nD) (pf : pre1.Contents (Elt F)) : (Pipeline.prefHeld (Ix := Unit) (Name := ℕ) (U := UR sig nD τ) (Lvl := ℕ) (Val := Elt F) pre1 c (fun _ => fullShare) pf : sProp 𝕄)
    = iprop((((c.tc : Thread nD τ).loc (pre1.ref 0)) ↦{fullShare} pf 0) ∗ (((c.tc : Thread nD τ).loc (pre1.ref 1)) ↦{fullShare} pf 1)) :=
  bigSep_univ_eq_bigSepL [(0 : Fin 2), (1 : Fin 2)] (by decide) (by decide) _

/-- The first region leaves its arrays at what its proof data name. -/
theorem exit0 (c : Dev nD) (A : Pipeline.ExitArrays (pcfgs (F := F)) (adms m) (dats m) (fgts m) (Rls m) 0 c) (w : Fin 8) :
    A.1 w = (prepDat m c).arrAt w cfg0.N :=
  ((prepDat m c).toR_arrAt_iff w cfg0.N (A.1 w)).mp (A.2 w)

section Updates
variable {α : Type} [DecidableEq α] {β : α → Type} (f : (i : α) → β i) {a b c d : α} (x : β a) (y : β b) (z : β c) (w : β d)

/-- Four updates, read at the first place, -/
theorem upd_a (h1 : a ≠ b) (h2 : a ≠ c) (h3 : a ≠ d) : Function.update (Function.update (Function.update (Function.update f a x) b y) c z) d w a = x := by
  rw [Function.update_of_ne h3, Function.update_of_ne h2, Function.update_of_ne h1, Function.update_self]
/-- the second, -/
theorem upd_b (h2 : b ≠ c) (h3 : b ≠ d) : Function.update (Function.update (Function.update (Function.update f a x) b y) c z) d w b = y := by
  rw [Function.update_of_ne h3, Function.update_of_ne h2, Function.update_self]
/-- the third, -/
theorem upd_c (h3 : c ≠ d) : Function.update (Function.update (Function.update (Function.update f a x) b y) c z) d w c = z := by
  rw [Function.update_of_ne h3, Function.update_self]
/-- the fourth, -/
theorem upd_d : Function.update (Function.update (Function.update (Function.update f a x) b y) c z) d w d = w := by
  rw [Function.update_self]
/-- and elsewhere. -/
theorem upd_off {e : α} (h0 : e ≠ a) (h1 : e ≠ b) (h2 : e ≠ c) (h3 : e ≠ d) : Function.update (Function.update (Function.update (Function.update f a x) b y) c z) d w e = f e := by
  rw [Function.update_of_ne h3, Function.update_of_ne h2, Function.update_of_ne h1, Function.update_of_ne h0]
end Updates

theorem V2_in (c : Dev nD) (w : Fin 8) (hw : (win0 w).isOut = false)
    (hr : Pipeline.arrRef spec0 w ∉ ([main_v22_0, main_v22_1, main_v22_2, main_v22_3] : List (Ref sig .tc))) :
    V2 m (outs0 m) c (Proc.devRef .tc (Pipeline.arrRef spec0 w)) = (prepDat m c).arrAt w cfg0.N :=
  (V2_of m (outs0 m) c _ hr).trans ((A_eq m c w).symm.trans ((prepDat m c).arrAt_in w hw _).symm)

theorem after0_arr (c : Dev nD) (w : Fin 8) :
    Pipeline.afterRegion (prepDat m c) (V1 m c) (Proc.devRef .tc (Pipeline.arrRef spec0 w)) = (prepDat m c).arrAt w cfg0.N :=
  Pipeline.afterRegion_arr (prepDat m c) (V1 m c) winFacts0.arr_inj w

theorem V2_out4 (c : Dev nD) : V2 m (outs0 m) c main_v22_0 = (prepDat m c).arrAt 4 cfg0.N :=
  (upd_a (V1 m c) _ _ _ _ (by decide) (by decide) (by decide)).trans (after0_arr m c 4)

theorem V2_out5 (c : Dev nD) : V2 m (outs0 m) c main_v22_1 = (prepDat m c).arrAt 5 cfg0.N :=
  (upd_b (V1 m c) _ _ _ _ (by decide) (by decide)).trans (after0_arr m c 5)

theorem V2_out6 (c : Dev nD) : V2 m (outs0 m) c main_v22_2 = (prepDat m c).arrAt 6 cfg0.N :=
  (upd_c (V1 m c) _ _ _ _ (by decide)).trans (after0_arr m c 6)

theorem V2_out7 (c : Dev nD) : V2 m (outs0 m) c main_v22_3 = (prepDat m c).arrAt 7 cfg0.N :=
  (upd_d (V1 m c) _ _ _ _ ).trans (after0_arr m c 7)

/-- After the first call its arrays hold what its points leave. -/
theorem V2_arr (c : Dev nD) (w : Fin 8) : V2 m (outs0 m) c (Proc.devRef .tc (Pipeline.arrRef spec0 w)) = (prepDat m c).arrAt w cfg0.N :=
  match w with
  | 0 => V2_in m c 0 rfl (by decide)
  | 1 => V2_in m c 1 rfl (by decide)
  | 2 => V2_in m c 2 rfl (by decide)
  | 3 => V2_in m c 3 rfl (by decide)
  | 4 => V2_out4 m c
  | 5 => V2_out5 m c
  | 6 => V2_out6 m c
  | 7 => V2_out7 m c

theorem not_arr {gr W : ℕ} {win : Fin W → Pipeline.WinSpec sig gr} {S : Finset (DevRef τ sig)} {d : DevRef τ sig}
    (hd : d ∈ S \ Pipeline.arrRefs win) (w : Fin W) : d ≠ Proc.devRef .tc (Pipeline.arrRef win w) := fun e =>
  (Finset.mem_sdiff.mp hd).2 (Finset.mem_map.mpr ⟨_, Finset.mem_image.mpr ⟨w, Finset.mem_univ _, rfl⟩, e.symm⟩)

/-- Other arrays are as before the first call. -/
theorem V2_off (c : Dev nD) (d) (hd : d ∈ Pipeline.ucRefs τ sig \ Pipeline.arrRefs spec0) : V2 m (outs0 m) c d = V1 m c d := by
  exact upd_off (V1 m c) _ _ _ _ (not_arr hd 4) (not_arr hd 5) (not_arr hd 6) (not_arr hd 7)

/-- Other arrays are as before the second call. -/
theorem V8_off (c : Dev nD) (A) (d) (hd : d ∈ Pipeline.ucRefs τ sig \ Pipeline.arrRefs spec1) : V8 m (outsA m c A) c d = V7 m (outs0 m) c d := by
  exact upd_off (V7 m (outs0 m) c) _ _ _ _ (not_arr hd 8) (not_arr hd 9) (not_arr hd 10) (not_arr hd 11)

theorem A1_eq (a : (pcfgs (F := F) 1).Adm) (W : Valuation τ sig (Elt F)) (c : Dev nD) (w : Fin 12) :
    (logitsDat a W c).A w = W (Proc.devRef .tc (Pipeline.arrRef spec1 w)) := rfl

theorem with1_arr (c : Dev nD) (A : (w : Fin 12) → Buf (Elt F) ((spec1 w).arr.view.loc (c.tc : Thread nD τ))) (w : Fin 12) :
    Pipeline.withArrays spec1 c (V7 m (outs0 m) c) A (Proc.devRef .tc (Pipeline.arrRef spec1 w)) = A w :=
  Pipeline.withArrays_arr spec1 winFacts1.arr_inj c (V7 m (outs0 m) c) A w

/-- The second call leaves its inputs. -/
theorem V8_in (c : Dev nD) (A : Exit1 m c) (w : Fin 12) (hw : (spec1 w).isOut = false)
    (hr : Pipeline.arrRef spec1 w ∉ ([main_v29_0, main_v29_1, main_v29_2, main_v29_3] : List (Ref sig .tc))) :
    A.1 w = V8 m (outsA m c A.1) c (Proc.devRef .tc (Pipeline.arrRef spec1 w)) :=
  (Pipeline.ExitArrays.input c A w hw).trans ((A1_eq (adm1 m 0) (V7 m (outs0 m) c) c w).trans (V8_of m (outsA m c A.1) c _ hr).symm)

theorem V8_out8 (c : Dev nD) (A : (w : Fin 12) → Buf (Elt F) ((spec1 w).arr.view.loc (c.tc : Thread nD τ))) : V8 m (outsA m c A) c main_v29_0 = A 8 :=
  (upd_a (V7 m (outs0 m) c) _ _ _ _ (by decide) (by decide) (by decide)).trans (with1_arr m c A 8)

theorem V8_out9 (c : Dev nD) (A : (w : Fin 12) → Buf (Elt F) ((spec1 w).arr.view.loc (c.tc : Thread nD τ))) : V8 m (outsA m c A) c main_v29_1 = A 9 :=
  (upd_b (V7 m (outs0 m) c) _ _ _ _ (by decide) (by decide)).trans (with1_arr m c A 9)

theorem V8_out10 (c : Dev nD) (A : (w : Fin 12) → Buf (Elt F) ((spec1 w).arr.view.loc (c.tc : Thread nD τ))) : V8 m (outsA m c A) c main_v29_2 = A 10 :=
  (upd_c (V7 m (outs0 m) c) _ _ _ _ (by decide)).trans (with1_arr m c A 10)

theorem V8_out11 (c : Dev nD) (A : (w : Fin 12) → Buf (Elt F) ((spec1 w).arr.view.loc (c.tc : Thread nD τ))) : V8 m (outsA m c A) c main_v29_3 = A 11 :=
  (upd_d (V7 m (outs0 m) c) _ _ _ _ ).trans (with1_arr m c A 11)

/-- The second region leaves its input arrays as they were and its output arrays at `A`. -/
theorem V8_arr (c : Dev nD) (A : Exit1 m c) (w : Fin 12) : A.1 w = V8 m (outsA m c A.1) c (Proc.devRef .tc (Pipeline.arrRef spec1 w)) :=
  match w with
  | 0 => V8_in m c A 0 rfl (by decide)
  | 1 => V8_in m c A 1 rfl (by decide)
  | 2 => V8_in m c A 2 rfl (by decide)
  | 3 => V8_in m c A 3 rfl (by decide)
  | 4 => V8_in m c A 4 rfl (by decide)
  | 5 => V8_in m c A 5 rfl (by decide)
  | 6 => V8_in m c A 6 rfl (by decide)
  | 7 => V8_in m c A 7 rfl (by decide)
  | 8 => (V8_out8 m c A.1).symm
  | 9 => (V8_out9 m c A.1).symm
  | 10 => (V8_out10 m c A.1).symm
  | 11 => (V8_out11 m c A.1).symm

/-- The record of the first region. -/
def reg0 : Pipeline.RDat.RegionSeg (pcfgs (F := F)) (adms m) (Pipeline.toRsRel (pcfgs (F := F)) (adms m) (dats m) (fgts m) (Rls m)) () defs₀ Variants.none L lv 0 :=
  Pipeline.RDat.RegionSeg.ofHeldRel (pcfgs (F := F)) (adms m) (dats m) () defs₀ Variants.none L lv (fgts m) (Rls m) 0 (fun _ => 0)
    (Pipeline.ucRefs τ sig) (Pipeline.arrRefs_sub_ucRefs spec0 (by decide)) (Pipeline.tblRefs_sub_ucRefs _ fun k => k.elim0)
    (fun c => iprop(∃ r, prngReg c r)) (fun c => iprop(∃ r, prngReg c r)) launch0
    (hbody := fun c => (body_obligation m c).toR)
    (howed := fun _ _ => rfl) (hrec := fun _ => rfl) (hshare := fun c w => (prepDat m c).share_full (fun _ => rfl) w)
    (hin := fun c => by
      show iprop(iprop(Pipeline.scopedRest spec0 c ∗ (∃ r, prngReg c r)) ∗ _) ⊢ Pipeline.ΦA spec0 c
      unfold Pipeline.ΦA
      iintro ⟨H, -⟩; iexact H)
    (hout := fun c => by
      show Pipeline.ΦA spec0 c ⊢ iprop(iprop(Pipeline.scopedRest spec0 c ∗ (∃ r, prngReg c r)) ∗ Pipeline.prefHeld (pcfgs (F := F) 0).pre c _ _)
      rw [tables0]; unfold Pipeline.ΦA
      iintro H; isplitl [H]; · iexact H
      iempintro)
    (b := fun _ => 0) (hcut := cut m 0) (R := fun _ => iprop(emp)) (W := V1 m) (mk := fun c _ => V2 m (outs0 m) c)
    (hmkA := fun c A w => (exit0 m c A w).trans (V2_arr m c w).symm)
    (hmkO := fun c _ d hd => V2_off m c d hd)
    (hW := fun c w => A_eq m c w)
    (hT := fun c k => k.elim0)

theorem rest1_eq (c : Dev nD) : (Pipeline.scopedRest (Val := Elt F) spec1 c : sProp 𝕄)
    = iprop(((∃ f, (c.tc : Thread nD τ).loc cc1_scratch0 ↦{fullShare} f) ∗ (∃ f, (c.tc : Thread nD τ).loc cc1_scratch1 ↦{fullShare} f)
        ∗ (∃ f, (c.tc : Thread nD τ).loc cc1_scratch2 ↦{fullShare} f) ∗ (∃ f, (c.tc : Thread nD τ).loc cc1_scratch3 ↦{fullShare} f)
        ∗ (∃ f, (c.tc : Thread nD τ).loc cc1_scratch4 ↦{fullShare} f))
      ∗ Pipeline.scopedRestBut spec1 c [cc1_scratch0, cc1_scratch1, cc1_scratch2, cc1_scratch3, cc1_scratch4]) :=
  Pipeline.scopedRest_split_of_list spec1 c [cc1_scratch0, cc1_scratch1, cc1_scratch2, cc1_scratch3, cc1_scratch4] (by decide) (by decide)

theorem arg12_whole (c : Dev nD) (a : (pcfgs (F := F) 1).Adm) : (owns (c.tc : Thread nD τ) (Memref.whole main_arg12) fullShare (a.1 1) : sProp 𝕄)
    = (((c.tc : Thread nD τ).loc (pre1.ref 1)) ↦{fullShare} a.1 1) := owns_whole (c.tc : Thread nD τ) main_arg12 fullShare (a.1 1)

/-- What the second region is entered with is its invariant at the first point. -/
theorem enter1 (a : (pcfgs (F := F) 1).Adm) (W : Valuation τ sig (Elt F)) (c : Dev nD) :
    iprop(iprop(Pipeline.scopedRest spec1 c ∗ (∃ r, prngReg c r)) ∗ Pipeline.prefHeld pre1 c (fun _ => fullShare) a.1) ⊢ (logitsInv a W c 0 : sProp 𝕄) := by
  rw [tables1, rest1_eq, ← arg12_whole]
  unfold logitsInv
  simp only [owns_whole c.tc cc1_scratch0, owns_whole c.tc cc1_scratch1, owns_whole c.tc cc1_scratch2, owns_whole c.tc cc1_scratch3, owns_whole c.tc cc1_scratch4]
  iintro ⟨⟨⟨⟨⟨%f0, H0⟩, ⟨%f1, H1⟩, ⟨%f2, H2⟩, ⟨%f3, H3⟩, ⟨%f4, H4⟩⟩, Hr⟩, Hp⟩, Hn, Hv⟩
  isplitl [H1 H2 H3 H4]
  · iexists (⟨f1, f2, f3, f4⟩ : Stats F); isplitr
    · ipureintro; exact trivial
    isplitl [H1]; · iexact H1
    isplitl [H2]; · iexact H2
    isplitl [H3]; · iexact H3
    iexact H4
  isplitl [H0]; · iexists f0; iexact H0
  isplitl [Hr]; · iexact Hr
  isplitl [Hp]; · iexact Hp
  isplitl [Hn]; · iexact Hn
  iexact Hv

/-- The invariant at any point gives back what the second region is left with. -/
theorem leave1 (a : (pcfgs (F := F) 1).Adm) (W : Valuation τ sig (Elt F)) (c : Dev nD) (n : ℕ) :
    (logitsInv a W c n : sProp 𝕄) ⊢ iprop(iprop(Pipeline.scopedRest spec1 c ∗ (∃ r, prngReg c r)) ∗ Pipeline.prefHeld pre1 c (fun _ => fullShare) a.1) := by
  rw [tables1, rest1_eq, ← arg12_whole]
  unfold logitsInv
  simp only [owns_whole c.tc cc1_scratch0, owns_whole c.tc cc1_scratch1, owns_whole c.tc cc1_scratch2, owns_whole c.tc cc1_scratch3, owns_whole c.tc cc1_scratch4]
  iintro ⟨⟨%M, -, H1, H2, H3, H4⟩, ⟨%f0, H0⟩, Hr, Hp, Hn, Hv⟩
  isplitr [Hn Hv]
  · isplitr [Hp]
    · isplitr [Hr]
      · isplitl [H0]; · iexists f0; iexact H0
        isplitl [H1]; · iexists M.mt; iexact H1
        isplitl [H2]; · iexists M.lt; iexact H2
        isplitl [H3]; · iexists M.ms; iexact H3
        iexists M.ls; iexact H4
      iexact Hr
    iexact Hp
  isplitl [Hn]; · iexact Hn
  iexact Hv

/-- The record of the second region. -/
def reg1 : Pipeline.RDat.RegionSeg (pcfgs (F := F)) (adms m) (Pipeline.toRsRel (pcfgs (F := F)) (adms m) (dats m) (fgts m) (Rls m)) () defs₀ Variants.none L lv 1 :=
  Pipeline.RDat.RegionSeg.ofHeldRel (pcfgs (F := F)) (adms m) (dats m) () defs₀ Variants.none L lv (fgts m) (Rls m) 1 (fun _ => 0)
    (Pipeline.ucRefs τ sig) (Pipeline.arrRefs_sub_ucRefs spec1 (by decide)) (Pipeline.tblRefs_sub_ucRefs pre1 (by decide))
    (fun c => iprop(∃ r, prngReg c r)) (fun c => iprop(∃ r, prngReg c r)) launch1
    (hbody := fun c => (body_obligation1 (adm1 m 0) (V7 m (outs0 m) c) c).toRRel)
    (howed := fun _ _ => rfl) (hrec := fun _ => rfl) (hshare := fun c w => (logitsDat (adm1 m 0) (V7 m (outs0 m) c) c).share_full (fun _ => rfl) w)
    (hin := fun c => enter1 (adm1 m 0) (V7 m (outs0 m) c) c)
    (hout := fun c => leave1 (adm1 m 0) (V7 m (outs0 m) c) c _)
    (b := fun _ => 0) (hcut := cut m 1) (R := fun _ => iprop(emp)) (W := V7 m (outs0 m)) (mk := fun c A => V8 m (outsA m c A) c)
    (hmkA := fun c A w => V8_arr m c A w)
    (hmkO := fun c A d hd => V8_off m c A d hd)
    (hW := fun c w => rfl)
    (hT := fun c k => by
      obtain rfl : c = 0 := Subsingleton.elim _ _
      exact tbl_eq m (outs0 m) 0 k)

/-- The last host stretch, from the contents some admitted exit of the second region leaves. -/
def segLast : HostSeg (Ix := Unit) (Name := ℕ) (U := UR sig nD τ) (Lvl := ℕ) (pcfgs (F := F)) defs₀ Variants.none L lv :=
  Pipeline.HostSeg.ofOpsEx (Γ := Exit1 m) _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun c A => V8 m (outsA m c A.1) c) rest

abbrev segsR (c : Dev nD) : List (Pipeline.RDat.Seg (pcfgs (F := F)) (adms m) (Pipeline.toRsRel (pcfgs (F := F)) (adms m) (dats m) (fgts m) (Rls m)) () defs₀ Variants.none L lv) :=
  [.host (seg0 m Variants.none L lv fun _ => rest), .region (reg0 m), .host (seg2 m (outs0 m) Variants.none L lv fun _ => rest),
    .host (seg3 m (outs0 m) Variants.none L lv fun _ => rest), .host (seg4 m (outs0 m) Variants.none L lv fun _ => rest),
    .host (seg5 m (outs0 m) Variants.none L lv fun _ => rest), .host (seg6 m (outs0 m) Variants.none L lv fun _ => rest),
    .region (reg1 m), .host (segLast m)]

set_option backward.isDefEq.respectTransparency.types false in
/-- Every execution of the program terminates with all counters at zero and every buffer at what the last host stretch leaves after
    some admitted exit of the second region. -/
theorem run_all (ρ : Dev nD → PrngReg) :
    θ_run defs (onTc (τ := τ) (main (F := F))) ⟨m, fun _ => 0, ρ⟩ (fun r =>
      (∀ c : Dev nD, ∃ A : Exit1 m c, ∀ b ∈ Pipeline.ucRefs τ sig, r.2.mem ((c : Dev nD), b) = V9 m (outsA m c A.1) c b) ∧ r.2.sem = fun _ => 0) := by
  refine Pipeline.RDat.θ_run_regions_kit_dev_sems (pcfgs (F := F)) (adms m) _ () (cellOf_inj (adms m)) emb₁ defs₀ Variants.none L lv m ρ main
    (segsR m)
    (fun c Q => by
      rewrite [main_chain c, Pipeline.RDat.Seg.run_eq_chain,
        show (segsR m c).map Pipeline.RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segsR, Pipeline.RDat.Seg.pipes_host, Pipeline.RDat.Seg.pipes_region, Pipeline.RDat.Seg.pipes_nil]; decide)
    (O₀ := 0) (hL := ?hL) (G := fun _ => iprop(emp))
    (u₀ := initOf (Pipeline.cells (Pipeline.pin (pcfgs (F := F)) (adms m)) (cellOf_inj (adms m))) (Pipeline.launchToks (Pipeline.pin (pcfgs (F := F)) (adms m)) (cellOf_inj (adms m))))
    (hu₀ := ?hu)
    (T₀ := fun c => iprop(StableHlo.held (c : Thread nD τ) (Pipeline.ucRefs τ sig) (V0 m c) ∗ rest c))
    (Tₙ := fun c => iprop(∃ A : Exit1 m c, StableHlo.held (c : Thread nD τ) (Pipeline.ucRefs τ sig) (V9 m (outsA m c A.1) c)))
    (hch := fun c => ⟨.rfl, .rfl, ?h2, .rfl, .rfl, .rfl, .rfl, .rfl, .rfl, ?hend⟩)
    (hinit := ?hinit)
    (QY := fun c s => ∃ A : Exit1 m c, ∀ b ∈ Pipeline.ucRefs τ sig, s.mem ((c : Dev nD), b) = V9 m (outsA m c A.1) c b)
    (hfin := fun c s' => ?hfin) (hQ := fun _ h hz => ⟨h, funext fun g => hz g (.inr (regions_no_unscoped g.2))⟩)
  case hL =>
    intro g hg
    show (match g.1.2 with | .tc => {()} | _ => ∅) = (∅ : Finset Unit)
    split
    · next h => exact absurd h hg
    · rfl
  case hu =>
    iintro Hu; imodintro
    isplitl [Hu]
    · iapply (show (ownU _ : sProp 𝕄) ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl); iexact Hu
    iapply (show (BI.emp : sProp 𝕄) ⊢ bigSep Finset.univ (fun _ : Dev nD => (BI.emp : sProp 𝕄)) from by rw [BI.bigSep_emp_const])
    iempintro
  case h2 =>
    show iprop((∃ A : Pipeline.ExitArrays (pcfgs (F := F)) (adms m) (dats m) (fgts m) (Rls m) 0 c, StableHlo.held (c.tc : Thread nD τ) (Pipeline.ucRefs τ sig) (V2 m (outs0 m) c)) ∗ rest c) ⊢ iprop(StableHlo.held (c : Thread nD τ) (Pipeline.ucRefs τ sig) (V2 m (outs0 m) c) ∗ rest c)
    iintro ⟨⟨%A, H⟩, HR⟩
    isplitl [H]; · iexact H
    iexact HR
  case hend =>
    show iprop((∃ A : Exit1 m c, StableHlo.held (c : Thread nD τ) (Pipeline.ucRefs τ sig) (V9 m (outsA m c A.1) c)) ∗ rest c) ⊢ iprop((∃ A : Exit1 m c, StableHlo.held (c : Thread nD τ) (Pipeline.ucRefs τ sig) (V9 m (outsA m c A.1) c)) ∗ ∃ W, owes (c.tc : Thread nD τ) (0 : CellTallies nD τ sig Unit) W)
    iintro ⟨H, ⟨HO, -⟩⟩
    isplitl [H]; · iexact H
    iexact HO
  case hinit =>
    refine Pipeline.initEach L lv fun c => ?_
    rw [show unscopedBufs c (fun b => m ((c.tc : Thread nD τ).loc b)) = StableHlo.held (c.tc : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  case hfin =>
    unfold StableHlo.held
    iintro ⟨⟨%A, Hh⟩, HSI⟩
    ihave Hr := (pointsTo_read_all (Pipeline.ucRefs τ sig) (fun b => ((c : Thread nD τ).1, b)) (V9 m (outsA m c A.1) c) s') $$ [Hh HSI]
    · isplitl [Hh] <;> iassumption
    icases Hr with ⟨%h, HSI⟩
    imodintro
    isplitr
    · ipureintro; exact ⟨A, h⟩
    iexact HSI

/-- An unscoped reference is among those the run accounts for. -/
theorem mem_uc (r : Ref sig .tc) (h : r.isScoped = false) : Proc.devRef .tc r ∈ Pipeline.ucRefs τ sig :=
  Finset.mem_filter.mpr ⟨StableHlo.devRef_mem_tcRefs r, by simpa using h⟩

/-- The frame: every execution terminates, leaves the arguments as they were and all counters at zero. -/
theorem frame_all (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12)) ∧ r.2.sem = fun _ => 0) := by
  refine (θ_run defs _ _).mono (fun r h => ⟨fun c => ?_, h.2⟩) (run_all m ρ)
  obtain ⟨A, hA⟩ := h.1 c
  exact ⟨(hA _ (mem_uc main_arg0 rfl)).trans (V9_main_arg0 m (outsA m c A.1) c), (hA _ (mem_uc main_arg1 rfl)).trans (V9_main_arg1 m (outsA m c A.1) c), (hA _ (mem_uc main_arg2 rfl)).trans (V9_main_arg2 m (outsA m c A.1) c), (hA _ (mem_uc main_arg3 rfl)).trans (V9_main_arg3 m (outsA m c A.1) c), (hA _ (mem_uc main_arg4 rfl)).trans (V9_main_arg4 m (outsA m c A.1) c), (hA _ (mem_uc main_arg5 rfl)).trans (V9_main_arg5 m (outsA m c A.1) c), (hA _ (mem_uc main_arg6 rfl)).trans (V9_main_arg6 m (outsA m c A.1) c), (hA _ (mem_uc main_arg7 rfl)).trans (V9_main_arg7 m (outsA m c A.1) c), (hA _ (mem_uc main_arg8 rfl)).trans (V9_main_arg8 m (outsA m c A.1) c), (hA _ (mem_uc main_arg9 rfl)).trans (V9_main_arg9 m (outsA m c A.1) c), (hA _ (mem_uc main_arg10 rfl)).trans (V9_main_arg10 m (outsA m c A.1) c), (hA _ (mem_uc main_arg11 rfl)).trans (V9_main_arg11 m (outsA m c A.1) c), (hA _ (mem_uc main_arg12 rfl)).trans (V9_main_arg12 m (outsA m c A.1) c)⟩

end Cert.KernelIdeal.Hand

end

end
-- ==== Proof.KernelPrep.lean ====
/-
  The preparation call: what its body leaves in each output window, its triple, the proof data of its pipeline and the body obligation.
-/
module

public import proofs.«01_k».proof.Proof.Gen.Kernel.Regions
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A buffer of core `c` when the preparation is entered. -/
abbrev V (c : Dev nD) (b : Ref sig .tc) : Buf (Elt F) ((c : Thread nD τ).loc b) := V1 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S128x8192 := Rect.unit (s := S128x8192) ![0, 0] S128x8192.size inb_S128x8192_S128x8192_0_0
abbrev r0_1 : Rect S1x8192 := Rect.unit (s := S1x8192) ![0, 0] S1x8192.size inb_S1x8192_S1x8192_0_0
abbrev r0_2 : Rect S128x8192 := Rect.unit (s := S128x8192) ![0, 0] S128x256.size inb_S128x8192_S128x256_0_0
abbrev r0_3 : Rect S128x8192 := Rect.unit (s := S128x8192) ![0, 256] S128x256.size inb_S128x8192_S128x256_0_256
abbrev r0_4 : Rect S128x8192 := Rect.unit (s := S128x8192) ![0, 512] S128x256.size inb_S128x8192_S128x256_0_512
abbrev r0_5 : Rect S128x8192 := Rect.unit (s := S128x8192) ![0, 768] S128x256.size inb_S128x8192_S128x256_0_768
abbrev r0_6 : Rect S128x8192 := Rect.unit (s := S128x8192) ![0, 1024] S128x256.size inb_S128x8192_S128x256_0_1024
abbrev r0_7 : Rect S128x8192 := Rect.unit (s := S128x8192) ![0, 1280] S128x256.size inb_S128x8192_S128x256_0_1280
abbrev r0_8 : Rect S128x8192 := Rect.unit (s := S128x8192) ![0, 1536] S128x256.size inb_S128x8192_S128x256_0_1536
abbrev r0_9 : Rect S128x8192 := Rect.unit (s := S128x8192) ![0, 1792] S128x256.size inb_S128x8192_S128x256_0_1792
abbrev r0_10 : Rect S128x8192 := Rect.unit (s := S128x8192) ![0, 2048] S128x256.size inb_S128x8192_S128x256_0_2048
abbrev r0_11 : Rect S128x8192 := Rect.unit (s := S128x8192) ![0, 2304] S128x256.size inb_S128x8192_S128x256_0_2304
abbrev r0_12 : Rect S128x8192 := Rect.unit (s := S128x8192) ![0, 2560] S128x256.size inb_S128x8192_S128x256_0_2560
abbrev r0_13 : Rect S128x8192 := Rect.unit (s := S128x8192) ![0, 2816] S128x256.size inb_S128x8192_S128x256_0_2816
abbrev r0_14 : Rect S128x8192 := Rect.unit (s := S128x8192) ![0, 3072] S128x256.size inb_S128x8192_S128x256_0_3072
abbrev r0_15 : Rect S128x8192 := Rect.unit (s := S128x8192) ![0, 3328] S128x256.size inb_S128x8192_S128x256_0_3328
abbrev r0_16 : Rect S128x8192 := Rect.unit (s := S128x8192) ![0, 3584] S128x256.size inb_S128x8192_S128x256_0_3584
abbrev r0_17 : Rect S128x8192 := Rect.unit (s := S128x8192) ![0, 3840] S128x256.size inb_S128x8192_S128x256_0_3840
abbrev r0_18 : Rect S128x8192 := Rect.unit (s := S128x8192) ![0, 4096] S128x256.size inb_S128x8192_S128x256_0_4096
abbrev r0_19 : Rect S128x8192 := Rect.unit (s := S128x8192) ![0, 4352] S128x256.size inb_S128x8192_S128x256_0_4352
abbrev r0_20 : Rect S128x8192 := Rect.unit (s := S128x8192) ![0, 4608] S128x256.size inb_S128x8192_S128x256_0_4608
abbrev r0_21 : Rect S128x8192 := Rect.unit (s := S128x8192) ![0, 4864] S128x256.size inb_S128x8192_S128x256_0_4864
abbrev r0_22 : Rect S128x8192 := Rect.unit (s := S128x8192) ![0, 5120] S128x256.size inb_S128x8192_S128x256_0_5120
abbrev r0_23 : Rect S128x8192 := Rect.unit (s := S128x8192) ![0, 5376] S128x256.size inb_S128x8192_S128x256_0_5376
abbrev r0_24 : Rect S128x8192 := Rect.unit (s := S128x8192) ![0, 5632] S128x256.size inb_S128x8192_S128x256_0_5632
abbrev r0_25 : Rect S128x8192 := Rect.unit (s := S128x8192) ![0, 5888] S128x256.size inb_S128x8192_S128x256_0_5888
abbrev r0_26 : Rect S128x8192 := Rect.unit (s := S128x8192) ![0, 6144] S128x256.size inb_S128x8192_S128x256_0_6144
abbrev r0_27 : Rect S128x8192 := Rect.unit (s := S128x8192) ![0, 6400] S128x256.size inb_S128x8192_S128x256_0_6400
abbrev r0_28 : Rect S128x8192 := Rect.unit (s := S128x8192) ![0, 6656] S128x256.size inb_S128x8192_S128x256_0_6656
abbrev r0_29 : Rect S128x8192 := Rect.unit (s := S128x8192) ![0, 6912] S128x256.size inb_S128x8192_S128x256_0_6912
abbrev r0_30 : Rect S128x8192 := Rect.unit (s := S128x8192) ![0, 7168] S128x256.size inb_S128x8192_S128x256_0_7168
abbrev r0_31 : Rect S128x8192 := Rect.unit (s := S128x8192) ![0, 7424] S128x256.size inb_S128x8192_S128x256_0_7424
abbrev r0_32 : Rect S128x8192 := Rect.unit (s := S128x8192) ![0, 7680] S128x256.size inb_S128x8192_S128x256_0_7680
abbrev r0_33 : Rect S128x8192 := Rect.unit (s := S128x8192) ![0, 7936] S128x256.size inb_S128x8192_S128x256_0_7936
abbrev r0_34 : Rect S128x2048 := Rect.unit (s := S128x2048) ![0, 0] S128x2048.size inb_S128x2048_S128x2048_0_0
abbrev r0_35 : Rect S1x2048 := Rect.unit (s := S1x2048) ![0, 0] S1x2048.size inb_S1x2048_S1x2048_0_0
abbrev r0_36 : Rect S128x128 := Rect.unit (s := S128x128) ![0, 0] S128x128.size inb_S128x128_S128x128_0_0

/-! ## What the body leaves in each output window's buffer -/

/-! ### Values of the body that the stores' payloads, spelt out, would write more than once

    Each is a vector the body binds (often a part call's result), stated over the input windows' blocks and
    numbered on from the skeleton's payload functions (`prepNormed` …, after `k0_pay43`), so that
    `out0_W` and the values after it name it instead of spelling it out (`unfold_out out0_W` opens a canon
    with them, `unfold_payloads` opens them with the payloads); the comment after each is the printed function's
    name for the value (a count appended where that name is bound again). -/

def prepNormed (x0 : Vec F S128x2048 .bf16) (x1 : Vec F S128x8192 .bf16) (x2 : Vec F S1x2048 .f32) (x3 : Vec F S1x8192 .f32) : FVec F S128x8192 .bf16 :=
  k0_pay2 (View.ld x1 r0_0) (View.ld x3 r0_1)
def prepPerm (x0 : Vec F S128x2048 .bf16) (x1 : Vec F S128x8192 .bf16) (x2 : Vec F S1x2048 .f32) (x3 : Vec F S1x8192 .f32) : FVec F S256x256 .bf16 :=
  k0_pay3 (F := F)

/-- Window 4's staging buffer after the body, from the input windows' blocks: its 32 stores as pieces, LAST
    FIRST (Lib/Pipeline/FrameBody.lean `View.canon`; the payloads are the skeleton's and the values stated above). -/
def out0_4 (x0 : Vec F S128x2048 .bf16) (x1 : Vec F S128x8192 .bf16) (x2 : Vec F S1x2048 .f32) (x3 : Vec F S1x8192 .f32) : Vec F S128x8192 .bf16 :=
  View.canon [⟨r0_33, k0_pay37 (prepNormed x0 x1 x2 x3) (prepPerm x0 x1 x2 x3)⟩,
    ⟨r0_32, k0_pay36 (prepNormed x0 x1 x2 x3) (prepPerm x0 x1 x2 x3)⟩,
    ⟨r0_31, k0_pay35 (prepNormed x0 x1 x2 x3) (prepPerm x0 x1 x2 x3)⟩,
    ⟨r0_30, k0_pay34 (prepNormed x0 x1 x2 x3) (prepPerm x0 x1 x2 x3)⟩,
    ⟨r0_29, k0_pay33 (prepNormed x0 x1 x2 x3) (prepPerm x0 x1 x2 x3)⟩,
    ⟨r0_28, k0_pay32 (prepNormed x0 x1 x2 x3) (prepPerm x0 x1 x2 x3)⟩,
    ⟨r0_27, k0_pay31 (prepNormed x0 x1 x2 x3) (prepPerm x0 x1 x2 x3)⟩,
    ⟨r0_26, k0_pay30 (k0_pay29 (prepNormed x0 x1 x2 x3) (prepPerm x0 x1 x2 x3))⟩,
    ⟨r0_25, k0_pay28 (prepNormed x0 x1 x2 x3) (prepPerm x0 x1 x2 x3)⟩,
    ⟨r0_24, k0_pay27 (prepNormed x0 x1 x2 x3) (prepPerm x0 x1 x2 x3)⟩,
    ⟨r0_23, k0_pay26 (prepNormed x0 x1 x2 x3) (prepPerm x0 x1 x2 x3)⟩,
    ⟨r0_22, k0_pay25 (prepNormed x0 x1 x2 x3) (prepPerm x0 x1 x2 x3)⟩,
    ⟨r0_21, k0_pay24 (prepNormed x0 x1 x2 x3) (prepPerm x0 x1 x2 x3)⟩,
    ⟨r0_20, k0_pay23 (prepNormed x0 x1 x2 x3) (prepPerm x0 x1 x2 x3)⟩,
    ⟨r0_19, k0_pay22 (prepNormed x0 x1 x2 x3) (prepPerm x0 x1 x2 x3)⟩,
    ⟨r0_18, k0_pay21 (prepNormed x0 x1 x2 x3) (prepPerm x0 x1 x2 x3)⟩,
    ⟨r0_17, k0_pay20 (prepNormed x0 x1 x2 x3) (prepPerm x0 x1 x2 x3)⟩,
    ⟨r0_16, k0_pay19 (prepNormed x0 x1 x2 x3) (prepPerm x0 x1 x2 x3)⟩,
    ⟨r0_15, k0_pay18 (prepNormed x0 x1 x2 x3) (prepPerm x0 x1 x2 x3)⟩,
    ⟨r0_14, k0_pay17 (prepNormed x0 x1 x2 x3) (prepPerm x0 x1 x2 x3)⟩,
    ⟨r0_13, k0_pay16 (prepNormed x0 x1 x2 x3) (prepPerm x0 x1 x2 x3)⟩,
    ⟨r0_12, k0_pay15 (prepNormed x0 x1 x2 x3) (prepPerm x0 x1 x2 x3)⟩,
    ⟨r0_11, k0_pay14 (k0_pay13 (prepNormed x0 x1 x2 x3) (prepPerm x0 x1 x2 x3))⟩,
    ⟨r0_10, k0_pay12 (prepNormed x0 x1 x2 x3) (prepPerm x0 x1 x2 x3)⟩,
    ⟨r0_9, k0_pay11 (prepNormed x0 x1 x2 x3) (prepPerm x0 x1 x2 x3)⟩,
    ⟨r0_8, k0_pay10 (prepNormed x0 x1 x2 x3) (prepPerm x0 x1 x2 x3)⟩,
    ⟨r0_7, k0_pay9 (prepNormed x0 x1 x2 x3) (prepPerm x0 x1 x2 x3)⟩,
    ⟨r0_6, k0_pay8 (prepNormed x0 x1 x2 x3) (prepPerm x0 x1 x2 x3)⟩,
    ⟨r0_5, k0_pay7 (prepNormed x0 x1 x2 x3) (prepPerm x0 x1 x2 x3)⟩,
    ⟨r0_4, k0_pay6 (prepNormed x0 x1 x2 x3) (prepPerm x0 x1 x2 x3)⟩,
    ⟨r0_3, k0_pay5 (View.ld x1 r0_0) (View.ld x3 r0_1)⟩,
    ⟨r0_2, k0_pay4 (View.ld x1 r0_0) (View.ld x3 r0_1)⟩]

/-- Its stores tile the buffer (checked by evaluation), so they cover it. -/
theorem cover0_4 (p0 : Vec F S128x256 .bf16) (p1 : Vec F S128x256 .bf16) (p2 : Vec F S128x256 .bf16) (p3 : Vec F S128x256 .bf16) (p4 : Vec F S128x256 .bf16) (p5 : Vec F S128x256 .bf16) (p6 : Vec F S128x256 .bf16) (p7 : Vec F S128x256 .bf16) (p8 : Vec F S128x256 .bf16) (p9 : Vec F S128x256 .bf16) (p10 : Vec F S128x256 .bf16) (p11 : Vec F S128x256 .bf16) (p12 : Vec F S128x256 .bf16) (p13 : Vec F S128x256 .bf16) (p14 : Vec F S128x256 .bf16) (p15 : Vec F S128x256 .bf16) (p16 : Vec F S128x256 .bf16) (p17 : Vec F S128x256 .bf16) (p18 : Vec F S128x256 .bf16) (p19 : Vec F S128x256 .bf16) (p20 : Vec F S128x256 .bf16) (p21 : Vec F S128x256 .bf16) (p22 : Vec F S128x256 .bf16) (p23 : Vec F S128x256 .bf16) (p24 : Vec F S128x256 .bf16) (p25 : Vec F S128x256 .bf16) (p26 : Vec F S128x256 .bf16) (p27 : Vec F S128x256 .bf16) (p28 : Vec F S128x256 .bf16) (p29 : Vec F S128x256 .bf16) (p30 : Vec F S128x256 .bf16) (p31 : Vec F S128x256 .bf16) (y : S128x8192.Idx) :
    ∃ pc ∈ ([⟨r0_33, p0⟩, ⟨r0_32, p1⟩, ⟨r0_31, p2⟩, ⟨r0_30, p3⟩, ⟨r0_29, p4⟩, ⟨r0_28, p5⟩, ⟨r0_27, p6⟩, ⟨r0_26, p7⟩, ⟨r0_25, p8⟩, ⟨r0_24, p9⟩, ⟨r0_23, p10⟩, ⟨r0_22, p11⟩, ⟨r0_21, p12⟩, ⟨r0_20, p13⟩, ⟨r0_19, p14⟩, ⟨r0_18, p15⟩, ⟨r0_17, p16⟩, ⟨r0_16, p17⟩, ⟨r0_15, p18⟩, ⟨r0_14, p19⟩, ⟨r0_13, p20⟩, ⟨r0_12, p21⟩, ⟨r0_11, p22⟩, ⟨r0_10, p23⟩, ⟨r0_9, p24⟩, ⟨r0_8, p25⟩, ⟨r0_7, p26⟩, ⟨r0_6, p27⟩, ⟨r0_5, p28⟩, ⟨r0_4, p29⟩, ⟨r0_3, p30⟩, ⟨r0_2, p31⟩] : List (View.Piece (Elt F) S128x8192 .bf16)), y ∈ pc.1.set :=
  View.cover_of_tiled [⟨r0_33, p0⟩, ⟨r0_32, p1⟩, ⟨r0_31, p2⟩, ⟨r0_30, p3⟩, ⟨r0_29, p4⟩, ⟨r0_28, p5⟩, ⟨r0_27, p6⟩, ⟨r0_26, p7⟩, ⟨r0_25, p8⟩, ⟨r0_24, p9⟩, ⟨r0_23, p10⟩, ⟨r0_22, p11⟩, ⟨r0_21, p12⟩, ⟨r0_20, p13⟩, ⟨r0_19, p14⟩, ⟨r0_18, p15⟩, ⟨r0_17, p16⟩, ⟨r0_16, p17⟩, ⟨r0_15, p18⟩, ⟨r0_14, p19⟩, ⟨r0_13, p20⟩, ⟨r0_12, p21⟩, ⟨r0_11, p22⟩, ⟨r0_10, p23⟩, ⟨r0_9, p24⟩, ⟨r0_8, p25⟩, ⟨r0_7, p26⟩, ⟨r0_6, p27⟩, ⟨r0_5, p28⟩, ⟨r0_4, p29⟩, ⟨r0_3, p30⟩, ⟨r0_2, p31⟩] S128x256.size (by rfl) y

/-- Window 5's staging buffer after the body, from the input windows' blocks: its 1 store as pieces, LAST
    FIRST (Lib/Pipeline/FrameBody.lean `View.canon`; the payloads are the skeleton's and the values stated above). -/
def out0_5 (x0 : Vec F S128x2048 .bf16) (x1 : Vec F S128x8192 .bf16) (x2 : Vec F S1x2048 .f32) (x3 : Vec F S1x8192 .f32) : Vec F S128x2048 .fp8e4m3 :=
  View.canon [⟨r0_34, k0_pay42 (View.ld x0 r0_34) (View.ld x2 r0_35)⟩]

/-- Its stores tile the buffer (checked by evaluation), so they cover it. -/
theorem cover0_5 (p0 : Vec F S128x2048 .fp8e4m3) (y : S128x2048.Idx) :
    ∃ pc ∈ ([⟨r0_34, p0⟩] : List (View.Piece (Elt F) S128x2048 .fp8e4m3)), y ∈ pc.1.set :=
  View.cover_of_tiled [⟨r0_34, p0⟩] S128x2048.size (by rfl) y

/-- Window 6's staging buffer after the body, from the input windows' blocks: its 1 store as pieces, LAST
    FIRST (Lib/Pipeline/FrameBody.lean `View.canon`; the payloads are the skeleton's and the values stated above). -/
def out0_6 (x0 : Vec F S128x2048 .bf16) (x1 : Vec F S128x8192 .bf16) (x2 : Vec F S1x2048 .f32) (x3 : Vec F S1x8192 .f32) : Vec F S128x128 .f32 :=
  View.canon [⟨r0_36, k0_pay43 (View.ld x0 r0_34) (View.ld x2 r0_35)⟩]

/-- Its stores tile the buffer (checked by evaluation), so they cover it. -/
theorem cover0_6 (p0 : Vec F S128x128 .f32) (y : S128x128.Idx) :
    ∃ pc ∈ ([⟨r0_36, p0⟩] : List (View.Piece (Elt F) S128x128 .f32)), y ∈ pc.1.set :=
  View.cover_of_tiled [⟨r0_36, p0⟩] S128x128.size (by rfl) y

/-- Window 7's staging buffer after the body, from the input windows' blocks: its 1 store as pieces, LAST
    FIRST (Lib/Pipeline/FrameBody.lean `View.canon`; the payloads are the skeleton's and the values stated above). -/
def out0_7 (x0 : Vec F S128x2048 .bf16) (x1 : Vec F S128x8192 .bf16) (x2 : Vec F S1x2048 .f32) (x3 : Vec F S1x8192 .f32) : Vec F S128x128 .f32 :=
  View.canon [⟨r0_36, k0_pay1 (k0_pay39 (View.ld x0 r0_34))⟩]

/-- Its stores tile the buffer (checked by evaluation), so they cover it. -/
theorem cover0_7 (p0 : Vec F S128x128 .f32) (y : S128x128.Idx) :
    ∃ pc ∈ ([⟨r0_36, p0⟩] : List (View.Piece (Elt F) S128x128 .f32)), y ∈ pc.1.set :=
  View.cover_of_tiled [⟨r0_36, p0⟩] S128x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S128x2048 .bf16) (harg1 : arg1.IsWhole) (arg2 : Memref sig .tc .vmem S128x8192 .bf16) (harg2 : arg2.IsWhole) (arg3 : Memref sig .tc .vmem S1x2048 .f32) (harg3 : arg3.IsWhole) (arg4 : Memref sig .tc .vmem S1x8192 .f32) (harg4 : arg4.IsWhole) (arg5 : Memref sig .tc .vmem S128x8192 .bf16) (harg5 : arg5.IsWhole) (arg6 : Memref sig .tc .vmem S128x2048 .fp8e4m3) (harg6 : arg6.IsWhole) (arg7 : Memref sig .tc .vmem S128x128 .f32) (harg7 : arg7.IsWhole) (arg8 : Memref sig .tc .vmem S128x128 .f32) (harg8 : arg8.IsWhole)
    (x0 : Vec F S128x2048 .bf16) (x1 : Vec F S128x8192 .bf16) (x2 : Vec F S1x2048 .f32) (x3 : Vec F S1x8192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3) ∗ owns (c : Thread nD τ) arg8 fullShare (out0_7 x0 x1 x2 x3)) -∗ K ⟨⟩))
      ⊢ wp frame (wpE (defs₀ (F := F)) Variants.none c none) E (cc0_prep i arg1 harg1 arg2 harg2 arg3 harg3 arg4 harg4 arg5 harg5 arg6 harg6 arg7 harg7 arg8 harg8) K := by
  simp only [cc0_prep_eq_skeleton]; unfold cc0_prep_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover0_4 _ _ _ _ _ _ _ _ _ _ _ _ _ _ _ _ _ _ _ _ _ _ _ _ _ _ _ _ _ _ _ _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  iexists _; isplitr
  swap; · iexact H7
  ipureintro
  refine (View.read_writes_eq_canon _ _ _ (cover0_7 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def prepDat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
    | ⟨5, _⟩ => out0_5 (iblk m c 0 t) (iblk m c 1 t) (iblk m c 2 t) (iblk m c 3 t)
    | ⟨6, _⟩ => out0_6 (iblk m c 0 t) (iblk m c 1 t) (iblk m c 2 t) (iblk m c 3 t)
    | ⟨7, _⟩ => out0_7 (iblk m c 0 t) (iblk m c 1 t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (prepDat m c).A w = V m c (Pipeline.arrRef spec0 w) := by
  dsimp only [prepDat]

/-- What the body leaves, window by window (the proof data's `match` reduced by `dsimp`, never `rfl`: Lib/Pipeline.lean `Dat`). -/
theorem after0_0 (c : Dev nD) (t : Fin cfg0.N) : (prepDat m c).after 0 t = iblk m c 0 t := by dsimp only [prepDat]
theorem after0_1 (c : Dev nD) (t : Fin cfg0.N) : (prepDat m c).after 1 t = iblk m c 1 t := by dsimp only [prepDat]
theorem after0_2 (c : Dev nD) (t : Fin cfg0.N) : (prepDat m c).after 2 t = iblk m c 2 t := by dsimp only [prepDat]
theorem after0_3 (c : Dev nD) (t : Fin cfg0.N) : (prepDat m c).after 3 t = iblk m c 3 t := by dsimp only [prepDat]
theorem after0_4 (c : Dev nD) (t : Fin cfg0.N) : (prepDat m c).after 4 t = out0_4 (iblk m c 0 t) (iblk m c 1 t) (iblk m c 2 t) (iblk m c 3 t) := by dsimp only [prepDat]
theorem after0_5 (c : Dev nD) (t : Fin cfg0.N) : (prepDat m c).after 5 t = out0_5 (iblk m c 0 t) (iblk m c 1 t) (iblk m c 2 t) (iblk m c 3 t) := by dsimp only [prepDat]
theorem after0_6 (c : Dev nD) (t : Fin cfg0.N) : (prepDat m c).after 6 t = out0_6 (iblk m c 0 t) (iblk m c 1 t) (iblk m c 2 t) (iblk m c 3 t) := by dsimp only [prepDat]
theorem after0_7 (c : Dev nD) (t : Fin cfg0.N) : (prepDat m c).after 7 t = out0_7 (iblk m c 0 t) (iblk m c 1 t) (iblk m c 2 t) (iblk m c 3 t) := by dsimp only [prepDat]

/-- Each input's current staging buffer holds its block at every point, fetched there or not (`beforeK_W_of`). -/
theorem before0_0 (c : Dev nD) (t : Fin cfg0.N) (d) : (prepDat m c).before 0 t d = iblk m c 0 t :=
  before0_0_of m (prepDat m c) (A_eq m c 0) (after0_0 m c) t d
theorem before0_1 (c : Dev nD) (t : Fin cfg0.N) (d) : (prepDat m c).before 1 t d = iblk m c 1 t :=
  before0_1_of m (prepDat m c) (A_eq m c 1) (after0_1 m c) t d
theorem before0_2 (c : Dev nD) (t : Fin cfg0.N) (d) : (prepDat m c).before 2 t d = iblk m c 2 t :=
  before0_2_of m (prepDat m c) (A_eq m c 2) (after0_2 m c) t d
theorem before0_3 (c : Dev nD) (t : Fin cfg0.N) (d) : (prepDat m c).before 3 t d = iblk m c 3 t :=
  before0_3_of m (prepDat m c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((prepDat m c).Φ t.castSucc ∗ (prepDat m c).owesAt () t.castSucc
    ∗ (∃ d, owns (c : Thread nD τ) (st0_0 t) fullShare ((prepDat m c).before 0 t d))
    ∗ (∃ d, owns (c : Thread nD τ) (st0_1 t) fullShare ((prepDat m c).before 1 t d))
    ∗ (∃ d, owns (c : Thread nD τ) (st0_2 t) fullShare ((prepDat m c).before 2 t d))
    ∗ (∃ d, owns (c : Thread nD τ) (st0_3 t) fullShare ((prepDat m c).before 3 t d))
    ∗ (∃ d, owns (c : Thread nD τ) (st0_4 t) fullShare ((prepDat m c).before 4 t d))
    ∗ (∃ d, owns (c : Thread nD τ) (st0_5 t) fullShare ((prepDat m c).before 5 t d))
    ∗ (∃ d, owns (c : Thread nD τ) (st0_6 t) fullShare ((prepDat m c).before 6 t d))
    ∗ (∃ d, owns (c : Thread nD τ) (st0_7 t) fullShare ((prepDat m c).before 7 t d)))

/-- and what it returns. -/
def bodyPost (c : Dev nD) (t : Fin cfg0.N) : sProp 𝕄 :=
  iprop((prepDat m c).Φ t.succ ∗ (prepDat m c).owesAt () t.succ
    ∗ owns (c : Thread nD τ) (st0_0 t) fullShare ((prepDat m c).after 0 t)
    ∗ owns (c : Thread nD τ) (st0_1 t) fullShare ((prepDat m c).after 1 t)
    ∗ owns (c : Thread nD τ) (st0_2 t) fullShare ((prepDat m c).after 2 t)
    ∗ owns (c : Thread nD τ) (st0_3 t) fullShare ((prepDat m c).after 3 t)
    ∗ owns (c : Thread nD τ) (st0_4 t) fullShare ((prepDat m c).after 4 t)
    ∗ owns (c : Thread nD τ) (st0_5 t) fullShare ((prepDat m c).after 5 t)
    ∗ owns (c : Thread nD τ) (st0_6 t) fullShare ((prepDat m c).after 6 t)
    ∗ owns (c : Thread nD τ) (st0_7 t) fullShare ((prepDat m c).after 7 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (prepDat m c).Φ t.succ = (prepDat m c).Φ t.castSucc from rfl,
    show (prepDat m c).owesAt () t.succ = (prepDat m c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (prepDat (F := F) m c) (defs₀ (F := F)) Variants.none () Set.univ := fun t => by
  rw [bigSep_W0, bigSep_W0, defs₀_row]
  exact triple_restated (sound_body m c t) rfl .rfl fun _ => .rfl

end Cert.Kernel.Hand

end

end
-- ==== Proof.KernelBodyDefs.lean ====
module

public import proofs.«01_k».proof.Proof.Gen.Kernel.Regions
public import proofs.«01_k».proof.Proof.Gen.Kernel.Skeleton
public import proofs.«01_k».proof.Proof.Gen.Kernel.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.VecWindow
public import Idealize.ShloMosaic.Lib.Writes

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-- Sixty-four rows of the packed teacher block, from row `64 k`. -/
def rows64 (x5 : Vec F S4096x512 .i8) (k : ℕ) (hk : k < 64) : Vec F S64x512 .i8 := fun y =>
  x5 (fun a => match a with
    | 0 => ⟨64 * k + (y 0).val, by have h : (y 0).val < 64 := (y 0).isLt; show _ < 4096; omega⟩
    | 1 => ⟨(y 1).val, (y 1).isLt⟩)

/-- Row `k` of a block of scales or zero points. -/
def row1 (x6 : Vec F S64x512 .f32) (k : ℕ) (hk : k < 64) : Vec F S1x512 .f32 := fun y =>
  x6 (fun a => match a with
    | 0 => ⟨k, hk⟩
    | 1 => ⟨(y 1).val, (y 1).isLt⟩)

/-- The dequantised teacher weights of one vocabulary block: 256 rows for each 128 packed rows, first the low nibbles and then the high ones. -/
def wScr (x5 : Vec F S4096x512 .i8) (x6 x7 : Vec F S64x512 .f32) : Vec F S8192x512 .bf16 := fun y =>
  have hy : (y 0).val < 8192 := (y 0).isLt
  have hk : 2 * ((y 0).val / 256) + (y 0).val % 128 / 64 < 64 := by omega
  let j : S64x512.Idx := fun a => match a with
    | 0 => ⟨(y 0).val % 64, Nat.mod_lt _ (by decide)⟩
    | 1 => ⟨(y 1).val, (y 1).isLt⟩
  if (y 0).val % 256 < 128
    then k1_pay10 (rows64 x5 _ hk) (row1 x6 _ hk) (row1 x7 _ hk) j
    else k1_pay11 (rows64 x5 _ hk) (row1 x6 _ hk) (row1 x7 _ hk) j

/-- The one index of a one-word array. -/
def idx0 : S1.Idx := fun a => match a with | 0 => (0 : Fin 1)

/-- The teacher's scaled and masked logits of one vocabulary block. -/
def zT (arg0 : BitVec 32) (x1 : Vec F S1 .i32) (x2 : Vec F S384x8192 .bf16) (x5 : Vec F S4096x512 .i8) (x6 x7 : Vec F S64x512 .f32) : Vec F S384x512 .f32 :=
  k1_pay307 (k1_pay306 (F := F) arg0 (x1 idx0)) x2 (wScr x5 x6 x7)

/-- Column 0 of the quantiser's scales. -/
def col0 (x4 : Vec F S384x128 .f32) : Vec F S384x1 .f32 := fun y =>
  x4 (fun a => match a with
    | 0 => ⟨(y 0).val, (y 0).isLt⟩
    | 1 => (0 : Fin 128))

/-- The student's scaled and masked logits of one vocabulary block. -/
def zS (arg0 : BitVec 32) (x1 : Vec F S1 .i32) (x3 : Vec F S384x2048 .fp8e4m3) (x4 : Vec F S384x128 .f32) (x8 : Vec F S512x2048 .fp8e4m3) (x9 : Vec F S1x512 .f32) : Vec F S384x512 .f32 :=
  k1_pay308 (k1_pay306 (F := F) arg0 (x1 idx0)) x3 x8 (col0 x4) x9

/-- The running maximum of each lane after one more block of logits. -/
def newMax (z : Vec F S384x512 .f32) (m : Vec F S384x128 .f32) : Vec F S384x128 .f32 := k1_pay310 (k1_pay312 z m)

/-- The running sum of each lane after one more block of logits. -/
def newSum (z : Vec F S384x512 .f32) (m l : Vec F S384x128 .f32) : Vec F S384x128 .f32 := k1_pay311 z m (k1_pay312 z m) l

/-- The log-sum-exp over a row's lanes from their maxima and sums. -/
def newLse (m l : Vec F S384x128 .f32) : Vec F S384x128 .f32 := k1_pay2 m l

/-- A load of a whole buffer that reads `x` gives `x`. -/
theorem readAt_all {s : Shape} {e : EltTy} {sp : Space} {a : Memref sig .tc sp s e} (h : a.IsWhole) (x : Vec F s e) {off : Fin s.rank → ℕ} (inb : ∀ k, off k + s.size k ≤ s.size k) :
    View.readAt (Elt F) a.view (Rect.unit off s.size inb).toLoadRect (h.unread x) = x :=
  (View.readAt_full a.view _ inb).trans (h.read_unread x)

/-- Reading back the dequantised weights after the stores that filled them, given that each store agrees with `wScr`. -/
theorem readCov_wScr (a : Memref sig .tc .vmem S8192x512 .bf16) (x5 : Vec F S4096x512 .i8) (x6 x7 : Vec F S64x512 .f32) (L : List (View.Piece (Elt F) S8192x512 .bf16))
    (inb : ∀ k, (![0, 0] : Fin 2 → ℕ) k + S8192x512.size k ≤ S8192x512.size k)
    (hL : ∀ p ∈ L, ∀ x : p.1.shape.Idx, p.2 x = wScr x5 x6 x7 (p.1.emb x)) (hc : ∀ y, ∃ p ∈ L, y ∈ p.1.set) :
    a.view.readCov L (Rect.unit ![0, 0] S8192x512.size inb).toLoadRect = wScr x5 x6 x7 := by
  funext y
  refine (View.read_writes_apply_of_pieces (v := a.view) (f := a.view.junk) (wScr x5 x6 x7) L hL _ (hc _)).trans ?_
  exact congrArg _ (Rect.emb_unit_full inb y)

/-- A store of low nibbles, chunk `k` of 64 packed rows, agrees with `wScr`. -/
theorem piece_lo {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (k r o : ℕ) (hk : k < 64) (hr : r = 64 * k) (ho : o = k / 2 * 256 + k % 2 * 64)
    (i5 : ∀ a, (![r, 0] : Fin 2 → ℕ) a + S64x512.size a ≤ S4096x512.size a) (i6 : ∀ a, (![k, 0] : Fin 2 → ℕ) a + S1x512.size a ≤ S64x512.size a) (i7 : ∀ a, (![k, 0] : Fin 2 → ℕ) a + S1x512.size a ≤ S64x512.size a)
    (io : ∀ a, (![o, 0] : Fin 2 → ℕ) a + S64x512.size a ≤ S8192x512.size a) (x : S64x512.Idx) :
    k1_pay10 (View.readAt (Elt F) arg5.view (Rect.unit (s := S4096x512) ![r, 0] S64x512.size i5).toLoadRect (h5.unread x5))
        (View.readAt (Elt F) arg6.view (Rect.unit (s := S64x512) ![k, 0] S1x512.size i6).toLoadRect (h6.unread x6))
        (View.readAt (Elt F) arg7.view (Rect.unit (s := S64x512) ![k, 0] S1x512.size i7).toLoadRect (h7.unread x7)) x
      = wScr x5 x6 x7 ((Rect.unit (s := S8192x512) ![o, 0] S64x512.size io).emb x) := by
  subst hr
  have hx : (x 0).val < 64 := (x 0).isLt
  have e0 : ((Rect.unit (s := S8192x512) ![o, 0] S64x512.size io).emb x 0).val = o + (x 0).val := by
    show o + 1 * (x 0).val = _; omega
  have e1 : ((Rect.unit (s := S8192x512) ![o, 0] S64x512.size io).emb x 1).val = (x 1).val := by
    show 0 + 1 * (x 1).val = _; omega
  have r5 : View.readAt (Elt F) arg5.view (Rect.unit (s := S4096x512) ![64 * k, 0] S64x512.size i5).toLoadRect (h5.unread x5) = rows64 x5 k hk := by
    funext y
    rw [h5.readAt_unread]
    refine congrArg x5 (funext fun a => Fin.ext ?_)
    match a with
    | 0 => show 64 * k + 1 * (y 0).val = 64 * k + (y 0).val; omega
    | 1 => show 0 + 1 * (y 1).val = (y 1).val; omega
  have r1 : ∀ {a : Memref sig .tc .vmem S64x512 .f32} (h : a.IsWhole) (z : Vec F S64x512 .f32) (inb : ∀ a, (![k, 0] : Fin 2 → ℕ) a + S1x512.size a ≤ S64x512.size a),
      View.readAt (Elt F) a.view (Rect.unit (s := S64x512) ![k, 0] S1x512.size inb).toLoadRect (h.unread z) = row1 z k hk := by
    intro a h z inb
    funext y
    rw [h.readAt_unread]
    refine congrArg z (funext fun a => Fin.ext ?_)
    match a with
    | 0 => have hy : (y 0).val < 1 := (y 0).isLt
           show k + 1 * (y 0).val = k; omega
    | 1 => show 0 + 1 * (y 1).val = (y 1).val; omega
  rw [r5, r1 h6, r1 h7]
  unfold wScr
  have hlt : ((Rect.unit (s := S8192x512) ![o, 0] S64x512.size io).emb x 0).val % 256 < 128 := by rw [e0]; omega
  rw [if_pos hlt]
  have hk' : 2 * (((Rect.unit (s := S8192x512) ![o, 0] S64x512.size io).emb x 0).val / 256) + ((Rect.unit (s := S8192x512) ![o, 0] S64x512.size io).emb x 0).val % 128 / 64 = k := by rw [e0]; omega
  have hj : x = (fun a => match a with
    | 0 => ⟨((Rect.unit (s := S8192x512) ![o, 0] S64x512.size io).emb x 0).val % 64, Nat.mod_lt _ (by decide)⟩
    | 1 => ⟨((Rect.unit (s := S8192x512) ![o, 0] S64x512.size io).emb x 1).val, ((Rect.unit (s := S8192x512) ![o, 0] S64x512.size io).emb x 1).isLt⟩ : S64x512.Idx) := by
    funext a
    apply Fin.ext
    match a with
    | 0 => show (x 0).val = ((Rect.unit (s := S8192x512) ![o, 0] S64x512.size io).emb x 0).val % 64
           rw [e0]; omega
    | 1 => exact e1.symm
  have hcong : ∀ k' (h' : k' < 64), k' = k → k1_pay10 (rows64 x5 k hk) (row1 x6 k hk) (row1 x7 k hk) x = k1_pay10 (rows64 x5 k' h') (row1 x6 k' h') (row1 x7 k' h') x := by
    rintro _ _ rfl; rfl
  exact (hcong _ _ hk').trans (congrArg _ hj)

/-- A store of high nibbles, chunk `k` of 64 packed rows, agrees with `wScr`. -/
theorem piece_hi {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (k r o : ℕ) (hk : k < 64) (hr : r = 64 * k) (ho : o = k / 2 * 256 + 128 + k % 2 * 64)
    (i5 : ∀ a, (![r, 0] : Fin 2 → ℕ) a + S64x512.size a ≤ S4096x512.size a) (i6 : ∀ a, (![k, 0] : Fin 2 → ℕ) a + S1x512.size a ≤ S64x512.size a) (i7 : ∀ a, (![k, 0] : Fin 2 → ℕ) a + S1x512.size a ≤ S64x512.size a)
    (io : ∀ a, (![o, 0] : Fin 2 → ℕ) a + S64x512.size a ≤ S8192x512.size a) (x : S64x512.Idx) :
    k1_pay11 (View.readAt (Elt F) arg5.view (Rect.unit (s := S4096x512) ![r, 0] S64x512.size i5).toLoadRect (h5.unread x5))
        (View.readAt (Elt F) arg6.view (Rect.unit (s := S64x512) ![k, 0] S1x512.size i6).toLoadRect (h6.unread x6))
        (View.readAt (Elt F) arg7.view (Rect.unit (s := S64x512) ![k, 0] S1x512.size i7).toLoadRect (h7.unread x7)) x
      = wScr x5 x6 x7 ((Rect.unit (s := S8192x512) ![o, 0] S64x512.size io).emb x) := by
  subst hr
  have hx : (x 0).val < 64 := (x 0).isLt
  have e0 : ((Rect.unit (s := S8192x512) ![o, 0] S64x512.size io).emb x 0).val = o + (x 0).val := by
    show o + 1 * (x 0).val = _; omega
  have e1 : ((Rect.unit (s := S8192x512) ![o, 0] S64x512.size io).emb x 1).val = (x 1).val := by
    show 0 + 1 * (x 1).val = _; omega
  have r5 : View.readAt (Elt F) arg5.view (Rect.unit (s := S4096x512) ![64 * k, 0] S64x512.size i5).toLoadRect (h5.unread x5) = rows64 x5 k hk := by
    funext y
    rw [h5.readAt_unread]
    refine congrArg x5 (funext fun a => Fin.ext ?_)
    match a with
    | 0 => show 64 * k + 1 * (y 0).val = 64 * k + (y 0).val; omega
    | 1 => show 0 + 1 * (y 1).val = (y 1).val; omega
  have r1 : ∀ {a : Memref sig .tc .vmem S64x512 .f32} (h : a.IsWhole) (z : Vec F S64x512 .f32) (inb : ∀ a, (![k, 0] : Fin 2 → ℕ) a + S1x512.size a ≤ S64x512.size a),
      View.readAt (Elt F) a.view (Rect.unit (s := S64x512) ![k, 0] S1x512.size inb).toLoadRect (h.unread z) = row1 z k hk := by
    intro a h z inb
    funext y
    rw [h.readAt_unread]
    refine congrArg z (funext fun a => Fin.ext ?_)
    match a with
    | 0 => have hy : (y 0).val < 1 := (y 0).isLt
           show k + 1 * (y 0).val = k; omega
    | 1 => show 0 + 1 * (y 1).val = (y 1).val; omega
  rw [r5, r1 h6, r1 h7]
  unfold wScr
  have hlt : ¬ ((Rect.unit (s := S8192x512) ![o, 0] S64x512.size io).emb x 0).val % 256 < 128 := by rw [e0]; omega
  rw [if_neg hlt]
  have hk' : 2 * (((Rect.unit (s := S8192x512) ![o, 0] S64x512.size io).emb x 0).val / 256) + ((Rect.unit (s := S8192x512) ![o, 0] S64x512.size io).emb x 0).val % 128 / 64 = k := by rw [e0]; omega
  have hj : x = (fun a => match a with
    | 0 => ⟨((Rect.unit (s := S8192x512) ![o, 0] S64x512.size io).emb x 0).val % 64, Nat.mod_lt _ (by decide)⟩
    | 1 => ⟨((Rect.unit (s := S8192x512) ![o, 0] S64x512.size io).emb x 1).val, ((Rect.unit (s := S8192x512) ![o, 0] S64x512.size io).emb x 1).isLt⟩ : S64x512.Idx) := by
    funext a
    apply Fin.ext
    match a with
    | 0 => show (x 0).val = ((Rect.unit (s := S8192x512) ![o, 0] S64x512.size io).emb x 0).val % 64
           rw [e0]; omega
    | 1 => exact e1.symm
  have hcong : ∀ k' (h' : k' < 64), k' = k → k1_pay11 (rows64 x5 k hk) (row1 x6 k hk) (row1 x7 k hk) x = k1_pay11 (rows64 x5 k' h') (row1 x6 k' h') (row1 x7 k' h') x := by
    rintro _ _ rfl; rfl
  exact (hcong _ _ hk').trans (congrArg _ hj)

theorem chunk_inb (k : ℕ) (hk : k < 64) : ∀ a, (![64 * k, 0] : Fin 2 → ℕ) a + S64x512.size a ≤ S4096x512.size a := by
  intro a
  match a with
  | 0 => show 64 * k + 64 ≤ 4096; omega
  | 1 => show 0 + 512 ≤ 512; omega

theorem chunk_inb1 (k : ℕ) (hk : k < 64) : ∀ a, (![k, 0] : Fin 2 → ℕ) a + S1x512.size a ≤ S64x512.size a := by
  intro a
  match a with
  | 0 => show k + 1 ≤ 64; omega
  | 1 => show 0 + 512 ≤ 512; omega

theorem chunk_inb2 (o : ℕ) (ho : o + 64 ≤ 8192) : ∀ a, (![o, 0] : Fin 2 → ℕ) a + S64x512.size a ≤ S8192x512.size a := by
  intro a
  match a with
  | 0 => show o + 64 ≤ 8192; omega
  | 1 => show 0 + 512 ≤ 512; omega

/-- A load of column 0 of the quantiser's scales. -/
theorem readAt_col0 {a : Memref sig .tc .vmem S384x128 .f32} (h : a.IsWhole) (x : Vec F S384x128 .f32) (inb : ∀ k, (![0, 0] : Fin 2 → ℕ) k + S384x1.size k ≤ S384x128.size k) :
    View.readAt (Elt F) a.view (Rect.unit (s := S384x128) ![0, 0] S384x1.size inb).toLoadRect (h.unread x) = col0 x := by
  funext y
  rw [h.readAt_unread]
  refine congrArg x (funext fun k => Fin.ext ?_)
  match k with
  | 0 => show 0 + 1 * (y 0).val = (y 0).val; omega
  | 1 => have hy : (y 1).val < 1 := (y 1).isLt
         show 0 + 1 * (y 1).val = 0; omega

/-- Equal block logits, maxima and sums give equal new sums. -/
theorem newSum_congr {z z' : Vec F S384x512 .f32} {m m' l l' : Vec F S384x128 .f32} (hz : z = z') (hm : m = m') (hl : l = l') :
    newSum z m l = newSum z' m' l' := by rw [hz, hm, hl]

/-- There is one index. -/
theorem eq_idx0 (i : S1.Idx) : i = idx0 := funext fun a => match a with
  | 0 => Subsingleton.elim (α := Fin 1) _ _

/-- The same, the chunk computed from the row `o` of the store. -/
theorem piece_lo_at {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (o : ℕ)
    (ho : o % 64 = 0 ∧ o + 64 ≤ 8192 ∧ o % 256 < 128) (x : S64x512.Idx) (w : S64x512.Idx → Elt F .bf16)
    (hw : w = k1_pay10 (View.readAt (Elt F) arg5.view (Rect.unit (s := S4096x512) ![64 * (2 * (o / 256) + o % 128 / 64), 0] S64x512.size (chunk_inb _ (by omega))).toLoadRect (h5.unread x5))
        (View.readAt (Elt F) arg6.view (Rect.unit (s := S64x512) ![2 * (o / 256) + o % 128 / 64, 0] S1x512.size (chunk_inb1 _ (by omega))).toLoadRect (h6.unread x6))
        (View.readAt (Elt F) arg7.view (Rect.unit (s := S64x512) ![2 * (o / 256) + o % 128 / 64, 0] S1x512.size (chunk_inb1 _ (by omega))).toLoadRect (h7.unread x7))) :
    w x = wScr x5 x6 x7 ((Rect.unit (s := S8192x512) ![o, 0] S64x512.size (chunk_inb2 o (by omega))).emb x) := by
  subst hw
  exact piece_lo h5 h6 h7 x5 x6 x7 _ _ o (by omega) rfl (by omega) _ _ _ _ x

/-- The same, the chunk computed from the row `o` of the store. -/
theorem piece_hi_at {arg5 : Memref sig .tc .vmem S4096x512 .i8} (h5 : arg5.IsWhole) {arg6 : Memref sig .tc .vmem S64x512 .f32} (h6 : arg6.IsWhole) {arg7 : Memref sig .tc .vmem S64x512 .f32} (h7 : arg7.IsWhole)
    (x5 : Vec F S4096x512 .i8) (x6 x7 : Vec F S64x512 .f32) (o : ℕ)
    (ho : o % 64 = 0 ∧ o + 64 ≤ 8192 ∧ 128 ≤ o % 256) (x : S64x512.Idx) (w : S64x512.Idx → Elt F .bf16)
    (hw : w = k1_pay11 (View.readAt (Elt F) arg5.view (Rect.unit (s := S4096x512) ![64 * (2 * (o / 256) + o % 128 / 64), 0] S64x512.size (chunk_inb _ (by omega))).toLoadRect (h5.unread x5))
        (View.readAt (Elt F) arg6.view (Rect.unit (s := S64x512) ![2 * (o / 256) + o % 128 / 64, 0] S1x512.size (chunk_inb1 _ (by omega))).toLoadRect (h6.unread x6))
        (View.readAt (Elt F) arg7.view (Rect.unit (s := S64x512) ![2 * (o / 256) + o % 128 / 64, 0] S1x512.size (chunk_inb1 _ (by omega))).toLoadRect (h7.unread x7))) :
    w x = wScr x5 x6 x7 ((Rect.unit (s := S8192x512) ![o, 0] S64x512.size (chunk_inb2 o (by omega))).emb x) := by
  subst hw
  exact piece_hi h5 h6 h7 x5 x6 x7 _ _ o (by omega) rfl (by omega) _ _ _ _ x

end Cert.Kernel.Hand

end
-- ==== Proof.KernelBodyRunA.lean ====
module

public import proofs.«01_k».proof.Proof.KernelBodyDefs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 8000000 in
/-- One run of the logits body, at the first grid point, before the last: what each output block and each scratch array holds afterwards. -/
theorem runA (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : (Scalar.cmpi .ne (Scalar.extui (Scalar.cmpi .eq arg0 0#32)) 0#32) = 1#1) (hc1 : ¬ k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare x12 ∗ owns (c : Thread nD τ) arg13 fullShare x13 ∗ (∃ d, owns (c : Thread nD τ) arg14 fullShare d) ∗ owns (c : Thread nD τ) arg15 fullShare (newMax (zT arg0 x1 x2 x5 x6 x7) k1_pay4) ∗ owns (c : Thread nD τ) arg16 fullShare (newSum (zT arg0 x1 x2 x5 x6 x7) k1_pay4 k1_pay6) ∗ owns (c : Thread nD τ) arg17 fullShare (newMax (zS arg0 x1 x3 x4 x8 x9) k1_pay5) ∗ owns (c : Thread nD τ) arg18 fullShare (newSum (zS arg0 x1 x3 x4 x8 x9) k1_pay5 k1_pay7)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hW : runA.sl.v1740 c arg5 harg5 arg6 harg6 arg7 harg7 arg14 x5 x6 x7 = wScr x5 x6 x7 := by
    unfold runA.sl.v1740
    refine readCov_wScr _ _ _ _ _ _ ?_ (View.cover_of_tiled _ ![64, 512] (by rfl))
    unfold runA.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : ∀ M, M = k1_pay306 (F := F) arg0 (x1 idx0) → k1_pay307 M (View.readAt (Elt F) arg2.view (Rect.unit ![0, 0] S384x8192.size inb_S384x8192_S384x8192_0_0).toLoadRect (harg2.unread x2))
      (runA.sl.v1740 c arg5 harg5 arg6 harg6 arg7 harg7 arg14 x5 x6 x7) = zT arg0 x1 x2 x5 x6 x7 := by
    intro M hM; rw [hM, hW, readAt_all harg2]; rfl
  have hS : ∀ M, M = k1_pay306 (F := F) arg0 (x1 idx0) → k1_pay308 M
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    intro M hM; rw [hM, readAt_all harg3, readAt_all harg8, readAt_all harg9, readAt_col0]; rfl
  isplitl [H10]
  · iexists _; isplitr
    swap; · iexact H10
    ipureintro
    refine (View.read_writes_full _ _ _ _ _).trans ?_
    exact (hT _ (congrArg (k1_pay306 (F := F) arg0) ((congrFun (harg1.read_unread x1) _).trans (congrArg x1 (eq_idx0 _)))))
  isplitl [H11]
  · iexists _; isplitr
    swap; · iexact H11
    ipureintro
    refine (View.read_writes_full _ _ _ _ _).trans ?_
    exact (hS _ (congrArg (k1_pay306 (F := F) arg0) ((congrFun (harg1.read_unread x1) _).trans (congrArg x1 (eq_idx0 _)))))
  isplitl [H12]
  · iexists _; isplitr
    swap; · iexact H12
    ipureintro
    exact harg12.read_unread _
  isplitl [H13]
  · iexists _; isplitr
    swap; · iexact H13
    ipureintro
    exact harg13.read_unread _
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 (hT _ (congrArg (k1_pay306 (F := F) arg0) ((congrFun (harg1.read_unread x1) _).trans (congrArg x1 (eq_idx0 _))))) (View.readCov_full _ _ _ _ _)))
  isplitl [H16]
  · iexists _; isplitr
    swap; · iexact H16
    ipureintro
    refine (View.read_writes_full _ _ _ _ _).trans ?_
    exact (newSum_congr (hT _ (congrArg (k1_pay306 (F := F) arg0) ((congrFun (harg1.read_unread x1) _).trans (congrArg x1 (eq_idx0 _))))) (View.readCov_full _ _ _ _ _) (View.readCov_full _ _ _ _ _))
  isplitl [H17]
  · iexists _; isplitr
    swap; · iexact H17
    ipureintro
    refine (View.read_writes_full _ _ _ _ _).trans ?_
    exact (congrArg k1_pay310 (congrArg₂ k1_pay312 (hS _ (congrArg (k1_pay306 (F := F) arg0) ((congrFun (harg1.read_unread x1) _).trans (congrArg x1 (eq_idx0 _))))) (View.readCov_full _ _ _ _ _)))
  iexists _; isplitr
  swap; · iexact H18
  ipureintro
  refine (View.read_writes_full _ _ _ _ _).trans ?_
  exact (newSum_congr (hS _ (congrArg (k1_pay306 (F := F) arg0) ((congrFun (harg1.read_unread x1) _).trans (congrArg x1 (eq_idx0 _))))) (View.readCov_full _ _ _ _ _) (View.readCov_full _ _ _ _ _))

end Cert.Kernel.Hand

end
-- ==== Proof.KernelBodyRunB.lean ====
module

public import proofs.«01_k».proof.Proof.KernelBodyDefs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 8000000 in
/-- One run of the logits body, past the first grid point, before the last: what each output block and each scratch array holds afterwards. -/
theorem runB (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : ¬ (Scalar.cmpi .ne (Scalar.extui (Scalar.cmpi .eq arg0 0#32)) 0#32) = 1#1) (hc1 : ¬ k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare x12 ∗ owns (c : Thread nD τ) arg13 fullShare x13 ∗ (∃ d, owns (c : Thread nD τ) arg14 fullShare d) ∗ owns (c : Thread nD τ) arg15 fullShare (newMax (zT arg0 x1 x2 x5 x6 x7) x15) ∗ owns (c : Thread nD τ) arg16 fullShare (newSum (zT arg0 x1 x2 x5 x6 x7) x15 x16) ∗ owns (c : Thread nD τ) arg17 fullShare (newMax (zS arg0 x1 x3 x4 x8 x9) x17) ∗ owns (c : Thread nD τ) arg18 fullShare (newSum (zS arg0 x1 x3 x4 x8 x9) x17 x18)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hW : runB.sl.v1740 c arg5 harg5 arg6 harg6 arg7 harg7 arg14 x5 x6 x7 = wScr x5 x6 x7 := by
    unfold runB.sl.v1740
    refine readCov_wScr _ _ _ _ _ _ ?_ (View.cover_of_tiled _ ![64, 512] (by rfl))
    unfold runB.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : ∀ M, M = k1_pay306 (F := F) arg0 (x1 idx0) → k1_pay307 M (View.readAt (Elt F) arg2.view (Rect.unit ![0, 0] S384x8192.size inb_S384x8192_S384x8192_0_0).toLoadRect (harg2.unread x2))
      (runB.sl.v1740 c arg5 harg5 arg6 harg6 arg7 harg7 arg14 x5 x6 x7) = zT arg0 x1 x2 x5 x6 x7 := by
    intro M hM; rw [hM, hW, readAt_all harg2]; rfl
  have hS : ∀ M, M = k1_pay306 (F := F) arg0 (x1 idx0) → k1_pay308 M
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    intro M hM; rw [hM, readAt_all harg3, readAt_all harg8, readAt_all harg9, readAt_col0]; rfl
  isplitl [H10]
  · iexists _; isplitr
    swap; · iexact H10
    ipureintro
    refine (View.read_writes_full _ _ _ _ _).trans ?_
    exact (hT _ (congrArg (k1_pay306 (F := F) arg0) ((congrFun (harg1.read_unread x1) _).trans (congrArg x1 (eq_idx0 _)))))
  isplitl [H11]
  · iexists _; isplitr
    swap; · iexact H11
    ipureintro
    refine (View.read_writes_full _ _ _ _ _).trans ?_
    exact (hS _ (congrArg (k1_pay306 (F := F) arg0) ((congrFun (harg1.read_unread x1) _).trans (congrArg x1 (eq_idx0 _)))))
  isplitl [H12]
  · iexists _; isplitr
    swap; · iexact H12
    ipureintro
    exact harg12.read_unread _
  isplitl [H13]
  · iexists _; isplitr
    swap; · iexact H13
    ipureintro
    exact harg13.read_unread _
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 (hT _ (congrArg (k1_pay306 (F := F) arg0) ((congrFun (harg1.read_unread x1) _).trans (congrArg x1 (eq_idx0 _))))) (readAt_all harg15 x15 _)))
  isplitl [H16]
  · iexists _; isplitr
    swap; · iexact H16
    ipureintro
    refine (View.read_writes_full _ _ _ _ _).trans ?_
    exact (newSum_congr (hT _ (congrArg (k1_pay306 (F := F) arg0) ((congrFun (harg1.read_unread x1) _).trans (congrArg x1 (eq_idx0 _))))) (readAt_all harg15 x15 _) (readAt_all harg16 x16 _))
  isplitl [H17]
  · iexists _; isplitr
    swap; · iexact H17
    ipureintro
    refine (View.read_writes_full _ _ _ _ _).trans ?_
    exact (congrArg k1_pay310 (congrArg₂ k1_pay312 (hS _ (congrArg (k1_pay306 (F := F) arg0) ((congrFun (harg1.read_unread x1) _).trans (congrArg x1 (eq_idx0 _))))) (readAt_all harg17 x17 _)))
  iexists _; isplitr
  swap; · iexact H18
  ipureintro
  refine (View.read_writes_full _ _ _ _ _).trans ?_
  exact (newSum_congr (hS _ (congrArg (k1_pay306 (F := F) arg0) ((congrFun (harg1.read_unread x1) _).trans (congrArg x1 (eq_idx0 _))))) (readAt_all harg17 x17 _) (readAt_all harg18 x18 _))

end Cert.Kernel.Hand

end
-- ==== Proof.KernelBodyRunC.lean ====
module

public import proofs.«01_k».proof.Proof.KernelBodyDefs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 8000000 in
/-- One run of the logits body, past the first grid point and at the last: what each output block and each scratch array holds afterwards. -/
theorem runC (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : ¬ (Scalar.cmpi .ne (Scalar.extui (Scalar.cmpi .eq arg0 0#32)) 0#32) = 1#1) (hc1 : k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare (newLse (newMax (zT arg0 x1 x2 x5 x6 x7) x15) (newSum (zT arg0 x1 x2 x5 x6 x7) x15 x16)) ∗ owns (c : Thread nD τ) arg13 fullShare (newLse (newMax (zS arg0 x1 x3 x4 x8 x9) x17) (newSum (zS arg0 x1 x3 x4 x8 x9) x17 x18)) ∗ (∃ d, owns (c : Thread nD τ) arg14 fullShare d) ∗ owns (c : Thread nD τ) arg15 fullShare (newMax (zT arg0 x1 x2 x5 x6 x7) x15) ∗ owns (c : Thread nD τ) arg16 fullShare (newSum (zT arg0 x1 x2 x5 x6 x7) x15 x16) ∗ owns (c : Thread nD τ) arg17 fullShare (newMax (zS arg0 x1 x3 x4 x8 x9) x17) ∗ owns (c : Thread nD τ) arg18 fullShare (newSum (zS arg0 x1 x3 x4 x8 x9) x17 x18)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hW : runC.sl.v1740 c arg5 harg5 arg6 harg6 arg7 harg7 arg14 x5 x6 x7 = wScr x5 x6 x7 := by
    unfold runC.sl.v1740
    refine readCov_wScr _ _ _ _ _ _ ?_ (View.cover_of_tiled _ ![64, 512] (by rfl))
    unfold runC.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : ∀ M, M = k1_pay306 (F := F) arg0 (x1 idx0) → k1_pay307 M (View.readAt (Elt F) arg2.view (Rect.unit ![0, 0] S384x8192.size inb_S384x8192_S384x8192_0_0).toLoadRect (harg2.unread x2))
      (runC.sl.v1740 c arg5 harg5 arg6 harg6 arg7 harg7 arg14 x5 x6 x7) = zT arg0 x1 x2 x5 x6 x7 := by
    intro M hM; rw [hM, hW, readAt_all harg2]; rfl
  have hS : ∀ M, M = k1_pay306 (F := F) arg0 (x1 idx0) → k1_pay308 M
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    intro M hM; rw [hM, readAt_all harg3, readAt_all harg8, readAt_all harg9, readAt_col0]; rfl
  isplitl [H10]
  · iexists _; isplitr
    swap; · iexact H10
    ipureintro
    refine (View.read_writes_full _ _ _ _ _).trans ?_
    exact (hT _ (congrArg (k1_pay306 (F := F) arg0) ((congrFun (harg1.read_unread x1) _).trans (congrArg x1 (eq_idx0 _)))))
  isplitl [H11]
  · iexists _; isplitr
    swap; · iexact H11
    ipureintro
    refine (View.read_writes_full _ _ _ _ _).trans ?_
    exact (hS _ (congrArg (k1_pay306 (F := F) arg0) ((congrFun (harg1.read_unread x1) _).trans (congrArg x1 (eq_idx0 _)))))
  isplitl [H12]
  · iexists _; isplitr
    swap; · iexact H12
    ipureintro
    refine (View.read_writes_full _ _ _ _ _).trans ?_
    exact (congrArg₂ k1_pay2 ((View.readCov_full _ _ _ _ _).trans (congrArg k1_pay310 (congrArg₂ k1_pay312 (hT _ (congrArg (k1_pay306 (F := F) arg0) ((congrFun (harg1.read_unread x1) _).trans (congrArg x1 (eq_idx0 _))))) (readAt_all harg15 x15 _)))) ((View.readCov_full _ _ _ _ _).trans (newSum_congr (hT _ (congrArg (k1_pay306 (F := F) arg0) ((congrFun (harg1.read_unread x1) _).trans (congrArg x1 (eq_idx0 _))))) (readAt_all harg15 x15 _) (readAt_all harg16 x16 _))))
  isplitl [H13]
  · iexists _; isplitr
    swap; · iexact H13
    ipureintro
    refine (View.read_writes_full _ _ _ _ _).trans ?_
    exact (congrArg₂ k1_pay2 ((View.readCov_full _ _ _ _ _).trans (congrArg k1_pay310 (congrArg₂ k1_pay312 (hS _ (congrArg (k1_pay306 (F := F) arg0) ((congrFun (harg1.read_unread x1) _).trans (congrArg x1 (eq_idx0 _))))) (readAt_all harg17 x17 _)))) ((View.readCov_full _ _ _ _ _).trans (newSum_congr (hS _ (congrArg (k1_pay306 (F := F) arg0) ((congrFun (harg1.read_unread x1) _).trans (congrArg x1 (eq_idx0 _))))) (readAt_all harg17 x17 _) (readAt_all harg18 x18 _))))
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 (hT _ (congrArg (k1_pay306 (F := F) arg0) ((congrFun (harg1.read_unread x1) _).trans (congrArg x1 (eq_idx0 _))))) (readAt_all harg15 x15 _)))
  isplitl [H16]
  · iexists _; isplitr
    swap; · iexact H16
    ipureintro
    refine (View.read_writes_full _ _ _ _ _).trans ?_
    exact (newSum_congr (hT _ (congrArg (k1_pay306 (F := F) arg0) ((congrFun (harg1.read_unread x1) _).trans (congrArg x1 (eq_idx0 _))))) (readAt_all harg15 x15 _) (readAt_all harg16 x16 _))
  isplitl [H17]
  · iexists _; isplitr
    swap; · iexact H17
    ipureintro
    refine (View.read_writes_full _ _ _ _ _).trans ?_
    exact (congrArg k1_pay310 (congrArg₂ k1_pay312 (hS _ (congrArg (k1_pay306 (F := F) arg0) ((congrFun (harg1.read_unread x1) _).trans (congrArg x1 (eq_idx0 _))))) (readAt_all harg17 x17 _)))
  iexists _; isplitr
  swap; · iexact H18
  ipureintro
  refine (View.read_writes_full _ _ _ _ _).trans ?_
  exact (newSum_congr (hS _ (congrArg (k1_pay306 (F := F) arg0) ((congrFun (harg1.read_unread x1) _).trans (congrArg x1 (eq_idx0 _))))) (readAt_all harg17 x17 _) (readAt_all harg18 x18 _))

end Cert.Kernel.Hand

end
-- ==== Proof.KernelBodyRunD.lean ====
module

public import proofs.«01_k».proof.Proof.KernelBodyDefs

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

set_option maxHeartbeats 8000000 in
/-- One run of the logits body, at the first grid point and at the last: what each output block and each scratch array holds afterwards. -/
theorem runD (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (hc0 : (Scalar.cmpi .ne (Scalar.extui (Scalar.cmpi .eq arg0 0#32)) 0#32) = 1#1) (hc1 : k1_cond2 arg0 (BitVec.ofNat 32 (b 0)) = 1#1)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (x15 : Vec F S384x128 .f32) (x16 : Vec F S384x128 .f32) (x17 : Vec F S384x128 .f32) (x18 : Vec F S384x128 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare x15 ∗ owns (c : Thread nD τ) arg16 fullShare x16 ∗ owns (c : Thread nD τ) arg17 fullShare x17 ∗ owns (c : Thread nD τ) arg18 fullShare x18 ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (zT arg0 x1 x2 x5 x6 x7) ∗ owns (c : Thread nD τ) arg11 fullShare (zS arg0 x1 x3 x4 x8 x9) ∗ owns (c : Thread nD τ) arg12 fullShare (newLse (newMax (zT arg0 x1 x2 x5 x6 x7) k1_pay4) (newSum (zT arg0 x1 x2 x5 x6 x7) k1_pay4 k1_pay6)) ∗ owns (c : Thread nD τ) arg13 fullShare (newLse (newMax (zS arg0 x1 x3 x4 x8 x9) k1_pay5) (newSum (zS arg0 x1 x3 x4 x8 x9) k1_pay5 k1_pay7)) ∗ (∃ d, owns (c : Thread nD τ) arg14 fullShare d) ∗ owns (c : Thread nD τ) arg15 fullShare (newMax (zT arg0 x1 x2 x5 x6 x7) k1_pay4) ∗ owns (c : Thread nD τ) arg16 fullShare (newSum (zT arg0 x1 x2 x5 x6 x7) k1_pay4 k1_pay6) ∗ owns (c : Thread nD τ) arg17 fullShare (newMax (zS arg0 x1 x3 x4 x8 x9) k1_pay5) ∗ owns (c : Thread nD τ) arg18 fullShare (newSum (zS arg0 x1 x3 x4 x8 x9) k1_pay5 k1_pay7)) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1_logits_eq_skeleton]; unfold cc1_logits_skel
  simp only [k1_part48_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton, k1_part43_eq_skeleton, k1_part44_eq_skeleton, k1_part45_eq_skeleton, k1_part46_eq_skeleton, k1_part47_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12; obtain rfl := harg13.eq_unread hf13; obtain rfl := harg15.eq_unread hf15; obtain rfl := harg16.eq_unread hf16; obtain rfl := harg17.eq_unread hf17; obtain rfl := harg18.eq_unread hf18
  sl_exec (disch := first | sl_exact hc0 | sl_exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  have hW : runD.sl.v1740 c arg5 harg5 arg6 harg6 arg7 harg7 arg14 x5 x6 x7 = wScr x5 x6 x7 := by
    unfold runD.sl.v1740
    refine readCov_wScr _ _ _ _ _ _ ?_ (View.cover_of_tiled _ ![64, 512] (by rfl))
    unfold runD.sl.H14_128
    repeat' (first | exact (fun p hp => absurd hp List.not_mem_nil) | refine List.forall_mem_cons.mpr ⟨fun x => ?_, ?_⟩)
    all_goals first
      | exact piece_hi_at harg5 harg6 harg7 x5 x6 x7 _ (by decide) x _ rfl
      | exact piece_lo_at harg5 harg6 harg7 x5 x6 x7 _ (by decide) x _ rfl
      | exact piece_hi_at harg5 harg6 harg7 x5 x6 x7 _ (by decide) x _ rfl
  have hT : ∀ M, M = k1_pay306 (F := F) arg0 (x1 idx0) → k1_pay307 M (View.readAt (Elt F) arg2.view (Rect.unit ![0, 0] S384x8192.size inb_S384x8192_S384x8192_0_0).toLoadRect (harg2.unread x2))
      (runD.sl.v1740 c arg5 harg5 arg6 harg6 arg7 harg7 arg14 x5 x6 x7) = zT arg0 x1 x2 x5 x6 x7 := by
    intro M hM; rw [hM, hW, readAt_all harg2]; rfl
  have hS : ∀ M, M = k1_pay306 (F := F) arg0 (x1 idx0) → k1_pay308 M
      (View.readAt (Elt F) arg3.view (Rect.unit ![0, 0] S384x2048.size inb_S384x2048_S384x2048_0_0).toLoadRect (harg3.unread x3))
      (View.readAt (Elt F) arg8.view (Rect.unit ![0, 0] S512x2048.size inb_S512x2048_S512x2048_0_0).toLoadRect (harg8.unread x8))
      (View.readAt (Elt F) arg4.view (Rect.unit (s := S384x128) ![0, 0] S384x1.size inb_S384x128_S384x1_0_0).toLoadRect (harg4.unread x4))
      (View.readAt (Elt F) arg9.view (Rect.unit ![0, 0] S1x512.size inb_S1x512_S1x512_0_0).toLoadRect (harg9.unread x9)) = zS arg0 x1 x3 x4 x8 x9 := by
    intro M hM; rw [hM, readAt_all harg3, readAt_all harg8, readAt_all harg9, readAt_col0]; rfl
  isplitl [H10]
  · iexists _; isplitr
    swap; · iexact H10
    ipureintro
    refine (View.read_writes_full _ _ _ _ _).trans ?_
    exact (hT _ (congrArg (k1_pay306 (F := F) arg0) ((congrFun (harg1.read_unread x1) _).trans (congrArg x1 (eq_idx0 _)))))
  isplitl [H11]
  · iexists _; isplitr
    swap; · iexact H11
    ipureintro
    refine (View.read_writes_full _ _ _ _ _).trans ?_
    exact (hS _ (congrArg (k1_pay306 (F := F) arg0) ((congrFun (harg1.read_unread x1) _).trans (congrArg x1 (eq_idx0 _)))))
  isplitl [H12]
  · iexists _; isplitr
    swap; · iexact H12
    ipureintro
    refine (View.read_writes_full _ _ _ _ _).trans ?_
    exact (congrArg₂ k1_pay2 ((View.readCov_full _ _ _ _ _).trans (congrArg k1_pay310 (congrArg₂ k1_pay312 (hT _ (congrArg (k1_pay306 (F := F) arg0) ((congrFun (harg1.read_unread x1) _).trans (congrArg x1 (eq_idx0 _))))) (View.readCov_full _ _ _ _ _)))) ((View.readCov_full _ _ _ _ _).trans (newSum_congr (hT _ (congrArg (k1_pay306 (F := F) arg0) ((congrFun (harg1.read_unread x1) _).trans (congrArg x1 (eq_idx0 _))))) (View.readCov_full _ _ _ _ _) (View.readCov_full _ _ _ _ _))))
  isplitl [H13]
  · iexists _; isplitr
    swap; · iexact H13
    ipureintro
    refine (View.read_writes_full _ _ _ _ _).trans ?_
    exact (congrArg₂ k1_pay2 ((View.readCov_full _ _ _ _ _).trans (congrArg k1_pay310 (congrArg₂ k1_pay312 (hS _ (congrArg (k1_pay306 (F := F) arg0) ((congrFun (harg1.read_unread x1) _).trans (congrArg x1 (eq_idx0 _))))) (View.readCov_full _ _ _ _ _)))) ((View.readCov_full _ _ _ _ _).trans (newSum_congr (hS _ (congrArg (k1_pay306 (F := F) arg0) ((congrFun (harg1.read_unread x1) _).trans (congrArg x1 (eq_idx0 _))))) (View.readCov_full _ _ _ _ _) (View.readCov_full _ _ _ _ _))))
  isplitl [H14]
  · iexists _; iexists _; isplitr
    swap; · iexact H14
    ipureintro; rfl
  isplitl [H15]
  · iexists _; isplitr
    swap; · iexact H15
    ipureintro
    refine (View.read_writes_full _ _ _ _ _).trans ?_
    exact (congrArg k1_pay310 (congrArg₂ k1_pay312 (hT _ (congrArg (k1_pay306 (F := F) arg0) ((congrFun (harg1.read_unread x1) _).trans (congrArg x1 (eq_idx0 _))))) (View.readCov_full _ _ _ _ _)))
  isplitl [H16]
  · iexists _; isplitr
    swap; · iexact H16
    ipureintro
    refine (View.read_writes_full _ _ _ _ _).trans ?_
    exact (newSum_congr (hT _ (congrArg (k1_pay306 (F := F) arg0) ((congrFun (harg1.read_unread x1) _).trans (congrArg x1 (eq_idx0 _))))) (View.readCov_full _ _ _ _ _) (View.readCov_full _ _ _ _ _))
  isplitl [H17]
  · iexists _; isplitr
    swap; · iexact H17
    ipureintro
    refine (View.read_writes_full _ _ _ _ _).trans ?_
    exact (congrArg k1_pay310 (congrArg₂ k1_pay312 (hS _ (congrArg (k1_pay306 (F := F) arg0) ((congrFun (harg1.read_unread x1) _).trans (congrArg x1 (eq_idx0 _))))) (View.readCov_full _ _ _ _ _)))
  iexists _; isplitr
  swap; · iexact H18
  ipureintro
  refine (View.read_writes_full _ _ _ _ _).trans ?_
  exact (newSum_congr (hS _ (congrArg (k1_pay306 (F := F) arg0) ((congrFun (harg1.read_unread x1) _).trans (congrArg x1 (eq_idx0 _))))) (View.readCov_full _ _ _ _ _) (View.readCov_full _ _ _ _ _))

end Cert.Kernel.Hand

end
-- ==== Proof.KernelTables.lean ====
/-
  The run-time tables of the logits kernel: its number of vocabulary tiles, computed by the host from `vocab_valid`, lies
  between 1 and 63 and its tiles cover every valid column; so the contents pass the region's side condition.
-/
module

public import proofs.«01_k».proof.Proof.KernelBodyDefs
public import proofs.«01_k».proof.Proof.Gen.Kernel.Regions
public import Idealize.ShloMosaic.Lib.Pipeline.ClipFacts

@[expose] public section

noncomputable section

namespace Cert.Kernel.Hand

open Idealize.ShloMosaic Idealize.ShloMosaic.Pipeline Idealize.SL.Sem
open Cert.Kernel Cert.Kernel.Gen
open TcCoe

variable {F : FTy → Type} [FloatOps F]

/-- Floor division of rank-zero words, as the host computes it. -/
def floorDiv (x y : IVec S_ 32) : IVec S_ 32 :=
  select (andi (cmpi .ne (signi x) (signi y)) (cmpi .ne (Host.remsi x y) (constantI S_ 32 0#32)))
    (subi (Host.divsi x y) (constantI S_ 32 1#32)) (Host.divsi x y)

variable (X : Valuation τ sig (Elt F))

theorem ops1_v25 : StableHlo.after hostOps1 X main_v25
    = subi (addi (shapeCast S_ (X main_arg12 : (⟨S1, .i32⟩ : BufTy).Contents (Elt F)) shapeCasts_S1_S_) (constantI S_ 32 512#32)) (constantI S_ 32 1#32) := by
  after_results <;> rfl
theorem ops1_c1 : StableHlo.after hostOps1 X main_c_1 = constantI S_ 32 512#32 := by
  after_results <;> rfl
theorem ops1_1_v26 : StableHlo.after hostOps1_1 X main_v26 = floorDiv (X main_v25) (X main_c_1) := by
  after_results <;> rfl
theorem ops1_2_c2 : StableHlo.after hostOps1_2 X main_c_2 = constantI S_ 32 1#32 := by
  after_results <;> rfl
theorem ops1_2_c3 : StableHlo.after hostOps1_2 X main_c_3 = constantI S_ 32 63#32 := by
  after_results <;> rfl
theorem ops1_3_v27 : StableHlo.after hostOps1_3 X main_v27 = minsi (X main_c_3) (maxsi (X main_c_2) (X main_v26)) := by
  after_results <;> rfl

/-- The number of vocabulary tiles for the word `vv` of valid columns: `(vv + 512 - 1) / 512` between 1 and 63. -/
def ntOf (vv : BitVec 32) : BitVec 32 :=
  IntOp.minsi 63#32 (IntOp.maxsi 1#32 (floorDiv (fun _ => vv + 512#32 - 1#32) (fun _ => 512#32) fun a => a.elim0))

/-- The count of points is between 1 and 63. -/
theorem ntOf_toInt (vv : BitVec 32) : 1 ≤ (ntOf vv).toInt ∧ (ntOf vv).toInt ≤ 63 := by
  unfold ntOf IntOp.minsi IntOp.maxsi
  generalize floorDiv (fun _ => vv + 512#32 - 1#32) (fun _ => 512#32) (fun a => a.elim0) = q
  simp only [BitVec.slt_iff_toInt_lt]
  have h63 : (63#32).toInt = 63 := by decide
  have h1 : (1#32).toInt = 1 := by decide
  split_ifs with h2 h3 h3 <;> simp only [h63, h1] at * <;> omega

/-- The count of points is between 1 and 63. -/
theorem ntOf_toNat (vv : BitVec 32) : 1 ≤ (ntOf vv).toNat ∧ (ntOf vv).toNat ≤ 63 := by
  have h := ntOf_toInt vv
  have := BitVec.toInt_eq_toNat_cond (ntOf vv)
  split at this <;> omega

/-- Every valid column lies in one of the tiles. -/
theorem ntOf_covers (vv : BitVec 32) (h : vv.toInt ≤ 32000) (n : ℕ) (hn : (n : ℤ) < vv.toInt) : n < (ntOf vv).toNat * 512 := by
  obtain ⟨k, hk, rfl⟩ : ∃ k : ℕ, k ≤ 32000 ∧ vv = BitVec.ofNat 32 k := by
    refine ⟨vv.toNat, ?_, by simp⟩
    have := BitVec.toInt_eq_toNat_cond vv
    split at this <;> omega
  have hkI : (BitVec.ofNat 32 k).toInt = k := by
    rw [BitVec.toInt_eq_toNat_cond, BitVec.toNat_ofNat, Nat.mod_eq_of_lt (by omega)]; split <;> omega
  rw [hkI] at hn
  have hx : BitVec.ofNat 32 k + 512#32 - 1#32 = BitVec.ofNat 32 (k + 511) := by
    apply BitVec.eq_of_toNat_eq; simp [BitVec.toNat_add, BitVec.toNat_sub]; omega
  have hms : (BitVec.ofNat 32 (k + 511)).msb = false := by
    rw [BitVec.msb_eq_false_iff_two_mul_lt, BitVec.toNat_ofNat, Nat.mod_eq_of_lt (by omega)]; omega
  have hfl : floorDiv (fun _ => BitVec.ofNat 32 (k + 511)) (fun _ => 512#32) (fun a => a.elim0) = BitVec.ofNat 32 ((k + 511) / 512) := by
    have h0 : BitVec.ofNat 32 (k + 511) ≠ 0 := by
      intro h; have := congrArg BitVec.toNat h; simp at this; omega
    have hs1 : (if BitVec.ofNat 32 (k + 511) = 0 then (0 : BitVec 32) else if (BitVec.ofNat 32 (k + 511)).msb then -1 else 1) = 1 := by
      rw [if_neg h0, hms]; rfl
    have hs2 : (if 512#32 = 0 then (0 : BitVec 32) else if (512#32).msb then -1 else 1) = 1 := by decide
    have hd : IntOp.divsi .host (BitVec.ofNat 32 (k + 511)) 512#32 = BitVec.ofNat 32 ((k + 511) / 512) := by
      unfold IntOp.divsi
      rw [if_neg (by simp [IntOp.SDivCorner])]
      have : BitVec.sdiv (BitVec.ofNat 32 (k + 511)) 512#32 = BitVec.ofNat 32 (k + 511) / 512#32 := by
        unfold BitVec.sdiv; rw [hms]; rfl
      rw [this]
      apply BitVec.eq_of_toNat_eq; simp; omega
    unfold floorDiv select andi cmpi signi subi Host.divsi
    simp only [hs1, hs2, hd]
    have hz : ∀ z : BitVec 1, IntOp.andi (IntOp.cmpi CmpIPredicate.ne (1 : BitVec 32) 1) z = 0#1 := by decide
    rw [hz]
    rfl
  unfold ntOf
  rw [hx, hfl]
  unfold IntOp.minsi IntOp.maxsi
  simp only [BitVec.slt_iff_toInt_lt]
  have hq : (BitVec.ofNat 32 ((k + 511) / 512)).toInt = ((k + 511) / 512 : ℕ) := by
    rw [BitVec.toInt_eq_toNat_cond, BitVec.toNat_ofNat, Nat.mod_eq_of_lt (by omega)]; split <;> omega
  have hqn : (BitVec.ofNat 32 ((k + 511) / 512)).toNat = (k + 511) / 512 := by
    rw [BitVec.toNat_ofNat, Nat.mod_eq_of_lt (by omega)]
  have h63 : (63#32).toInt = 63 := by decide
  have h1 : (1#32).toInt = 1 := by decide
  have h63' : (63#32).toNat = 63 := by decide
  have h1' : (1#32).toNat = 1 := by decide
  split_ifs with h2 h3 h3 <;> simp only [h63, h1, h63', h1', hq, hqn] at * <;> omega

variable (m : (ℓ : Loc nD τ sig) → Buf (Elt F) ℓ) (outs : Outs (F := F))

/-- The word of valid columns at launch. -/
def vvWord (c : Dev nD) : BitVec 32 := (m ((c : Thread nD τ).loc main_arg12) : (⟨S1, .i32⟩ : BufTy).Contents (Elt F)) idx0

/-- The count of valid columns is unchanged at the second call. -/
theorem V7_arg12 (c : Dev nD) : V7 m outs c main_arg12 = m ((c : Thread nD τ).loc main_arg12) :=
  (V7_of m outs c main_arg12 (by decide)).trans <| (V6_of m outs c main_arg12 (by decide)).trans <| (V5_of m outs c main_arg12 (by decide)).trans <|
    (V4_of m outs c main_arg12 (by decide)).trans <| (V3_of m outs c main_arg12 (by decide)).trans <| (V2_of m outs c main_arg12 (by decide)).trans <|
    (V1_of m c main_arg12 (by decide)).trans rfl

/-- What the host leaves in the tile count's table. -/
theorem V7_v27 (c : Dev nD) : V7 m outs c main_v27 = fun _ => ntOf (vvWord m c) := by
  have h2 : V2 m outs c main_arg12 = m ((c : Thread nD τ).loc main_arg12) :=
    (V2_of m outs c main_arg12 (by decide)).trans ((V1_of m c main_arg12 (by decide)).trans rfl)
  refine (V7_of m outs c main_v27 (by decide)).trans ?_
  refine (ops1_3_v27 _).trans ?_
  rw [show V5 m outs c main_c_2 = _ from ops1_2_c2 _, show V5 m outs c main_c_3 = _ from ops1_2_c3 _, show V5 m outs c main_v26 = V4 m outs c main_v26 from V5_of m outs c main_v26 (by decide),
    show V4 m outs c main_v26 = _ from ops1_1_v26 _, show V3 m outs c main_v25 = _ from ops1_v25 _, show V3 m outs c main_c_1 = _ from ops1_c1 _, h2]
  have hc : shapeCast S_ (m ((c : Thread nD τ).loc main_arg12) : (⟨S1, .i32⟩ : BufTy).Contents (Elt F)) shapeCasts_S1_S_ = fun _ => vvWord m c :=
    funext fun i => congrArg (m ((c : Thread nD τ).loc main_arg12) : (⟨S1, .i32⟩ : BufTy).Contents (Elt F)) (eq_idx0 _)
  rw [hc]
  funext i
  obtain rfl : i = fun a => a.elim0 := funext fun a => a.elim0
  rfl

/-- The tables' contents. -/
def tbl (c : Dev nD) : pre1.Contents (Elt F) := fun k => V7 m (fun _ r c => m ((c : Thread nD τ).loc r)) c (Proc.devRef .tc (pre1.ref k))

/-- The table is what the scalar references hold at the second call. -/
theorem tbl_eq (c : Dev nD) (k) : tbl m c k = V7 m outs c (Proc.devRef .tc (pre1.ref k)) := by
  unfold tbl
  match k with
  | ⟨0, _⟩ => exact (V7_v27 m _ c).trans (V7_v27 m outs c).symm
  | ⟨1, _⟩ => exact (V7_arg12 m _ c).trans (V7_arg12 m outs c).symm

/-- The grid's length from the table. -/
theorem dynb_tbl (c : Dev nD) : dynb1 (tbl m c) = ![(ntOf (vvWord m c)).toNat] := by
  unfold dynb1; rw [show tbl m c 0 = _ from V7_v27 m _ c]

/-- The side condition holds at every tile count between 1 and 63. -/
theorem ok1_of (pf : pre1.Contents (Elt F)) (h63 : dynb1 pf 0 ≤ 63) : ok1 pf := by
  have hi : ∀ i : (grid1.at (dynb1 pf)).Coords, (i 0).val < 63 := fun i => lt_of_lt_of_le (i 0).isLt h63
  have hz : ∀ i : (grid1.at (dynb1 pf)).Coords, (BitVec.ofNat 32 (i 0).val).toNat = (i 0).val := fun i => by
    rw [BitVec.toNat_ofNat, Nat.mod_eq_of_lt (by have := hi i; omega)]
  have row : ∀ (i : (grid1.at (dynb1 pf)).Coords) (r : ℕ), 0 < r → ∀ a : Fin 2,
      (![0, (BitVec.ofNat 32 (i 0).val).toNat] : Fin 2 → ℕ) a * (![r, 512] : Fin 2 → ℕ) a < (![r, 32000] : Fin 2 → ℕ) a := by
    intro i r hr a
    have := hi i
    have := hz i
    fin_cases a
    · simpa using hr
    · show (BitVec.ofNat 32 (i 0).val).toNat * 512 < 32000; omega
  have col : ∀ (i : (grid1.at (dynb1 pf)).Coords) (a : Fin 2),
      (![(BitVec.ofNat 32 (i 0).val).toNat, 0] : Fin 2 → ℕ) a * (![512, 2048] : Fin 2 → ℕ) a < (![32000, 2048] : Fin 2 → ℕ) a := by
    intro i a
    have := hi i
    have := hz i
    fin_cases a
    · show (BitVec.ofNat 32 (i 0).val).toNat * 512 < 32000; omega
    · show 0 * 2048 < 2048; omega
  have whole : ∀ (r k : ℕ) (a : Fin 2), ((![0, 0] : Fin 2 → ℕ) a + 1) * (![r, k] : Fin 2 → ℕ) a ≤ (![r, k] : Fin 2 → ℕ) a := by
    intro r k a; fin_cases a <;> simp
  have hr3 : (0 + 1) * 4096 ≤ 4096 := by omega
  unfold ok1
  refine ⟨?_, fun i => ⟨whole 384 8192, .inr (Affine.block_words_rows (by decide) rfl)⟩, fun i => ⟨whole 384 2048, .inr (Affine.block_words_rows (by decide) rfl)⟩,
    fun i => ⟨whole 384 128, .inl rfl⟩, fun i => ⟨row i 4096 (by decide), .inr (Affine.clip_words_dvd (s := S4096x32000) (size := S4096x512.size) (ix := cc1_transform_3 (dynb1 pf) i) (le_refl 2) hr3 (show 4 ∣ 4096 by decide)), .inr (Affine.clip_srect_words (s := S4096x32000) (size := S4096x512.size) (ix := cc1_transform_3 (dynb1 pf) i) (le_refl 2) hr3)⟩,
    fun i => ⟨row i 64 (by decide), .inl rfl, .inl rfl⟩, fun i => ⟨row i 64 (by decide), .inl rfl, .inl rfl⟩, fun i => ⟨col i, .inr (.inl (Affine.packed_dvd (by decide) ?_ ?_)), .inr (.inl (Affine.packed_dvd (by decide) ?_ ?_))⟩,
    fun i => ⟨row i 1 (by decide), .inl rfl, .inl rfl⟩, fun i => ⟨row i 384 (by decide), .inl rfl, .inl rfl⟩, fun i => ⟨row i 384 (by decide), .inl rfl, .inl rfl⟩,
    fun i => ⟨whole 384 128, .inl rfl⟩, fun i => ⟨whole 384 128, .inl rfl⟩⟩
  · show (List.ofFn (grid1.boundAt (dynb1 pf))).prod + 2 < 2 ^ 31
    rw [show List.ofFn (grid1.boundAt (dynb1 pf)) = [grid1.boundAt (dynb1 pf) 0] from rfl, List.prod_singleton]
    have : grid1.boundAt (dynb1 pf) 0 ≤ 63 := h63
    omega
  · exact Dvd.dvd.mul_left (show 4 ∣ 512 by decide) _
  · show 4 ∣ (Clip.of (BitVec.ofNat 32 (i 0).val).toNat 512 32000).extent 512
    have := hi i
    rw [hz i]; unfold Clip.of; split
    · exact (by decide : 4 ∣ 512)
    · show 4 ∣ 32000 - (i 0).val * 512; omega
  · exact Dvd.intro 0 rfl
  · show 4 ∣ (Clip.of (BitVec.ofNat 32 (i 0).val).toNat 512 32000).extent 512
    have := hi i
    rw [hz i]; unfold Clip.of; split
    · exact (by decide : 4 ∣ 512)
    · show 4 ∣ 32000 - (i 0).val * 512; omega

/-- The tables the kernel is launched with are admissible. -/
def adm1 (c : Dev nD) : (pcfgs (F := F) 1).Adm := ⟨tbl m c, ok1_of _ (by rw [dynb_tbl]; exact (ntOf_toNat _).2)⟩

end Cert.Kernel.Hand

end

end
-- ==== Proof.KernelLogitsStep.lean ====
/-
  One point of the logits kernel, and the running statistics it carries: what any of its runs does to the scratch arrays (`step`), which
  statistics a number of points can leave (`Reach`), the region's proof data and its body obligation.
-/
module

public import proofs.«01_k».proof.Proof.KernelBodyRunA
public import proofs.«01_k».proof.Proof.KernelBodyRunB
public import proofs.«01_k».proof.Proof.KernelBodyRunC
public import proofs.«01_k».proof.Proof.KernelBodyRunD
public import proofs.«01_k».proof.Proof.KernelTables
public import Idealize.ShloMosaic.Lib.Pipeline.DatRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel.Gen

variable {F : FTy → Type} [FloatOps F]

local notation "𝕄" => MT nD τ sig Unit (Elt F) ℕ (UR sig nD τ) ℕ

/-- The running statistics of the two log-sum-exps: per row and lane a maximum and a sum, of the teacher's and of the student's logits. -/
structure Stats (F : FTy → Type) [FloatOps F] where
  mt : Vec F S384x128 .f32
  lt : Vec F S384x128 .f32
  ms : Vec F S384x128 .f32
  ls : Vec F S384x128 .f32

/-- The condition of the body's first branch: the point is the first. -/
abbrev isFirst (arg0 : BitVec 32) : Prop := (Scalar.cmpi .ne (Scalar.extui (Scalar.cmpi .eq arg0 0#32)) 0#32) = 1#1

/-- What the first point starts from. -/
def start : Stats F := ⟨k1_pay4, k1_pay6, k1_pay5, k1_pay7⟩

/-- The statistics a point starts from, if the scratch arrays hold `M`. -/
def base (arg0 : BitVec 32) (M : Stats F) : Stats F := if isFirst arg0 then start else M

/-- The statistics after the tile of inputs `x1 … x9`, if the scratch arrays hold `M` before. -/
def step (arg0 : BitVec 32) (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (M : Stats F) : Stats F :=
  ⟨newMax (zT arg0 x1 x2 x5 x6 x7) (base arg0 M).mt, newSum (zT arg0 x1 x2 x5 x6 x7) (base arg0 M).mt (base arg0 M).lt,
   newMax (zS arg0 x1 x3 x4 x8 x9) (base arg0 M).ms, newSum (zS arg0 x1 x3 x4 x8 x9) (base arg0 M).ms (base arg0 M).ls⟩

theorem step_first {arg0 : BitVec 32} {x1 : Vec F S1 .i32} {x2 : Vec F S384x8192 .bf16} {x3 : Vec F S384x2048 .fp8e4m3} {x4 : Vec F S384x128 .f32} {x5 : Vec F S4096x512 .i8} {x6 : Vec F S64x512 .f32} {x7 : Vec F S64x512 .f32} {x8 : Vec F S512x2048 .fp8e4m3} {x9 : Vec F S1x512 .f32} (M : Stats F) (h : isFirst arg0) :
    step arg0 x1 x2 x3 x4 x5 x6 x7 x8 x9 M = ⟨newMax (zT arg0 x1 x2 x5 x6 x7) k1_pay4, newSum (zT arg0 x1 x2 x5 x6 x7) k1_pay4 k1_pay6,
      newMax (zS arg0 x1 x3 x4 x8 x9) k1_pay5, newSum (zS arg0 x1 x3 x4 x8 x9) k1_pay5 k1_pay7⟩ := by
  unfold step base; rw [if_pos h]; rfl

theorem step_later {arg0 : BitVec 32} {x1 : Vec F S1 .i32} {x2 : Vec F S384x8192 .bf16} {x3 : Vec F S384x2048 .fp8e4m3} {x4 : Vec F S384x128 .f32} {x5 : Vec F S4096x512 .i8} {x6 : Vec F S64x512 .f32} {x7 : Vec F S64x512 .f32} {x8 : Vec F S512x2048 .fp8e4m3} {x9 : Vec F S1x512 .f32} (M : Stats F) (h : ¬ isFirst arg0) :
    step arg0 x1 x2 x3 x4 x5 x6 x7 x8 x9 M = ⟨newMax (zT arg0 x1 x2 x5 x6 x7) M.mt, newSum (zT arg0 x1 x2 x5 x6 x7) M.mt M.lt,
      newMax (zS arg0 x1 x3 x4 x8 x9) M.ms, newSum (zS arg0 x1 x3 x4 x8 x9) M.ms M.ls⟩ := by
  unfold step base; rw [if_neg h]

/-- One run of the logits body at any point: the inputs as they were, the scratch statistics advanced by `step`, and at the last point the
    two log-sum-exp blocks finished. -/
theorem runAny (c : Dev nD) (b : grid1.Bounds) (i : grid1.Static) (arg0 : BitVec 32) (arg1 : Memref sig .tc .smem S1 .i32) (harg1 : arg1.IsWhole) (arg2 : Memref sig .tc .vmem S384x8192 .bf16) (harg2 : arg2.IsWhole) (arg3 : Memref sig .tc .vmem S384x2048 .fp8e4m3) (harg3 : arg3.IsWhole) (arg4 : Memref sig .tc .vmem S384x128 .f32) (harg4 : arg4.IsWhole) (arg5 : Memref sig .tc .vmem S4096x512 .i8) (harg5 : arg5.IsWhole) (arg6 : Memref sig .tc .vmem S64x512 .f32) (harg6 : arg6.IsWhole) (arg7 : Memref sig .tc .vmem S64x512 .f32) (harg7 : arg7.IsWhole) (arg8 : Memref sig .tc .vmem S512x2048 .fp8e4m3) (harg8 : arg8.IsWhole) (arg9 : Memref sig .tc .vmem S1x512 .f32) (harg9 : arg9.IsWhole) (arg10 : Memref sig .tc .vmem S384x512 .f32) (harg10 : arg10.IsWhole) (arg11 : Memref sig .tc .vmem S384x512 .f32) (harg11 : arg11.IsWhole) (arg12 : Memref sig .tc .vmem S384x128 .f32) (harg12 : arg12.IsWhole) (arg13 : Memref sig .tc .vmem S384x128 .f32) (harg13 : arg13.IsWhole) (arg14 : Memref sig .tc .vmem S8192x512 .bf16) (harg14 : arg14.IsWhole) (arg15 : Memref sig .tc .vmem S384x128 .f32) (harg15 : arg15.IsWhole) (arg16 : Memref sig .tc .vmem S384x128 .f32) (harg16 : arg16.IsWhole) (arg17 : Memref sig .tc .vmem S384x128 .f32) (harg17 : arg17.IsWhole) (arg18 : Memref sig .tc .vmem S384x128 .f32) (harg18 : arg18.IsWhole)
    (x1 : Vec F S1 .i32) (x2 : Vec F S384x8192 .bf16) (x3 : Vec F S384x2048 .fp8e4m3) (x4 : Vec F S384x128 .f32) (x5 : Vec F S4096x512 .i8) (x6 : Vec F S64x512 .f32) (x7 : Vec F S64x512 .f32) (x8 : Vec F S512x2048 .fp8e4m3) (x9 : Vec F S1x512 .f32) (x12 : Vec F S384x128 .f32) (x13 : Vec F S384x128 .f32) (M : Stats F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ owns (c : Thread nD τ) arg12 fullShare x12 ∗ owns (c : Thread nD τ) arg13 fullShare x13 ∗ (∃ d, owns (c : Thread nD τ) arg14 fullShare d) ∗ owns (c : Thread nD τ) arg15 fullShare M.mt ∗ owns (c : Thread nD τ) arg16 fullShare M.lt ∗ owns (c : Thread nD τ) arg17 fullShare M.ms ∗ owns (c : Thread nD τ) arg18 fullShare M.ls ∗ ((owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ X, ⌜k1_cond2 arg0 (BitVec.ofNat 32 (b 0)) = 1#1 → X = newLse (step arg0 x1 x2 x3 x4 x5 x6 x7 x8 x9 M).mt (step arg0 x1 x2 x3 x4 x5 x6 x7 x8 x9 M).lt⌝ ∗ owns (c : Thread nD τ) arg12 fullShare X) ∗ (∃ X, ⌜k1_cond2 arg0 (BitVec.ofNat 32 (b 0)) = 1#1 → X = newLse (step arg0 x1 x2 x3 x4 x5 x6 x7 x8 x9 M).ms (step arg0 x1 x2 x3 x4 x5 x6 x7 x8 x9 M).ls⌝ ∗ owns (c : Thread nD τ) arg13 fullShare X) ∗ (∃ d, owns (c : Thread nD τ) arg14 fullShare d) ∗ owns (c : Thread nD τ) arg15 fullShare (step arg0 x1 x2 x3 x4 x5 x6 x7 x8 x9 M).mt ∗ owns (c : Thread nD τ) arg16 fullShare (step arg0 x1 x2 x3 x4 x5 x6 x7 x8 x9 M).lt ∗ owns (c : Thread nD τ) arg17 fullShare (step arg0 x1 x2 x3 x4 x5 x6 x7 x8 x9 M).ms ∗ owns (c : Thread nD τ) arg18 fullShare (step arg0 x1 x2 x3 x4 x5 x6 x7 x8 x9 M).ls) -∗ K ⟨⟩)) ⊢ wp frame (wpE (defs₀ (F := F)) Variants.none c none) E (cc1_logits b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  iintro ⟨H1, H2, H3, H4, H5, H6, H7, H8, H9, H10, H11, H12, H13, H14, H15, H16, H17, H18, Hk⟩
  by_cases h0 : isFirst arg0
  · by_cases h1 : k1_cond2 arg0 (BitVec.ofNat 32 (b 0)) = 1#1
    · -- first point, the last
      iapply (runD c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun _ => by rw [step_first _ h0]
      isplitl [H13]
      · iexists _; isplitr
        swap; · iexact H13
        ipureintro; exact fun _ => by rw [step_first _ h0]
      isplitl [H14]; · iexact H14
      isplitl [H15]
      · rw [step_first _ h0]; iexact H15
      isplitl [H16]
      · rw [step_first _ h0]; iexact H16
      isplitl [H17]
      · rw [step_first _ h0]; iexact H17
      rw [step_first _ h0]; iexact H18
    · -- first point, not the last
      iapply (runA c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun h => absurd h h1
      isplitl [H13]
      · iexists _; isplitr
        swap; · iexact H13
        ipureintro; exact fun h => absurd h h1
      isplitl [H14]; · iexact H14
      isplitl [H15]
      · rw [step_first _ h0]; iexact H15
      isplitl [H16]
      · rw [step_first _ h0]; iexact H16
      isplitl [H17]
      · rw [step_first _ h0]; iexact H17
      rw [step_first _ h0]; iexact H18
  · by_cases h1 : k1_cond2 arg0 (BitVec.ofNat 32 (b 0)) = 1#1
    · -- a later point, the last
      iapply (runC c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun _ => by rw [step_later _ h0]
      isplitl [H13]
      · iexists _; isplitr
        swap; · iexact H13
        ipureintro; exact fun _ => by rw [step_later _ h0]
      isplitl [H14]; · iexact H14
      isplitl [H15]
      · rw [step_later _ h0]; iexact H15
      isplitl [H16]
      · rw [step_later _ h0]; iexact H16
      isplitl [H17]
      · rw [step_later _ h0]; iexact H17
      rw [step_later _ h0]; iexact H18
    · -- a later point, not the last
      iapply (runB c b i arg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h0 h1 x1 x2 x3 x4 x5 x6 x7 x8 x9 x12 x13 M.mt M.lt M.ms M.ls E K)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iintro ⟨H1, H2, H3, H4, H5, H6, H7, H8, H9, H10, H11, H12, H13, H14, H15, H16, H17, H18⟩
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]
      · iexists _; isplitr
        swap; · iexact H12
        ipureintro; exact fun h => absurd h h1
      isplitl [H13]
      · iexists _; isplitr
        swap; · iexact H13
        ipureintro; exact fun h => absurd h h1
      isplitl [H14]; · iexact H14
      isplitl [H15]
      · rw [step_later _ h0]; iexact H15
      isplitl [H16]
      · rw [step_later _ h0]; iexact H16
      isplitl [H17]
      · rw [step_later _ h0]; iexact H17
      rw [step_later _ h0]; iexact H18

end Cert.Kernel.Hand

end

end
-- ==== Proof.KernelLogits.lean ====
/-
  The logits region's proof data: which running statistics a number of points can leave (`Reach`), what the windows hold, and the body
  obligation at every point.
-/
module

public import proofs.«01_k».proof.Proof.KernelLogitsStep
public import proofs.«01_k».proof.Proof.KernelTables
public import Idealize.ShloMosaic.Lib.Pipeline.DatRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.Kernel.Gen

variable {F : FTy → Type} [FloatOps F]

local notation "𝕄" => MT nD τ sig Unit (Elt F) ℕ (UR sig nD τ) ℕ

/-- The logits pipeline at admissible contents of its tables. -/
abbrev cfgL (a : (pcfgs (F := F) 1).Adm) : Cfg sig Λ₀ := (pcfgs (F := F) 1).at a

variable (a : (pcfgs (F := F) 1).Adm) (W : Valuation τ sig (Elt F)) (c : Dev nD)

/-- The array of window `w` when the region is entered. -/
def arr1 (w : Fin (cfgL a).W) : Buf (Elt F) (((cfgL a).win w).arr.view.loc (c.tc : Thread nD τ)) := W (Proc.devRef .tc (Pipeline.arrRef spec1 w))

/-- `x` is what the fetch at point `t` puts in the staging buffer of window `w`: the array's block, and anything outside the array. -/
def Blk (w : Fin (cfgL a).W) (t : Fin (cfgL a).N) (x : ((cfgL a).win w).block.Idx → Elt F ((cfgL a).win w).elt) : Prop :=
  ∃ d, x = ((cfgL a).win w).fill ((cfgL a).grid.coords t) d ((((cfgL a).win w).blk t).view.read (Elt F) (arr1 a W c w))

/-- The grid point as the body's word. -/
def pointWord (t : Fin (cfgL a).N) : BitVec 32 := BitVec.ofNat 32 ((cfgL a).grid.coords t 0).val

/-- The statistics that the first `n` points can leave. -/
def Reach : ℕ → Stats F → Prop
  | 0, _ => True
  | n + 1, M' => ∃ (h : n < (cfgL a).N) (M : Stats F) (y0 : Vec F S384x8192 .bf16) (y1 : Vec F S384x2048 .fp8e4m3) (y2 : Vec F S384x128 .f32) (y3 : Vec F S4096x512 .i8) (y4 : Vec F S64x512 .f32) (y5 : Vec F S64x512 .f32) (y6 : Vec F S512x2048 .fp8e4m3) (y7 : Vec F S1x512 .f32), Reach n M ∧ (Blk a W c 0 ⟨n, h⟩ y0 ∧ Blk a W c 1 ⟨n, h⟩ y1 ∧ Blk a W c 2 ⟨n, h⟩ y2 ∧ Blk a W c 3 ⟨n, h⟩ y3 ∧ Blk a W c 4 ⟨n, h⟩ y4 ∧ Blk a W c 5 ⟨n, h⟩ y5 ∧ Blk a W c 6 ⟨n, h⟩ y6 ∧ Blk a W c 7 ⟨n, h⟩ y7) ∧
      M' = step (pointWord a ⟨n, h⟩) (a.1 1) y0 y1 y2 y3 y4 y5 y6 y7 M

/-- The windows whose contents the proof data constrain but do not name: the four outputs. -/
def fgt1 : Fin 12 → Bool := ![false, false, false, false, false, false, false, false, true, true, true, true]

/-- What the body leaves in an output window: at the last point the finished log-sum-exps of some statistics that the points can leave. -/
def Rl1 (w : Fin (cfgL a).W) (t : Fin (cfgL a).N) (X : ((cfgL a).win w).block.Idx → Elt F ((cfgL a).win w).elt) : Prop :=
  match w, X with
  | ⟨10, _⟩, X => k1_cond2 (pointWord a t) (BitVec.ofNat 32 (dynb1 a.1 0)) = 1#1 → ∃ M, Reach a W c (t.val + 1) M ∧ X = newLse M.mt M.lt
  | ⟨11, _⟩, X => k1_cond2 (pointWord a t) (BitVec.ofNat 32 (dynb1 a.1 0)) = 1#1 → ∃ M, Reach a W c (t.val + 1) M ∧ X = newLse M.ms M.ls
  | _, _ => True

/-- What the body's invariant holds at a point: statistics in the four scratch arrays that the points before can leave, the rest of the
    scoped buffers and the generator register at anything, the tables at their contents. -/
def logitsInv (n : ℕ) : sProp 𝕄 :=
  iprop((∃ M : Stats F, ⌜Reach a W c n M⌝ ∗ owns (c : Thread nD τ) (Memref.whole cc1_scratch1) fullShare M.mt ∗ owns (c : Thread nD τ) (Memref.whole cc1_scratch2) fullShare M.lt
      ∗ owns (c : Thread nD τ) (Memref.whole cc1_scratch3) fullShare M.ms ∗ owns (c : Thread nD τ) (Memref.whole cc1_scratch4) fullShare M.ls)
    ∗ (∃ d, owns (c : Thread nD τ) (Memref.whole cc1_scratch0) fullShare d)
    ∗ Pipeline.scopedRestBut spec1 c [cc1_scratch0, cc1_scratch1, cc1_scratch2, cc1_scratch3, cc1_scratch4] ∗ (∃ r, prngReg c r)
    ∗ (((c.tc : Thread nD τ).loc (pre1.ref 0)) ↦{fullShare} a.1 0) ∗ owns (c : Thread nD τ) (Memref.whole main_arg12) fullShare (a.1 1))

/-- The proof data of the logits pipeline on core `c`, entered at the valuation `W`. -/
def logitsDat : Dat τ (Elt F) Unit ℕ (UR sig nD τ) ℕ (cfgL a) c where
  A w := arr1 a W c w
  after w t := ((cfgL a).win w).fill ((cfgL a).grid.coords t) (fun _ => Classical.arbitrary _) ((((cfgL a).win w).blk t).view.read (Elt F) (arr1 a W c w))
  Φ t := logitsInv a W c t.val
  q _ := fullShare
  owed _ := 0

theorem cut_after (w : Fin (cfgL a).W) (t : Fin (cfgL a).N) :
    ((cfgL a).win w).cut ((cfgL a).grid.coords t) ((logitsDat a W c).after w t) = (logitsDat a W c).blockOf w t :=
  ((cfgL a).win w).cut_fill _ _ _

/-- An input window's buffer holds a fetched block at every point. -/
theorem before_in (w : Fin (cfgL a).W) (hw : ((cfgL a).win w).isOut = false) (hlive : ∀ i, (cfgL a).idle w i = false)
    (hclip : ∀ t t' : Fin (cfgL a).N, ((cfgL a).win w).index t = ((cfgL a).win w).index t' →
      ((cfgL a).win w).clip ((cfgL a).grid.coords t) = ((cfgL a).win w).clip ((cfgL a).grid.coords t'))
    (t : Fin (cfgL a).N) (d : ((cfgL a).win w).block.Idx → Elt F ((cfgL a).win w).elt) :
    (logitsDat a W c).before w t d = ((cfgL a).win w).fill ((cfgL a).grid.coords t) d ((((cfgL a).win w).blk t).view.read (Elt F) (arr1 a W c w)) :=
  (logitsDat a W c).before_in_eq_fetched w hw hlive hclip (cut_after a W c w) t d

theorem before1_0 (t : Fin (cfgL a).N) (d) : (logitsDat a W c).before 0 t d = ((cfgL a).win 0).fill ((cfgL a).grid.coords t) d ((((cfgL a).win 0).blk t).view.read (Elt F) (arr1 a W c 0)) :=
  before_in a W c 0 rfl (fun _ => rfl) (fun _ _ _ => rfl) t d
theorem before1_1 (t : Fin (cfgL a).N) (d) : (logitsDat a W c).before 1 t d = ((cfgL a).win 1).fill ((cfgL a).grid.coords t) d ((((cfgL a).win 1).blk t).view.read (Elt F) (arr1 a W c 1)) :=
  before_in a W c 1 rfl (fun _ => rfl) (fun _ _ _ => rfl) t d
theorem before1_2 (t : Fin (cfgL a).N) (d) : (logitsDat a W c).before 2 t d = ((cfgL a).win 2).fill ((cfgL a).grid.coords t) d ((((cfgL a).win 2).blk t).view.read (Elt F) (arr1 a W c 2)) :=
  before_in a W c 2 rfl (fun _ => rfl) (fun _ _ _ => rfl) t d
theorem before1_3 (t : Fin (cfgL a).N) (d) : (logitsDat a W c).before 3 t d = ((cfgL a).win 3).fill ((cfgL a).grid.coords t) d ((((cfgL a).win 3).blk t).view.read (Elt F) (arr1 a W c 3)) :=
  before_in a W c 3 rfl (fun _ => rfl) (fun t t' h => funext fun k => congrArg (fun j => Pipeline.Clip.of j ((spec1 3).size k) ((spec1 3).shape.size k)) (congrFun h k)) t d
theorem before1_4 (t : Fin (cfgL a).N) (d) : (logitsDat a W c).before 4 t d = ((cfgL a).win 4).fill ((cfgL a).grid.coords t) d ((((cfgL a).win 4).blk t).view.read (Elt F) (arr1 a W c 4)) :=
  before_in a W c 4 rfl (fun _ => rfl) (fun t t' h => funext fun k => congrArg (fun j => Pipeline.Clip.of j ((spec1 4).size k) ((spec1 4).shape.size k)) (congrFun h k)) t d
theorem before1_5 (t : Fin (cfgL a).N) (d) : (logitsDat a W c).before 5 t d = ((cfgL a).win 5).fill ((cfgL a).grid.coords t) d ((((cfgL a).win 5).blk t).view.read (Elt F) (arr1 a W c 5)) :=
  before_in a W c 5 rfl (fun _ => rfl) (fun t t' h => funext fun k => congrArg (fun j => Pipeline.Clip.of j ((spec1 5).size k) ((spec1 5).shape.size k)) (congrFun h k)) t d
theorem before1_6 (t : Fin (cfgL a).N) (d) : (logitsDat a W c).before 6 t d = ((cfgL a).win 6).fill ((cfgL a).grid.coords t) d ((((cfgL a).win 6).blk t).view.read (Elt F) (arr1 a W c 6)) :=
  before_in a W c 6 rfl (fun _ => rfl) (fun t t' h => funext fun k => congrArg (fun j => Pipeline.Clip.of j ((spec1 6).size k) ((spec1 6).shape.size k)) (congrFun h k)) t d
theorem before1_7 (t : Fin (cfgL a).N) (d) : (logitsDat a W c).before 7 t d = ((cfgL a).win 7).fill ((cfgL a).grid.coords t) d ((((cfgL a).win 7).blk t).view.read (Elt F) (arr1 a W c 7)) :=
  before_in a W c 7 rfl (fun _ => rfl) (fun t t' h => funext fun k => congrArg (fun j => Pipeline.Clip.of j ((spec1 7).size k) ((spec1 7).shape.size k)) (congrFun h k)) t d
theorem before1_0_after (t : Fin (cfgL a).N) (d) : (logitsDat a W c).before 0 t d = (logitsDat a W c).after 0 t :=
  (before1_0 a W c t d).trans (Pipeline.fill_of_clip_none (cfg := cfgL a) 0 _ (fun _ => rfl) _ (fun _ => Classical.arbitrary _) _)
theorem before1_1_after (t : Fin (cfgL a).N) (d) : (logitsDat a W c).before 1 t d = (logitsDat a W c).after 1 t :=
  (before1_1 a W c t d).trans (Pipeline.fill_of_clip_none (cfg := cfgL a) 1 _ (fun _ => rfl) _ (fun _ => Classical.arbitrary _) _)
theorem before1_2_after (t : Fin (cfgL a).N) (d) : (logitsDat a W c).before 2 t d = (logitsDat a W c).after 2 t :=
  (before1_2 a W c t d).trans (Pipeline.fill_of_clip_none (cfg := cfgL a) 2 _ (fun _ => rfl) _ (fun _ => Classical.arbitrary _) _)
theorem before1_3_loose (t : Fin (cfgL a).N) (d) : (logitsDat a W c).before 3 t d
    = ((cfgL a).win 3).fill ((cfgL a).grid.coords t) d (((cfgL a).win 3).cut ((cfgL a).grid.coords t) ((logitsDat a W c).after 3 t)) := by
  rw [cut_after]; exact before1_3 a W c t d
theorem before1_4_loose (t : Fin (cfgL a).N) (d) : (logitsDat a W c).before 4 t d
    = ((cfgL a).win 4).fill ((cfgL a).grid.coords t) d (((cfgL a).win 4).cut ((cfgL a).grid.coords t) ((logitsDat a W c).after 4 t)) := by
  rw [cut_after]; exact before1_4 a W c t d
theorem before1_5_loose (t : Fin (cfgL a).N) (d) : (logitsDat a W c).before 5 t d
    = ((cfgL a).win 5).fill ((cfgL a).grid.coords t) d (((cfgL a).win 5).cut ((cfgL a).grid.coords t) ((logitsDat a W c).after 5 t)) := by
  rw [cut_after]; exact before1_5 a W c t d
theorem before1_6_loose (t : Fin (cfgL a).N) (d) : (logitsDat a W c).before 6 t d
    = ((cfgL a).win 6).fill ((cfgL a).grid.coords t) d (((cfgL a).win 6).cut ((cfgL a).grid.coords t) ((logitsDat a W c).after 6 t)) := by
  rw [cut_after]; exact before1_6 a W c t d
theorem before1_7_loose (t : Fin (cfgL a).N) (d) : (logitsDat a W c).before 7 t d
    = ((cfgL a).win 7).fill ((cfgL a).grid.coords t) d (((cfgL a).win 7).cut ((cfgL a).grid.coords t) ((logitsDat a W c).after 7 t)) := by
  rw [cut_after]; exact before1_7 a W c t d

/-- Owning a memref at equal contents. -/
theorem owns_of_eq {t : Thread nD τ} {sp : Space} {S : Shape} {e : EltTy} {r : Memref sig t.2.kind sp S e} {q : PosShare TreeShare}
    {x y : S.Idx → Elt F e} (h : x = y) : (owns t r q x : sProp 𝕄) ⊢ owns t r q y := h ▸ .rfl

/-- What the body is called with at point `t`, the windows one by one, -/
def bodyPre1 (t : Fin (cfgL a).N) : sProp 𝕄 :=
  iprop((logitsDat a W c).Φ t.castSucc ∗ (logitsDat a W c).owesAt () t.castSucc ∗ (∃ d, owns (c : Thread nD τ) (spec1_0.stage ((cfgL a).slots t 0)) fullShare ((logitsDat a W c).before 0 t d)) ∗ (∃ d, owns (c : Thread nD τ) (spec1_1.stage ((cfgL a).slots t 1)) fullShare ((logitsDat a W c).before 1 t d)) ∗ (∃ d, owns (c : Thread nD τ) (spec1_2.stage ((cfgL a).slots t 2)) fullShare ((logitsDat a W c).before 2 t d)) ∗ (∃ d, owns (c : Thread nD τ) (spec1_3.stage ((cfgL a).slots t 3)) fullShare ((logitsDat a W c).before 3 t d)) ∗ (∃ d, owns (c : Thread nD τ) (spec1_4.stage ((cfgL a).slots t 4)) fullShare ((logitsDat a W c).before 4 t d)) ∗ (∃ d, owns (c : Thread nD τ) (spec1_5.stage ((cfgL a).slots t 5)) fullShare ((logitsDat a W c).before 5 t d)) ∗ (∃ d, owns (c : Thread nD τ) (spec1_6.stage ((cfgL a).slots t 6)) fullShare ((logitsDat a W c).before 6 t d)) ∗ (∃ d, owns (c : Thread nD τ) (spec1_7.stage ((cfgL a).slots t 7)) fullShare ((logitsDat a W c).before 7 t d)) ∗ (∃ Y, ⌜((logitsDat a W c).toRRel fgt1 (Rl1 a W c)).Finds 8 t Y⌝ ∗ owns (c : Thread nD τ) (spec1_8.stage ((cfgL a).slots t 8)) fullShare Y) ∗ (∃ Y, ⌜((logitsDat a W c).toRRel fgt1 (Rl1 a W c)).Finds 9 t Y⌝ ∗ owns (c : Thread nD τ) (spec1_9.stage ((cfgL a).slots t 9)) fullShare Y) ∗ (∃ Y, ⌜((logitsDat a W c).toRRel fgt1 (Rl1 a W c)).Finds 10 t Y⌝ ∗ owns (c : Thread nD τ) (spec1_10.stage ((cfgL a).slots t 10)) fullShare Y) ∗ (∃ Y, ⌜((logitsDat a W c).toRRel fgt1 (Rl1 a W c)).Finds 11 t Y⌝ ∗ owns (c : Thread nD τ) (spec1_11.stage ((cfgL a).slots t 11)) fullShare Y))

/-- and what it returns. -/
def bodyPost1 (t : Fin (cfgL a).N) : sProp 𝕄 :=
  iprop((logitsDat a W c).Φ t.succ ∗ (logitsDat a W c).owesAt () t.succ ∗ owns (c : Thread nD τ) (spec1_0.stage ((cfgL a).slots t 0)) fullShare ((logitsDat a W c).after 0 t) ∗ owns (c : Thread nD τ) (spec1_1.stage ((cfgL a).slots t 1)) fullShare ((logitsDat a W c).after 1 t) ∗ owns (c : Thread nD τ) (spec1_2.stage ((cfgL a).slots t 2)) fullShare ((logitsDat a W c).after 2 t) ∗ (∃ d, owns (c : Thread nD τ) (spec1_3.stage ((cfgL a).slots t 3)) fullShare (((cfgL a).win 3).fill ((cfgL a).grid.coords t) d (((cfgL a).win 3).cut ((cfgL a).grid.coords t) ((logitsDat a W c).after 3 t)))) ∗ (∃ d, owns (c : Thread nD τ) (spec1_4.stage ((cfgL a).slots t 4)) fullShare (((cfgL a).win 4).fill ((cfgL a).grid.coords t) d (((cfgL a).win 4).cut ((cfgL a).grid.coords t) ((logitsDat a W c).after 4 t)))) ∗ (∃ d, owns (c : Thread nD τ) (spec1_5.stage ((cfgL a).slots t 5)) fullShare (((cfgL a).win 5).fill ((cfgL a).grid.coords t) d (((cfgL a).win 5).cut ((cfgL a).grid.coords t) ((logitsDat a W c).after 5 t)))) ∗ (∃ d, owns (c : Thread nD τ) (spec1_6.stage ((cfgL a).slots t 6)) fullShare (((cfgL a).win 6).fill ((cfgL a).grid.coords t) d (((cfgL a).win 6).cut ((cfgL a).grid.coords t) ((logitsDat a W c).after 6 t)))) ∗ (∃ d, owns (c : Thread nD τ) (spec1_7.stage ((cfgL a).slots t 7)) fullShare (((cfgL a).win 7).fill ((cfgL a).grid.coords t) d (((cfgL a).win 7).cut ((cfgL a).grid.coords t) ((logitsDat a W c).after 7 t)))) ∗ (∃ X, ⌜Rl1 a W c 8 t X⌝ ∗ owns (c : Thread nD τ) (spec1_8.stage ((cfgL a).slots t 8)) fullShare X) ∗ (∃ X, ⌜Rl1 a W c 9 t X⌝ ∗ owns (c : Thread nD τ) (spec1_9.stage ((cfgL a).slots t 9)) fullShare X) ∗ (∃ X, ⌜Rl1 a W c 10 t X⌝ ∗ owns (c : Thread nD τ) (spec1_10.stage ((cfgL a).slots t 10)) fullShare X) ∗ (∃ X, ⌜Rl1 a W c 11 t X⌝ ∗ owns (c : Thread nD τ) (spec1_11.stage ((cfgL a).slots t 11)) fullShare X))

/-- The body at any point, by `runAny`. -/
theorem sound_body1 (t : Fin (cfgL a).N) :
    bodyPre1 a W c t ⊢ wp frame (wpE (defs₀ (F := F)) Variants.none c none) Set.univ (cc1_logits (dynb1 a.1) (Pipeline.Grid.Coords.static grid1 ((cfgL a).grid.coords t)) (pointWord a t) (Memref.whole main_arg12) (Memref.isWhole_whole _) (spec1_0.stage ((cfgL a).slots t 0)) (hstage1_0 (((cfgL a).slots t 0).cast nbuf1_0)) (spec1_1.stage ((cfgL a).slots t 1)) (hstage1_1 (((cfgL a).slots t 1).cast nbuf1_1)) (spec1_2.stage ((cfgL a).slots t 2)) (hstage1_2 (((cfgL a).slots t 2).cast nbuf1_2)) (spec1_3.stage ((cfgL a).slots t 3)) (hstage1_3 (((cfgL a).slots t 3).cast nbuf1_3)) (spec1_4.stage ((cfgL a).slots t 4)) (hstage1_4 (((cfgL a).slots t 4).cast nbuf1_4)) (spec1_5.stage ((cfgL a).slots t 5)) (hstage1_5 (((cfgL a).slots t 5).cast nbuf1_5)) (spec1_6.stage ((cfgL a).slots t 6)) (hstage1_6 (((cfgL a).slots t 6).cast nbuf1_6)) (spec1_7.stage ((cfgL a).slots t 7)) (hstage1_7 (((cfgL a).slots t 7).cast nbuf1_7)) (spec1_8.stage ((cfgL a).slots t 8)) (hstage1_8 (((cfgL a).slots t 8).cast nbuf1_8)) (spec1_9.stage ((cfgL a).slots t 9)) (hstage1_9 (((cfgL a).slots t 9).cast nbuf1_9)) (spec1_10.stage ((cfgL a).slots t 10)) (hstage1_10 (((cfgL a).slots t 10).cast nbuf1_10)) (spec1_11.stage ((cfgL a).slots t 11)) (hstage1_11 (((cfgL a).slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _)) (fun _ => bodyPost1 a W c t) := by
  unfold bodyPre1 bodyPost1
  rw [show (logitsDat a W c).Φ t.succ = logitsInv a W c (t.val + 1) from rfl, show (logitsDat a W c).Φ t.castSucc = logitsInv a W c t.val from rfl,
    show (logitsDat a W c).owesAt () t.succ = (logitsDat a W c).owesAt () t.castSucc from rfl]
  unfold logitsInv
  iintro ⟨⟨⟨%M, %hM, HS1, HS2, HS3, HS4⟩, HS0, HR, Hp, Hn, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%Y8, -, H8⟩, ⟨%Y9, -, H9⟩, ⟨%Y10, -, H10⟩, ⟨%Y11, -, H11⟩⟩
  have hR : Reach a W c (t.val + 1) (step (pointWord a t) (a.1 1) ((logitsDat a W c).before 0 t d0) ((logitsDat a W c).before 1 t d1) ((logitsDat a W c).before 2 t d2) ((logitsDat a W c).before 3 t d3) ((logitsDat a W c).before 4 t d4) ((logitsDat a W c).before 5 t d5) ((logitsDat a W c).before 6 t d6) ((logitsDat a W c).before 7 t d7) M) :=
    ⟨t.isLt, M, _, _, _, _, _, _, _, _, hM, ⟨⟨d0, before1_0 a W c t d0⟩, ⟨d1, before1_1 a W c t d1⟩, ⟨d2, before1_2 a W c t d2⟩, ⟨d3, before1_3 a W c t d3⟩, ⟨d4, before1_4 a W c t d4⟩, ⟨d5, before1_5 a W c t d5⟩, ⟨d6, before1_6 a W c t d6⟩, ⟨d7, before1_7 a W c t d7⟩⟩, rfl⟩
  iapply (runAny c (dynb1 a.1) (Pipeline.Grid.Coords.static grid1 ((cfgL a).grid.coords t)) (pointWord a t) (Memref.whole main_arg12) (Memref.isWhole_whole _) (spec1_0.stage ((cfgL a).slots t 0)) (hstage1_0 (((cfgL a).slots t 0).cast nbuf1_0)) (spec1_1.stage ((cfgL a).slots t 1)) (hstage1_1 (((cfgL a).slots t 1).cast nbuf1_1)) (spec1_2.stage ((cfgL a).slots t 2)) (hstage1_2 (((cfgL a).slots t 2).cast nbuf1_2)) (spec1_3.stage ((cfgL a).slots t 3)) (hstage1_3 (((cfgL a).slots t 3).cast nbuf1_3)) (spec1_4.stage ((cfgL a).slots t 4)) (hstage1_4 (((cfgL a).slots t 4).cast nbuf1_4)) (spec1_5.stage ((cfgL a).slots t 5)) (hstage1_5 (((cfgL a).slots t 5).cast nbuf1_5)) (spec1_6.stage ((cfgL a).slots t 6)) (hstage1_6 (((cfgL a).slots t 6).cast nbuf1_6)) (spec1_7.stage ((cfgL a).slots t 7)) (hstage1_7 (((cfgL a).slots t 7).cast nbuf1_7)) (spec1_8.stage ((cfgL a).slots t 8)) (hstage1_8 (((cfgL a).slots t 8).cast nbuf1_8)) (spec1_9.stage ((cfgL a).slots t 9)) (hstage1_9 (((cfgL a).slots t 9).cast nbuf1_9)) (spec1_10.stage ((cfgL a).slots t 10)) (hstage1_10 (((cfgL a).slots t 10).cast nbuf1_10)) (spec1_11.stage ((cfgL a).slots t 11)) (hstage1_11 (((cfgL a).slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _)
    (a.1 1) ((logitsDat a W c).before 0 t d0) ((logitsDat a W c).before 1 t d1) ((logitsDat a W c).before 2 t d2) ((logitsDat a W c).before 3 t d3) ((logitsDat a W c).before 4 t d4) ((logitsDat a W c).before 5 t d5) ((logitsDat a W c).before 6 t d6) ((logitsDat a W c).before 7 t d7) Y10 Y11 M Set.univ _)
  isplitl [HT]; · iexact HT
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexact H10
  isplitl [H11]; · iexact H11
  isplitl [HS0]; · iexact HS0
  isplitl [HS1]; · iexact HS1
  isplitl [HS2]; · iexact HS2
  isplitl [HS3]; · iexact HS3
  isplitl [HS4]; · iexact HS4
  iintro ⟨HT, H0, H1, H2, H3, H4, H5, H6, H7, ⟨%X8, H8⟩, ⟨%X9, H9⟩, ⟨%X10, %h10, H10⟩, ⟨%X11, %h11, H11⟩, HS0, HS1, HS2, HS3, HS4⟩
  isplitl [HS0 HS1 HS2 HS3 HS4 HR Hp Hn HT]
  · isplitl [HS1 HS2 HS3 HS4]
    · iexists _; isplitr
      · ipureintro; exact hR
      isplitl [HS1]; · iexact HS1
      isplitl [HS2]; · iexact HS2
      isplitl [HS3]; · iexact HS3
      iexact HS4
    isplitl [HS0]; · iexact HS0
    isplitl [HR]; · iexact HR
    isplitl [Hp]; · iexact Hp
    isplitl [Hn]; · iexact Hn
    iexact HT
  isplitl [Ho]; · iexact Ho
  isplitl [H0]
  · iapply (owns_of_eq (before1_0_after a W c t d0)); iexact H0
  isplitl [H1]
  · iapply (owns_of_eq (before1_1_after a W c t d1)); iexact H1
  isplitl [H2]
  · iapply (owns_of_eq (before1_2_after a W c t d2)); iexact H2
  isplitl [H3]
  · iexists d3; iapply (owns_of_eq (before1_3_loose a W c t d3)); iexact H3
  isplitl [H4]
  · iexists d4; iapply (owns_of_eq (before1_4_loose a W c t d4)); iexact H4
  isplitl [H5]
  · iexists d5; iapply (owns_of_eq (before1_5_loose a W c t d5)); iexact H5
  isplitl [H6]
  · iexists d6; iapply (owns_of_eq (before1_6_loose a W c t d6)); iexact H6
  isplitl [H7]
  · iexists d7; iapply (owns_of_eq (before1_7_loose a W c t d7)); iexact H7
  isplitl [H8]
  · iexists X8; isplitr
    · ipureintro; exact trivial
    iexact H8
  isplitl [H9]
  · iexists X9; isplitr
    · ipureintro; exact trivial
    iexact H9
  isplitl [H10]
  · iexists X10; isplitr
    · ipureintro; exact fun h => ⟨_, hR, h10 h⟩
    iexact H10
  iexists X11; isplitr
  · ipureintro; exact fun h => ⟨_, hR, h11 h⟩
  iexact H11

/-- The body table's row at point `t`'s slots. -/
theorem defs₀_row1 (t : Fin (cfgL a).N) :
    defs₀ (F := F) .tc (cfgL a).body ((cfgL a).bodyArgs t ((cfgL a).slots t)) = cc1_logits (dynb1 a.1) (Pipeline.Grid.Coords.static grid1 ((cfgL a).grid.coords t)) (pointWord a t) (Memref.whole main_arg12) (Memref.isWhole_whole _) (spec1_0.stage ((cfgL a).slots t 0)) (hstage1_0 (((cfgL a).slots t 0).cast nbuf1_0)) (spec1_1.stage ((cfgL a).slots t 1)) (hstage1_1 (((cfgL a).slots t 1).cast nbuf1_1)) (spec1_2.stage ((cfgL a).slots t 2)) (hstage1_2 (((cfgL a).slots t 2).cast nbuf1_2)) (spec1_3.stage ((cfgL a).slots t 3)) (hstage1_3 (((cfgL a).slots t 3).cast nbuf1_3)) (spec1_4.stage ((cfgL a).slots t 4)) (hstage1_4 (((cfgL a).slots t 4).cast nbuf1_4)) (spec1_5.stage ((cfgL a).slots t 5)) (hstage1_5 (((cfgL a).slots t 5).cast nbuf1_5)) (spec1_6.stage ((cfgL a).slots t 6)) (hstage1_6 (((cfgL a).slots t 6).cast nbuf1_6)) (spec1_7.stage ((cfgL a).slots t 7)) (hstage1_7 (((cfgL a).slots t 7).cast nbuf1_7)) (spec1_8.stage ((cfgL a).slots t 8)) (hstage1_8 (((cfgL a).slots t 8).cast nbuf1_8)) (spec1_9.stage ((cfgL a).slots t 9)) (hstage1_9 (((cfgL a).slots t 9).cast nbuf1_9)) (spec1_10.stage ((cfgL a).slots t 10)) (hstage1_10 (((cfgL a).slots t 10).cast nbuf1_10)) (spec1_11.stage ((cfgL a).slots t 11)) (hstage1_11 (((cfgL a).slots t 11).cast nbuf1_11)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) := by
  unfold defs₀; rw [Defs.onTc_tc]; rfl

/-- The body obligation of the logits region. -/
theorem body_obligation1 : BodyObligationRel (logitsDat a W c) (defs₀ (F := F)) Variants.none () Set.univ fgt1 (Rl1 a W c) := fun t => by
  rw [bigSep_W1, bigSep_W1, defs₀_row1]
  exact triple_restated (sound_body1 a W c t) rfl .rfl fun _ => .rfl

end Cert.Kernel.Hand

end

end
-- ==== Proof.KernelRun.lean ====
/-
  The whole kernel program, run: the records of its two regions, and what every execution ends in.
-/
module

public import proofs.«01_k».proof.Proof.KernelPrep
public import proofs.«01_k».proof.Proof.KernelLogits
public import proofs.«01_k».proof.Proof.RegionRel
public import Idealize.ShloMosaic.Lib.Pipeline.RegionsOwned
public import Idealize.ShloMosaic.Lib.Pipeline.RegionArraysTS
public import Idealize.ShloMosaic.Lib.Pipeline.FrameTail

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
open Cert.Kernel.Gen

variable {F : FTy → Type} [FloatOps F]

local notation "𝕄" => MT nD τ sig Unit (Elt F) ℕ (UR sig nD τ) ℕ

variable (m : (ℓ : Loc nD τ sig) → Buf (Elt F) ℓ)

/-- The contents of each region's tables. -/
def adms : (p : Fin 2) → (pcfgs (F := F) p).Adm
  | 0 => cfg0.toPCfg_adm
  | 1 => adm1 m 0

/-- What the first region leaves in the buffers it may change. -/
def outs0 : Outs (F := F) := fun _ r c => Pipeline.afterRegion (prepDat m c) (V1 m c) (Proc.devRef .tc r)

/-- The proof data of both regions: the second is entered at the contents the host leaves before it. -/
def dats : (p : Fin 2) → (c : Dev nD) → Dat τ (Elt F) Unit ℕ (UR sig nD τ) ℕ (Pipeline.pin (pcfgs (F := F)) (adms m) p) c
  | 0 => prepDat m
  | 1 => fun c => logitsDat (adm1 m 0) (V7 m (outs0 m) c) c

/-- The windows held to a relation: the outputs of the second region. -/
def fgts : (p : Fin 2) → Fin (Pipeline.pin (pcfgs (F := F)) (adms m) p).W → Bool
  | 0 => fun _ => false
  | 1 => fgt1

def Rls : (p : Fin 2) → Dev nD → (w : Fin (Pipeline.pin (pcfgs (F := F)) (adms m) p).W) → Fin (Pipeline.pin (pcfgs (F := F)) (adms m) p).N →
    (((Pipeline.pin (pcfgs (F := F)) (adms m) p).win w).block.Idx → Elt F ((Pipeline.pin (pcfgs (F := F)) (adms m) p).win w).elt) → Prop
  | 0 => fun _ _ _ _ => True
  | 1 => fun c => Rl1 (adm1 m 0) (V7 m (outs0 m) c) c

/-- What the arrays of the second region may hold when it is left. -/
abbrev Exit1 (c : Dev nD) : Type := Pipeline.ExitArrays (pcfgs (F := F)) (adms m) (dats m) (fgts m) (Rls m) 1 c

/-- What the regions leave, the second region's arrays left at `A`. -/
def outsA (c : Dev nD) (A : (w : Fin 12) → Buf (Elt F) ((spec1 w).arr.view.loc (c.tc : Thread nD τ))) : Outs (F := F) := fun n r c' =>
  match n with
  | 8 => Pipeline.withArrays spec1 c (V7 m (outs0 m) c) A (Proc.devRef .tc r)
  | _ => outs0 m n r c'

theorem V7_outsA (c : Dev nD) (A) (c' : Dev nD) : V7 m (outsA m c A) c' = V7 m (outs0 m) c' := rfl

abbrev L : GSem nD τ sig → Finset Unit := fun g => match g.1.2 with | .tc => {()} | _ => ∅
abbrev lv : GSem nD τ sig → Unit → ℕ := fun _ _ => 0

/-- What rides along beside the buffers: nothing owed, and the generator register at anything. -/
abbrev rest (c : Dev nD) : sProp 𝕄 := iprop((∃ Wd, owes (c : Thread nD τ) (0 : CellTallies nD τ sig Unit) Wd) ∗ (∃ r, prngReg c r) ∗ emp)

theorem cut (p : Fin 2) : Pipeline.LevelCut (pcfgs (F := F)) (adms m) () L lv p (fun _ => 0) (fun _ => 0) where
  hι _ _ _ := Finset.mem_singleton_self _
  hιb _ _ _ := le_refl 0
  hD _ _ _ h := absurd h (lt_irrefl _)

theorem tables0 (c : Dev nD) (q) (pf) : (Pipeline.prefHeld (Ix := Unit) (Name := ℕ) (U := UR sig nD τ) (Lvl := ℕ) (Val := Elt F) (pcfgs (F := F) 0).pre c q pf : sProp 𝕄) = BI.emp :=
  bigSep_univ_eq_bigSepL (I := Fin 0) [] (show Finset.univ = ([] : List (Fin 0)).toFinset by decide) List.nodup_nil _

theorem tables1 (c : Dev nD) (pf : pre1.Contents (Elt F)) : (Pipeline.prefHeld (Ix := Unit) (Name := ℕ) (U := UR sig nD τ) (Lvl := ℕ) (Val := Elt F) pre1 c (fun _ => fullShare) pf : sProp 𝕄)
    = iprop((((c.tc : Thread nD τ).loc (pre1.ref 0)) ↦{fullShare} pf 0) ∗ (((c.tc : Thread nD τ).loc (pre1.ref 1)) ↦{fullShare} pf 1)) :=
  bigSep_univ_eq_bigSepL [(0 : Fin 2), (1 : Fin 2)] (by decide) (by decide) _

/-- The first region leaves its arrays at what its proof data name. -/
theorem exit0 (c : Dev nD) (A : Pipeline.ExitArrays (pcfgs (F := F)) (adms m) (dats m) (fgts m) (Rls m) 0 c) (w : Fin 8) :
    A.1 w = (prepDat m c).arrAt w cfg0.N :=
  ((prepDat m c).toR_arrAt_iff w cfg0.N (A.1 w)).mp (A.2 w)

section Updates
variable {α : Type} [DecidableEq α] {β : α → Type} (f : (i : α) → β i) {a b c d : α} (x : β a) (y : β b) (z : β c) (w : β d)

/-- Four updates, read at the first place, -/
theorem upd_a (h1 : a ≠ b) (h2 : a ≠ c) (h3 : a ≠ d) : Function.update (Function.update (Function.update (Function.update f a x) b y) c z) d w a = x := by
  rw [Function.update_of_ne h3, Function.update_of_ne h2, Function.update_of_ne h1, Function.update_self]
/-- the second, -/
theorem upd_b (h2 : b ≠ c) (h3 : b ≠ d) : Function.update (Function.update (Function.update (Function.update f a x) b y) c z) d w b = y := by
  rw [Function.update_of_ne h3, Function.update_of_ne h2, Function.update_self]
/-- the third, -/
theorem upd_c (h3 : c ≠ d) : Function.update (Function.update (Function.update (Function.update f a x) b y) c z) d w c = z := by
  rw [Function.update_of_ne h3, Function.update_self]
/-- the fourth, -/
theorem upd_d : Function.update (Function.update (Function.update (Function.update f a x) b y) c z) d w d = w := by
  rw [Function.update_self]
/-- and elsewhere. -/
theorem upd_off {e : α} (h0 : e ≠ a) (h1 : e ≠ b) (h2 : e ≠ c) (h3 : e ≠ d) : Function.update (Function.update (Function.update (Function.update f a x) b y) c z) d w e = f e := by
  rw [Function.update_of_ne h3, Function.update_of_ne h2, Function.update_of_ne h1, Function.update_of_ne h0]
end Updates

theorem V2_in (c : Dev nD) (w : Fin 8) (hw : (win0 w).isOut = false)
    (hr : Pipeline.arrRef spec0 w ∉ ([main_v22_0, main_v22_1, main_v22_2, main_v22_3] : List (Ref sig .tc))) :
    V2 m (outs0 m) c (Proc.devRef .tc (Pipeline.arrRef spec0 w)) = (prepDat m c).arrAt w cfg0.N :=
  (V2_of m (outs0 m) c _ hr).trans ((A_eq m c w).symm.trans ((prepDat m c).arrAt_in w hw _).symm)

theorem after0_arr (c : Dev nD) (w : Fin 8) :
    Pipeline.afterRegion (prepDat m c) (V1 m c) (Proc.devRef .tc (Pipeline.arrRef spec0 w)) = (prepDat m c).arrAt w cfg0.N :=
  Pipeline.afterRegion_arr (prepDat m c) (V1 m c) winFacts0.arr_inj w

theorem V2_out4 (c : Dev nD) : V2 m (outs0 m) c main_v22_0 = (prepDat m c).arrAt 4 cfg0.N :=
  (upd_a (V1 m c) _ _ _ _ (by decide) (by decide) (by decide)).trans (after0_arr m c 4)

theorem V2_out5 (c : Dev nD) : V2 m (outs0 m) c main_v22_1 = (prepDat m c).arrAt 5 cfg0.N :=
  (upd_b (V1 m c) _ _ _ _ (by decide) (by decide)).trans (after0_arr m c 5)

theorem V2_out6 (c : Dev nD) : V2 m (outs0 m) c main_v22_2 = (prepDat m c).arrAt 6 cfg0.N :=
  (upd_c (V1 m c) _ _ _ _ (by decide)).trans (after0_arr m c 6)

theorem V2_out7 (c : Dev nD) : V2 m (outs0 m) c main_v22_3 = (prepDat m c).arrAt 7 cfg0.N :=
  (upd_d (V1 m c) _ _ _ _ ).trans (after0_arr m c 7)

/-- After the first call its arrays hold what its points leave. -/
theorem V2_arr (c : Dev nD) (w : Fin 8) : V2 m (outs0 m) c (Proc.devRef .tc (Pipeline.arrRef spec0 w)) = (prepDat m c).arrAt w cfg0.N :=
  match w with
  | 0 => V2_in m c 0 rfl (by decide)
  | 1 => V2_in m c 1 rfl (by decide)
  | 2 => V2_in m c 2 rfl (by decide)
  | 3 => V2_in m c 3 rfl (by decide)
  | 4 => V2_out4 m c
  | 5 => V2_out5 m c
  | 6 => V2_out6 m c
  | 7 => V2_out7 m c

theorem not_arr {gr W : ℕ} {win : Fin W → Pipeline.WinSpec sig gr} {S : Finset (DevRef τ sig)} {d : DevRef τ sig}
    (hd : d ∈ S \ Pipeline.arrRefs win) (w : Fin W) : d ≠ Proc.devRef .tc (Pipeline.arrRef win w) := fun e =>
  (Finset.mem_sdiff.mp hd).2 (Finset.mem_map.mpr ⟨_, Finset.mem_image.mpr ⟨w, Finset.mem_univ _, rfl⟩, e.symm⟩)

/-- Other arrays are as before the first call. -/
theorem V2_off (c : Dev nD) (d) (hd : d ∈ Pipeline.ucRefs τ sig \ Pipeline.arrRefs spec0) : V2 m (outs0 m) c d = V1 m c d := by
  exact upd_off (V1 m c) _ _ _ _ (not_arr hd 4) (not_arr hd 5) (not_arr hd 6) (not_arr hd 7)

/-- Other arrays are as before the second call. -/
theorem V8_off (c : Dev nD) (A) (d) (hd : d ∈ Pipeline.ucRefs τ sig \ Pipeline.arrRefs spec1) : V8 m (outsA m c A) c d = V7 m (outs0 m) c d := by
  exact upd_off (V7 m (outs0 m) c) _ _ _ _ (not_arr hd 8) (not_arr hd 9) (not_arr hd 10) (not_arr hd 11)

theorem A1_eq (a : (pcfgs (F := F) 1).Adm) (W : Valuation τ sig (Elt F)) (c : Dev nD) (w : Fin 12) :
    (logitsDat a W c).A w = W (Proc.devRef .tc (Pipeline.arrRef spec1 w)) := rfl

theorem with1_arr (c : Dev nD) (A : (w : Fin 12) → Buf (Elt F) ((spec1 w).arr.view.loc (c.tc : Thread nD τ))) (w : Fin 12) :
    Pipeline.withArrays spec1 c (V7 m (outs0 m) c) A (Proc.devRef .tc (Pipeline.arrRef spec1 w)) = A w :=
  Pipeline.withArrays_arr spec1 winFacts1.arr_inj c (V7 m (outs0 m) c) A w

/-- The second call leaves its inputs. -/
theorem V8_in (c : Dev nD) (A : Exit1 m c) (w : Fin 12) (hw : (spec1 w).isOut = false)
    (hr : Pipeline.arrRef spec1 w ∉ ([main_v29_0, main_v29_1, main_v29_2, main_v29_3] : List (Ref sig .tc))) :
    A.1 w = V8 m (outsA m c A.1) c (Proc.devRef .tc (Pipeline.arrRef spec1 w)) :=
  (Pipeline.ExitArrays.input c A w hw).trans ((A1_eq (adm1 m 0) (V7 m (outs0 m) c) c w).trans (V8_of m (outsA m c A.1) c _ hr).symm)

theorem V8_out8 (c : Dev nD) (A : (w : Fin 12) → Buf (Elt F) ((spec1 w).arr.view.loc (c.tc : Thread nD τ))) : V8 m (outsA m c A) c main_v29_0 = A 8 :=
  (upd_a (V7 m (outs0 m) c) _ _ _ _ (by decide) (by decide) (by decide)).trans (with1_arr m c A 8)

theorem V8_out9 (c : Dev nD) (A : (w : Fin 12) → Buf (Elt F) ((spec1 w).arr.view.loc (c.tc : Thread nD τ))) : V8 m (outsA m c A) c main_v29_1 = A 9 :=
  (upd_b (V7 m (outs0 m) c) _ _ _ _ (by decide) (by decide)).trans (with1_arr m c A 9)

theorem V8_out10 (c : Dev nD) (A : (w : Fin 12) → Buf (Elt F) ((spec1 w).arr.view.loc (c.tc : Thread nD τ))) : V8 m (outsA m c A) c main_v29_2 = A 10 :=
  (upd_c (V7 m (outs0 m) c) _ _ _ _ (by decide)).trans (with1_arr m c A 10)

theorem V8_out11 (c : Dev nD) (A : (w : Fin 12) → Buf (Elt F) ((spec1 w).arr.view.loc (c.tc : Thread nD τ))) : V8 m (outsA m c A) c main_v29_3 = A 11 :=
  (upd_d (V7 m (outs0 m) c) _ _ _ _ ).trans (with1_arr m c A 11)

/-- The second region leaves its input arrays as they were and its output arrays at `A`. -/
theorem V8_arr (c : Dev nD) (A : Exit1 m c) (w : Fin 12) : A.1 w = V8 m (outsA m c A.1) c (Proc.devRef .tc (Pipeline.arrRef spec1 w)) :=
  match w with
  | 0 => V8_in m c A 0 rfl (by decide)
  | 1 => V8_in m c A 1 rfl (by decide)
  | 2 => V8_in m c A 2 rfl (by decide)
  | 3 => V8_in m c A 3 rfl (by decide)
  | 4 => V8_in m c A 4 rfl (by decide)
  | 5 => V8_in m c A 5 rfl (by decide)
  | 6 => V8_in m c A 6 rfl (by decide)
  | 7 => V8_in m c A 7 rfl (by decide)
  | 8 => (V8_out8 m c A.1).symm
  | 9 => (V8_out9 m c A.1).symm
  | 10 => (V8_out10 m c A.1).symm
  | 11 => (V8_out11 m c A.1).symm

/-- The record of the first region. -/
def reg0 : Pipeline.RDat.RegionSeg (pcfgs (F := F)) (adms m) (Pipeline.toRsRel (pcfgs (F := F)) (adms m) (dats m) (fgts m) (Rls m)) () defs₀ Variants.none L lv 0 :=
  Pipeline.RDat.RegionSeg.ofHeldRel (pcfgs (F := F)) (adms m) (dats m) () defs₀ Variants.none L lv (fgts m) (Rls m) 0 (fun _ => 0)
    (Pipeline.ucRefs τ sig) (Pipeline.arrRefs_sub_ucRefs spec0 (by decide)) (Pipeline.tblRefs_sub_ucRefs _ fun k => k.elim0)
    (fun c => iprop(∃ r, prngReg c r)) (fun c => iprop(∃ r, prngReg c r)) launch0
    (hbody := fun c => (body_obligation m c).toR)
    (howed := fun _ _ => rfl) (hrec := fun _ => rfl) (hshare := fun c w => (prepDat m c).share_full (fun _ => rfl) w)
    (hin := fun c => by
      show iprop(iprop(Pipeline.scopedRest spec0 c ∗ (∃ r, prngReg c r)) ∗ _) ⊢ Pipeline.ΦA spec0 c
      unfold Pipeline.ΦA
      iintro ⟨H, -⟩; iexact H)
    (hout := fun c => by
      show Pipeline.ΦA spec0 c ⊢ iprop(iprop(Pipeline.scopedRest spec0 c ∗ (∃ r, prngReg c r)) ∗ Pipeline.prefHeld (pcfgs (F := F) 0).pre c _ _)
      rw [tables0]; unfold Pipeline.ΦA
      iintro H; isplitl [H]; · iexact H
      iempintro)
    (b := fun _ => 0) (hcut := cut m 0) (R := fun _ => iprop(emp)) (W := V1 m) (mk := fun c _ => V2 m (outs0 m) c)
    (hmkA := fun c A w => (exit0 m c A w).trans (V2_arr m c w).symm)
    (hmkO := fun c _ d hd => V2_off m c d hd)
    (hW := fun c w => A_eq m c w)
    (hT := fun c k => k.elim0)

theorem rest1_eq (c : Dev nD) : (Pipeline.scopedRest (Val := Elt F) spec1 c : sProp 𝕄)
    = iprop(((∃ f, (c.tc : Thread nD τ).loc cc1_scratch0 ↦{fullShare} f) ∗ (∃ f, (c.tc : Thread nD τ).loc cc1_scratch1 ↦{fullShare} f)
        ∗ (∃ f, (c.tc : Thread nD τ).loc cc1_scratch2 ↦{fullShare} f) ∗ (∃ f, (c.tc : Thread nD τ).loc cc1_scratch3 ↦{fullShare} f)
        ∗ (∃ f, (c.tc : Thread nD τ).loc cc1_scratch4 ↦{fullShare} f))
      ∗ Pipeline.scopedRestBut spec1 c [cc1_scratch0, cc1_scratch1, cc1_scratch2, cc1_scratch3, cc1_scratch4]) :=
  Pipeline.scopedRest_split_of_list spec1 c [cc1_scratch0, cc1_scratch1, cc1_scratch2, cc1_scratch3, cc1_scratch4] (by decide) (by decide)

theorem arg12_whole (c : Dev nD) (a : (pcfgs (F := F) 1).Adm) : (owns (c.tc : Thread nD τ) (Memref.whole main_arg12) fullShare (a.1 1) : sProp 𝕄)
    = (((c.tc : Thread nD τ).loc (pre1.ref 1)) ↦{fullShare} a.1 1) := owns_whole (c.tc : Thread nD τ) main_arg12 fullShare (a.1 1)

/-- What the second region is entered with is its invariant at the first point. -/
theorem enter1 (a : (pcfgs (F := F) 1).Adm) (W : Valuation τ sig (Elt F)) (c : Dev nD) :
    iprop(iprop(Pipeline.scopedRest spec1 c ∗ (∃ r, prngReg c r)) ∗ Pipeline.prefHeld pre1 c (fun _ => fullShare) a.1) ⊢ (logitsInv a W c 0 : sProp 𝕄) := by
  rw [tables1, rest1_eq, ← arg12_whole]
  unfold logitsInv
  simp only [owns_whole c.tc cc1_scratch0, owns_whole c.tc cc1_scratch1, owns_whole c.tc cc1_scratch2, owns_whole c.tc cc1_scratch3, owns_whole c.tc cc1_scratch4]
  iintro ⟨⟨⟨⟨⟨%f0, H0⟩, ⟨%f1, H1⟩, ⟨%f2, H2⟩, ⟨%f3, H3⟩, ⟨%f4, H4⟩⟩, Hr⟩, Hp⟩, Hn, Hv⟩
  isplitl [H1 H2 H3 H4]
  · iexists (⟨f1, f2, f3, f4⟩ : Stats F); isplitr
    · ipureintro; exact trivial
    isplitl [H1]; · iexact H1
    isplitl [H2]; · iexact H2
    isplitl [H3]; · iexact H3
    iexact H4
  isplitl [H0]; · iexists f0; iexact H0
  isplitl [Hr]; · iexact Hr
  isplitl [Hp]; · iexact Hp
  isplitl [Hn]; · iexact Hn
  iexact Hv

/-- The invariant at any point gives back what the second region is left with. -/
theorem leave1 (a : (pcfgs (F := F) 1).Adm) (W : Valuation τ sig (Elt F)) (c : Dev nD) (n : ℕ) :
    (logitsInv a W c n : sProp 𝕄) ⊢ iprop(iprop(Pipeline.scopedRest spec1 c ∗ (∃ r, prngReg c r)) ∗ Pipeline.prefHeld pre1 c (fun _ => fullShare) a.1) := by
  rw [tables1, rest1_eq, ← arg12_whole]
  unfold logitsInv
  simp only [owns_whole c.tc cc1_scratch0, owns_whole c.tc cc1_scratch1, owns_whole c.tc cc1_scratch2, owns_whole c.tc cc1_scratch3, owns_whole c.tc cc1_scratch4]
  iintro ⟨⟨%M, -, H1, H2, H3, H4⟩, ⟨%f0, H0⟩, Hr, Hp, Hn, Hv⟩
  isplitr [Hn Hv]
  · isplitr [Hp]
    · isplitr [Hr]
      · isplitl [H0]; · iexists f0; iexact H0
        isplitl [H1]; · iexists M.mt; iexact H1
        isplitl [H2]; · iexists M.lt; iexact H2
        isplitl [H3]; · iexists M.ms; iexact H3
        iexists M.ls; iexact H4
      iexact Hr
    iexact Hp
  isplitl [Hn]; · iexact Hn
  iexact Hv

/-- The record of the second region. -/
def reg1 : Pipeline.RDat.RegionSeg (pcfgs (F := F)) (adms m) (Pipeline.toRsRel (pcfgs (F := F)) (adms m) (dats m) (fgts m) (Rls m)) () defs₀ Variants.none L lv 1 :=
  Pipeline.RDat.RegionSeg.ofHeldRel (pcfgs (F := F)) (adms m) (dats m) () defs₀ Variants.none L lv (fgts m) (Rls m) 1 (fun _ => 0)
    (Pipeline.ucRefs τ sig) (Pipeline.arrRefs_sub_ucRefs spec1 (by decide)) (Pipeline.tblRefs_sub_ucRefs pre1 (by decide))
    (fun c => iprop(∃ r, prngReg c r)) (fun c => iprop(∃ r, prngReg c r)) launch1
    (hbody := fun c => (body_obligation1 (adm1 m 0) (V7 m (outs0 m) c) c).toRRel)
    (howed := fun _ _ => rfl) (hrec := fun _ => rfl) (hshare := fun c w => (logitsDat (adm1 m 0) (V7 m (outs0 m) c) c).share_full (fun _ => rfl) w)
    (hin := fun c => enter1 (adm1 m 0) (V7 m (outs0 m) c) c)
    (hout := fun c => leave1 (adm1 m 0) (V7 m (outs0 m) c) c _)
    (b := fun _ => 0) (hcut := cut m 1) (R := fun _ => iprop(emp)) (W := V7 m (outs0 m)) (mk := fun c A => V8 m (outsA m c A) c)
    (hmkA := fun c A w => V8_arr m c A w)
    (hmkO := fun c A d hd => V8_off m c A d hd)
    (hW := fun c w => rfl)
    (hT := fun c k => by
      obtain rfl : c = 0 := Subsingleton.elim _ _
      exact tbl_eq m (outs0 m) 0 k)

/-- The last host stretch, from the contents some admitted exit of the second region leaves. -/
def segLast : HostSeg (Ix := Unit) (Name := ℕ) (U := UR sig nD τ) (Lvl := ℕ) (pcfgs (F := F)) defs₀ Variants.none L lv :=
  Pipeline.HostSeg.ofOpsEx (Γ := Exit1 m) _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun c A => V8 m (outsA m c A.1) c) rest

abbrev segsR (c : Dev nD) : List (Pipeline.RDat.Seg (pcfgs (F := F)) (adms m) (Pipeline.toRsRel (pcfgs (F := F)) (adms m) (dats m) (fgts m) (Rls m)) () defs₀ Variants.none L lv) :=
  [.host (seg0 m Variants.none L lv fun _ => rest), .region (reg0 m), .host (seg2 m (outs0 m) Variants.none L lv fun _ => rest),
    .host (seg3 m (outs0 m) Variants.none L lv fun _ => rest), .host (seg4 m (outs0 m) Variants.none L lv fun _ => rest),
    .host (seg5 m (outs0 m) Variants.none L lv fun _ => rest), .host (seg6 m (outs0 m) Variants.none L lv fun _ => rest),
    .region (reg1 m), .host (segLast m)]

set_option backward.isDefEq.respectTransparency.types false in
/-- Every execution of the program terminates with all counters at zero and every buffer at what the last host stretch leaves after
    some admitted exit of the second region. -/
theorem run_all (ρ : Dev nD → PrngReg) :
    θ_run defs (onTc (τ := τ) (main (F := F))) ⟨m, fun _ => 0, ρ⟩ (fun r =>
      (∀ c : Dev nD, ∃ A : Exit1 m c, ∀ b ∈ Pipeline.ucRefs τ sig, r.2.mem ((c : Dev nD), b) = V9 m (outsA m c A.1) c b) ∧ r.2.sem = fun _ => 0) := by
  refine Pipeline.RDat.θ_run_regions_kit_dev_sems (pcfgs (F := F)) (adms m) _ () (cellOf_inj (adms m)) emb₁ defs₀ Variants.none L lv m ρ main
    (segsR m)
    (fun c Q => by
      rewrite [main_chain c, Pipeline.RDat.Seg.run_eq_chain,
        show (segsR m c).map Pipeline.RDat.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2 ] from rfl]
      dsimp (config := { failIfUnchanged := false }) only
      exact .rfl)
    (fun c => by simp only [segsR, Pipeline.RDat.Seg.pipes_host, Pipeline.RDat.Seg.pipes_region, Pipeline.RDat.Seg.pipes_nil]; decide)
    (O₀ := 0) (hL := ?hL) (G := fun _ => iprop(emp))
    (u₀ := initOf (Pipeline.cells (Pipeline.pin (pcfgs (F := F)) (adms m)) (cellOf_inj (adms m))) (Pipeline.launchToks (Pipeline.pin (pcfgs (F := F)) (adms m)) (cellOf_inj (adms m))))
    (hu₀ := ?hu)
    (T₀ := fun c => iprop(StableHlo.held (c : Thread nD τ) (Pipeline.ucRefs τ sig) (V0 m c) ∗ rest c))
    (Tₙ := fun c => iprop(∃ A : Exit1 m c, StableHlo.held (c : Thread nD τ) (Pipeline.ucRefs τ sig) (V9 m (outsA m c A.1) c)))
    (hch := fun c => ⟨.rfl, .rfl, ?h2, .rfl, .rfl, .rfl, .rfl, .rfl, .rfl, ?hend⟩)
    (hinit := ?hinit)
    (QY := fun c s => ∃ A : Exit1 m c, ∀ b ∈ Pipeline.ucRefs τ sig, s.mem ((c : Dev nD), b) = V9 m (outsA m c A.1) c b)
    (hfin := fun c s' => ?hfin) (hQ := fun _ h hz => ⟨h, funext fun g => hz g (.inr (regions_no_unscoped g.2))⟩)
  case hL =>
    intro g hg
    show (match g.1.2 with | .tc => {()} | _ => ∅) = (∅ : Finset Unit)
    split
    · next h => exact absurd h hg
    · rfl
  case hu =>
    iintro Hu; imodintro
    isplitl [Hu]
    · iapply (show (ownU _ : sProp 𝕄) ⊢ BI.own (emb₁ (initOf (Pipeline.cells (Pipeline.pin (pcfgs (F := F)) (adms m)) (cellOf_inj (adms m))) (Pipeline.launchToks (Pipeline.pin (pcfgs (F := F)) (adms m)) (cellOf_inj (adms m))))) from .rfl); iexact Hu
    iapply (show (BI.emp : sProp 𝕄) ⊢ bigSep Finset.univ (fun _ : Dev nD => (BI.emp : sProp 𝕄)) from by rw [BI.bigSep_emp_const])
    iempintro
  case h2 =>
    show iprop((∃ A : Pipeline.ExitArrays (pcfgs (F := F)) (adms m) (dats m) (fgts m) (Rls m) 0 c, StableHlo.held (c.tc : Thread nD τ) (Pipeline.ucRefs τ sig) (V2 m (outs0 m) c)) ∗ rest c) ⊢ iprop(StableHlo.held (c : Thread nD τ) (Pipeline.ucRefs τ sig) (V2 m (outs0 m) c) ∗ rest c)
    iintro ⟨⟨%A, H⟩, HR⟩
    isplitl [H]; · iexact H
    iexact HR
  case hend =>
    show iprop((∃ A : Exit1 m c, StableHlo.held (c : Thread nD τ) (Pipeline.ucRefs τ sig) (V9 m (outsA m c A.1) c)) ∗ rest c) ⊢ iprop((∃ A : Exit1 m c, StableHlo.held (c : Thread nD τ) (Pipeline.ucRefs τ sig) (V9 m (outsA m c A.1) c)) ∗ ∃ W, owes (c.tc : Thread nD τ) (0 : CellTallies nD τ sig Unit) W)
    iintro ⟨H, ⟨HO, -⟩⟩
    isplitl [H]; · iexact H
    iexact HO
  case hinit =>
    refine Pipeline.initEach L lv fun c => ?_
    rw [show unscopedBufs c (fun b => m ((c.tc : Thread nD τ).loc b)) = StableHlo.held (c.tc : Thread nD τ) (Pipeline.ucRefs τ sig) (V0 m c) from Pipeline.unscopedBufs_held c (V0 m c)]
    iintro ⟨⟨Hh, -, HO, -, Hp, -⟩, -⟩
    imodintro
    isplitl [Hh]; · iexact Hh
    isplitl [HO]; · iexists ∅; iexact HO
    isplitl [Hp]; · iexists _; iexact Hp
    iempintro
  case hfin =>
    unfold StableHlo.held
    iintro ⟨⟨%A, Hh⟩, HSI⟩
    ihave Hr := (pointsTo_read_all (Pipeline.ucRefs τ sig) (fun b => ((c : Thread nD τ).1, b)) (V9 m (outsA m c A.1) c) s') $$ [Hh HSI]
    · isplitl [Hh] <;> iassumption
    icases Hr with ⟨%h, HSI⟩
    imodintro
    isplitr
    · ipureintro; exact ⟨A, h⟩
    iexact HSI

/-- An unscoped reference is among those the run accounts for. -/
theorem mem_uc (r : Ref sig .tc) (h : r.isScoped = false) : Proc.devRef .tc r ∈ Pipeline.ucRefs τ sig :=
  Finset.mem_filter.mpr ⟨StableHlo.devRef_mem_tcRefs r, by simpa using h⟩

/-- The frame: every execution terminates, leaves the arguments as they were and all counters at zero. -/
theorem frame_all (ρ : Dev nD → PrngReg) :
    θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12)) ∧ r.2.sem = fun _ => 0) := by
  refine (θ_run defs _ _).mono (fun r h => ⟨fun c => ?_, h.2⟩) (run_all m ρ)
  obtain ⟨A, hA⟩ := h.1 c
  exact ⟨(hA _ (mem_uc main_arg0 rfl)).trans (V9_main_arg0 m (outsA m c A.1) c), (hA _ (mem_uc main_arg1 rfl)).trans (V9_main_arg1 m (outsA m c A.1) c), (hA _ (mem_uc main_arg2 rfl)).trans (V9_main_arg2 m (outsA m c A.1) c), (hA _ (mem_uc main_arg3 rfl)).trans (V9_main_arg3 m (outsA m c A.1) c), (hA _ (mem_uc main_arg4 rfl)).trans (V9_main_arg4 m (outsA m c A.1) c), (hA _ (mem_uc main_arg5 rfl)).trans (V9_main_arg5 m (outsA m c A.1) c), (hA _ (mem_uc main_arg6 rfl)).trans (V9_main_arg6 m (outsA m c A.1) c), (hA _ (mem_uc main_arg7 rfl)).trans (V9_main_arg7 m (outsA m c A.1) c), (hA _ (mem_uc main_arg8 rfl)).trans (V9_main_arg8 m (outsA m c A.1) c), (hA _ (mem_uc main_arg9 rfl)).trans (V9_main_arg9 m (outsA m c A.1) c), (hA _ (mem_uc main_arg10 rfl)).trans (V9_main_arg10 m (outsA m c A.1) c), (hA _ (mem_uc main_arg11 rfl)).trans (V9_main_arg11 m (outsA m c A.1) c), (hA _ (mem_uc main_arg12 rfl)).trans (V9_main_arg12 m (outsA m c A.1) c)⟩

end Cert.Kernel.Hand

end

end
-- ==== Proof.Lse.lean ====
/-
  The log-sum-exp over the extended reals: the running pair of a maximum and a sum of powers of two, rescaled as the maximum grows,
  and its equality with the plain two-pass form in the natural base.
-/
module

public import Idealize.ShloMosaic.PureOps.Ideal

@[expose] public section

noncomputable section

namespace Cert.Lse

open Idealize.ShloMosaic

/-- Powers at minus infinity vanish. -/
theorem exp2_bot : Ideal.exp2 ⊥ = 0 := rfl
/-- Powers at minus infinity vanish. -/
theorem exp_bot : Ideal.exp ⊥ = 0 := rfl

/-- Powers at a real number. -/
theorem exp2_coe (r : ℝ) : Ideal.exp2 (r : EReal) = ((2 : ℝ) ^ r : ℝ) := rfl
/-- Powers at a real number. -/
theorem exp_coe (r : ℝ) : Ideal.exp (r : EReal) = (Real.exp r : ℝ) := rfl

/-- Powers are not negative. -/
theorem exp2_nonneg (x : EReal) : 0 ≤ Ideal.exp2 x := by
  induction x with
  | bot => exact le_refl _
  | top => exact le_top
  | coe r => rw [exp2_coe]; exact_mod_cast (Real.rpow_pos_of_pos two_pos r).le

/-- Minus infinity less anything. -/
theorem bot_sub (x : EReal) : (⊥ : EReal) - x = ⊥ := EReal.bot_sub x
/-- Anything less infinity. -/
theorem sub_top (x : EReal) : x - (⊤ : EReal) = ⊥ := by rw [sub_eq_add_neg, EReal.neg_top, EReal.add_bot]

/-- One term, rescaled from one maximum to a larger one. -/
theorem rescale_term {z m m' : EReal} (h : z ≤ m) (h' : m ≤ m') :
    Ideal.exp2 (z - m) * Ideal.exp2 (m - m') = Ideal.exp2 (z - m') := by
  induction m' with
  | top => rw [sub_top, sub_top, exp2_bot, mul_zero]
  | bot =>
    obtain rfl := le_bot_iff.mp h'; obtain rfl := le_bot_iff.mp h
    rw [bot_sub, exp2_bot, zero_mul]
  | coe r' =>
    induction m with
    | top => exact absurd h' (by simp)
    | bot => obtain rfl := le_bot_iff.mp h; rw [bot_sub, bot_sub, exp2_bot, zero_mul]
    | coe r =>
      induction z with
      | top => exact absurd h (by simp)
      | bot => rw [bot_sub, bot_sub, exp2_bot, zero_mul]
      | coe q =>
        rw [← EReal.coe_sub, ← EReal.coe_sub, ← EReal.coe_sub, exp2_coe, exp2_coe, exp2_coe, ← EReal.coe_mul, ← Real.rpow_add two_pos]
        congr 2; ring

/-- A sum of nonnegative terms distributes over a product. -/
theorem sum_mul_nonneg {ι : Type} (s : Finset ι) (f : ι → EReal) (c : EReal) (hf : ∀ i, 0 ≤ f i) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- A sum of powers, rescaled from one upper bound of its exponents to a larger one. -/
theorem rescale_sum {ι : Type} (s : Finset ι) (f : ι → EReal) {m m' : EReal} (h : ∀ i ∈ s, f i ≤ m) (h' : m ≤ m') :
    (∑ i ∈ s, Ideal.exp2 (f i - m)) * Ideal.exp2 (m - m') = ∑ i ∈ s, Ideal.exp2 (f i - m') := by
  rw [sum_mul_nonneg _ _ _ fun i => exp2_nonneg _]
  exact Finset.sum_congr rfl fun i hi => rescale_term (h i hi) h'

/-- The running pair after `n` values. -/
def runMax (f : ℕ → EReal) (n : ℕ) : EReal := (Finset.range n).sup f
/-- The running sum. -/
def runSum (f : ℕ → EReal) (n : ℕ) : EReal := ∑ i ∈ Finset.range n, Ideal.exp2 (f i - runMax f n)

/-- One more value. -/
theorem runMax_succ (f : ℕ → EReal) (n : ℕ) : runMax f (n + 1) = max (runMax f n) (f n) := by
  unfold runMax; rw [Finset.range_add_one, Finset.sup_insert, max_comm]

/-- The running maximum grows. -/
theorem runMax_mono (f : ℕ → EReal) {a b : ℕ} (h : a ≤ b) : runMax f a ≤ runMax f b :=
  Finset.sup_mono (Finset.range_mono h)

/-- Each value is below it. -/
theorem le_runMax (f : ℕ → EReal) {n i : ℕ} (h : i ∈ Finset.range n) : f i ≤ runMax f n := Finset.le_sup h

/-- Four more values: the maximum. -/
theorem runMax_four (f : ℕ → EReal) (n : ℕ) :
    runMax f (n + 4) = max (max (max (max (runMax f n) (f n)) (f (n + 1))) (f (n + 2))) (f (n + 3)) := by
  rw [runMax_succ, runMax_succ, runMax_succ, runMax_succ]

/-- Four more values: the sum. -/
theorem runSum_four (f : ℕ → EReal) (n : ℕ) {m : EReal} (hm : m = runMax f (n + 4)) :
    runSum f (n + 4) = runSum f n * Ideal.exp2 (runMax f n - m) + Ideal.exp2 (f n - m) + Ideal.exp2 (f (n + 1) - m)
      + Ideal.exp2 (f (n + 2) - m) + Ideal.exp2 (f (n + 3) - m) := by
  subst hm
  unfold runSum
  rw [rescale_sum _ f (fun i hi => le_runMax f hi) (runMax_mono f (Nat.le_add_right n 4)), Finset.sum_range_succ, Finset.sum_range_succ,
    Finset.sum_range_succ, Finset.sum_range_succ]

/-- The factor from the natural base to base two. -/
abbrev c2 : ℝ := (Real.log 2)⁻¹

/-- log 2 is positive. -/
theorem log2_pos : (0 : ℝ) < Real.log 2 := Real.log_pos (by norm_num)
/-- The factor is positive. -/
theorem c2_pos : 0 < c2 := inv_pos.mpr log2_pos

/-- A positive factor keeps minus infinity, -/
theorem bot_mul_pos {c : ℝ} (h : 0 < c) : (⊥ : EReal) * (c : EReal) = ⊥ := EReal.bot_mul_coe_of_pos h
/-- infinity, -/
theorem top_mul_pos {c : ℝ} (h : 0 < c) : (⊤ : EReal) * (c : EReal) = ⊤ := EReal.top_mul_coe_of_pos h

/-- sums, -/
theorem add_mul_pos {c : ℝ} (h : 0 < c) (a b : EReal) : (a + b) * (c : EReal) = a * c + b * c := by
  induction a with
  | bot => rw [EReal.bot_add, bot_mul_pos h, EReal.bot_add]
  | top =>
    induction b with
    | bot => rw [EReal.add_bot, bot_mul_pos h, EReal.add_bot]
    | top => rw [EReal.top_add_top, top_mul_pos h, EReal.top_add_top]
    | coe r => rw [EReal.top_add_coe, top_mul_pos h, ← EReal.coe_mul, EReal.top_add_coe]
  | coe q =>
    induction b with
    | bot => rw [EReal.add_bot, bot_mul_pos h, EReal.add_bot]
    | top => rw [EReal.coe_add_top, top_mul_pos h, ← EReal.coe_mul, EReal.coe_add_top]
    | coe r => rw [← EReal.coe_add, ← EReal.coe_mul, ← EReal.coe_mul, ← EReal.coe_mul, ← EReal.coe_add, add_mul]

/-- and differences. -/
theorem sub_mul_pos {c : ℝ} (h : 0 < c) (a b : EReal) : (a - b) * (c : EReal) = a * c - b * c := by
  rw [sub_eq_add_neg, add_mul_pos h, EReal.neg_mul, ← sub_eq_add_neg]

/-- A power of two of a rescaled exponent is the exponential. -/
theorem exp2_mul_c2 (x : EReal) : Ideal.exp2 (x * (c2 : EReal)) = Ideal.exp x := by
  induction x with
  | bot => rw [bot_mul_pos c2_pos]; rfl
  | top => rw [top_mul_pos c2_pos]; rfl
  | coe r =>
    rw [← EReal.coe_mul, exp2_coe, exp_coe, Real.rpow_def_of_pos two_pos]
    congr 2
    rw [mul_comm r, ← mul_assoc, mul_inv_cancel₀ log2_pos.ne', one_mul]

/-- The factor moves out of a supremum. -/
theorem sup_mul_c2 {ι : Type} (s : Finset ι) (f : ι → EReal) : (s.sup fun i => f i * (c2 : EReal)) = s.sup f * (c2 : EReal) := by
  have hm : Monotone fun x : EReal => x * (c2 : EReal) := fun a b h =>
    mul_le_mul_of_nonneg_right h (EReal.coe_nonneg.mpr c2_pos.le)
  exact (Finset.comp_sup_eq_sup_comp (fun x : EReal => x * (c2 : EReal)) (fun a b => hm.map_max) (bot_mul_pos c2_pos)).symm

/-- Base two back to the natural base, at the end. -/
theorem back (m l : EReal) : (m * (c2 : EReal) + l * (c2 : EReal)) * ((Real.log 2 : ℝ) : EReal) = m + l := by
  rw [← add_mul_pos c2_pos, mul_assoc, ← EReal.coe_mul, inv_mul_cancel₀ log2_pos.ne', EReal.coe_one, mul_one]

/-- The plain log-sum-exp of the first `n` values. -/
def lse (y : ℕ → EReal) (n : ℕ) : EReal :=
  (Finset.range n).sup y + Ideal.log (∑ i ∈ Finset.range n, Ideal.exp (y i - (Finset.range n).sup y))

/-- Values that are minus infinity from `a` on add nothing. -/
theorem lse_tail (y : ℕ → EReal) {a n : ℕ} (h : a ≤ n) (hy : ∀ i, a ≤ i → y i = ⊥) : lse y n = lse y a := by
  have hs : (Finset.range n).sup y = (Finset.range a).sup y := by
    refine le_antisymm (Finset.sup_le fun i _ => ?_) (Finset.sup_mono (Finset.range_mono h))
    by_cases hi : i < a
    · exact Finset.le_sup (Finset.mem_range.mpr hi)
    · rw [hy i (not_lt.mp hi)]; exact bot_le
  unfold lse
  rw [hs]
  congr 2
  refine (Finset.sum_subset (Finset.range_mono h) fun i _ hi => ?_).symm
  rw [hy i (not_lt.mp fun h => hi (Finset.mem_range.mpr h)), bot_sub, exp_bot]

/-- The column that lane `j` sees as its `u`-th value. -/
def lane (y : ℕ → EReal) (j u : ℕ) : EReal := y (128 * u + j) * (c2 : EReal)

/-- Sums and maxima over the lanes and their values are sums and maxima over the columns. -/
theorem sum_lanes {β : Type} [AddCommMonoid β] (g : ℕ → β) (n : ℕ) :
    ∑ j ∈ Finset.range 128, ∑ u ∈ Finset.range n, g (128 * u + j) = ∑ v ∈ Finset.range (128 * n), g v := by
  rw [Finset.sum_comm]
  induction n with
  | zero => simp
  | succ n ih => rw [Finset.sum_range_succ, ih, Nat.mul_succ, Finset.sum_range_add]

/-- The same for maxima. -/
theorem sup_lanes (g : ℕ → EReal) (n : ℕ) :
    ((Finset.range 128).sup fun j => (Finset.range n).sup fun u => g (128 * u + j)) = (Finset.range (128 * n)).sup g := by
  refine le_antisymm (Finset.sup_le fun j hj => Finset.sup_le fun u hu => ?_) (Finset.sup_le fun v hv => ?_)
  · have := Finset.mem_range.mp hj; have := Finset.mem_range.mp hu
    exact Finset.le_sup (f := g) (Finset.mem_range.mpr (by omega))
  · have hv := Finset.mem_range.mp hv
    refine le_trans ?_ (Finset.le_sup (Finset.mem_range.mpr (Nat.mod_lt v (by norm_num : 0 < 128))))
    refine le_trans (le_of_eq ?_) (Finset.le_sup (f := fun u => g (128 * u + v % 128)) (Finset.mem_range.mpr (by omega : v / 128 < n)))
    exact congrArg g (Nat.div_add_mod v 128).symm

/-- The lanes' running pairs after `n` values each, combined across the lanes, are the plain log-sum-exp of the `128 n` columns. -/
theorem combine (y : ℕ → EReal) (n : ℕ) (mm : EReal) (hmm : mm = (Finset.range 128).sup fun j => runMax (lane y j) n) :
    (mm + Ideal.log (∑ j ∈ Finset.range 128, runSum (lane y j) n * Ideal.exp2 (runMax (lane y j) n - mm)) * (c2 : EReal)) * ((Real.log 2 : ℝ) : EReal)
      = lse y (128 * n) := by
  have hm : mm = (Finset.range (128 * n)).sup y * (c2 : EReal) := by
    rw [hmm, ← sup_mul_c2, ← sup_lanes]; rfl
  have hs : ∑ j ∈ Finset.range 128, runSum (lane y j) n * Ideal.exp2 (runMax (lane y j) n - mm)
      = ∑ v ∈ Finset.range (128 * n), Ideal.exp (y v - (Finset.range (128 * n)).sup y) := by
    rw [← sum_lanes]
    refine Finset.sum_congr rfl fun j hj => ?_
    unfold runSum
    rw [rescale_sum _ (lane y j) (fun i hi => le_runMax _ hi) (hmm ▸ Finset.le_sup (f := fun j => runMax (lane y j) n) hj)]
    refine Finset.sum_congr rfl fun u _ => ?_
    rw [hm]; unfold lane
    rw [← sub_mul_pos c2_pos, exp2_mul_c2]
  rw [hs, hm, back]; rfl

end Cert.Lse

end

end
-- ==== Proof.Spec.lean ====
/-
  What both programs compute, as plain functions over the extended reals: the quantised student rows, the normalised teacher rows, the
  two logits, and the row log-sum-exp over the admitted columns.
-/
module

public import proofs.«01_k».proof.Proof.Lse
public import Idealize.ShloMosaic.Lib.Pointwise

@[expose] public section

set_option maxRecDepth 16384

noncomputable section

namespace Cert.Spec

open Idealize.ShloMosaic

/-- A student row after the root-mean-square normalisation and its gain. -/
def normed (x g : Fin 2048 → EReal) (k : Fin 2048) : EReal :=
  x k * Ideal.div 1 (Ideal.sqrt (Ideal.div (∑ i, x i * x i) (Ideal.ofBits FTy.f32 0x45000000#32) + Ideal.ofBits FTy.f32 0x358637BD#32)) * g k

/-- The largest magnitude of a normalised row. -/
def peak (x g : Fin 2048 → EReal) : EReal :=
  Finset.univ.fold max (Ideal.ofBits FTy.f32 0xFF800000#32) (fun k => FloatOps.absf (F := Ideal) (φ := .f32) (normed x g k))

/-- The row's quantisation scale. -/
def scale (x g : Fin 2048 → EReal) : EReal := if peak x g = 0 then 1 else Ideal.div (peak x g) (Ideal.ofBits FTy.f32 0x43E00000#32)

/-- The row's quantised values. -/
def code (x g : Fin 2048 → EReal) (k : Fin 2048) : EReal :=
  min (Ideal.ofBits FTy.f32 0x43E00000#32) (max (Ideal.ofBits FTy.f32 0xC3E00000#32) (Ideal.div (normed x g k) (scale x g)))

/-- A teacher row after the root-mean-square normalisation and its gain. -/
def hidden (h g : Fin 8192 → EReal) (k : Fin 8192) : EReal :=
  Ideal.div (h k) (Ideal.sqrt (Ideal.div (∑ i, h i * h i) (Ideal.ofBits FTy.f32 0x46000000#32) + Ideal.ofBits FTy.f32 0x358637BD#32)) * g k

/-- The low and the high nibble of a packed byte. -/
def low (b : BitVec 8) : EReal := (((b &&& 15#8).toInt : ℝ) : EReal)
/-- The value of the high nibble of a byte. -/
def high (b : BitVec 8) : EReal := (((b >>> 4).toInt : ℝ) : EReal)

/-- The group of a packed row. -/
abbrev grp (i : Fin 4096) : Fin 64 := ⟨i.val / 64, by omega⟩

/-- One teacher logit: even entries against low nibbles, odd ones against high nibbles, each less its zero point and scaled. -/
def teacher (h : Fin 8192 → EReal) (P : Fin 4096 → BitVec 8) (S Z : Fin 64 → EReal) : EReal :=
  ∑ i : Fin 4096, h ⟨2 * i.val, by omega⟩ * ((low (P i) - Z (grp i)) * S (grp i))
    + ∑ i : Fin 4096, h ⟨2 * i.val + 1, by omega⟩ * ((high (P i) - Z (grp i)) * S (grp i))

/-- One student logit. -/
def student (q w : Fin 2048 → EReal) (s ws : EReal) : EReal := (∑ k, q k * w k) * s * ws

/-- A row's logits at half, minus infinity from the bound on. -/
def logits (vv : BitVec 32) (L : Fin 32000 → EReal) : ℕ → EReal := fun v =>
  if h : v < 32000 ∧ (v : ℤ) < vv.toInt then L ⟨v, h.1⟩ * ((1 / 2 : ℝ) : EReal) else ⊥

/-- The claimed statistic of a row: its log-sum-exp less the logarithm of the vocabulary's size. -/
def result (vv : BitVec 32) (L : Fin 32000 → EReal) : EReal := Lse.lse (logits vv L) 32000 - Ideal.ofBits FTy.f32 0x4125F9D2#32

/-! ## Two arrangements of one sum -/

theorem sum_blocks (f : ℕ → EReal) (n : ℕ) :
    ∑ r ∈ Finset.range (256 * n), f r = ∑ i ∈ Finset.range (128 * n), f (256 * (i / 128) + i % 128)
      + ∑ i ∈ Finset.range (128 * n), f (256 * (i / 128) + 128 + i % 128) := by
  induction n with
  | zero => simp
  | succ n ih =>
    rw [Nat.mul_succ, Nat.mul_succ, Finset.sum_range_add, Finset.sum_range_add, Finset.sum_range_add, ih,
      show (256 : ℕ) = 128 + 128 from rfl, Finset.sum_range_add (fun x => f ((128 + 128) * n + x)) 128 128]
    have e1 : ∀ x ∈ Finset.range 128, f ((128 + 128) * ((128 * n + x) / 128) + (128 * n + x) % 128) = f ((128 + 128) * n + x) := fun x hx => by
      have := Finset.mem_range.mp hx; exact congrArg f (by omega)
    have e2 : ∀ x ∈ Finset.range 128, f ((128 + 128) * ((128 * n + x) / 128) + 128 + (128 * n + x) % 128) = f ((128 + 128) * n + (128 + x)) := fun x hx => by
      have := Finset.mem_range.mp hx; exact congrArg f (by omega)
    rw [Finset.sum_congr rfl e1, Finset.sum_congr rfl e2]
    abel

/-- A sum over blocks of 256 split in halves of 128. -/
theorem sum_fin_blocks (n N M : ℕ) (hN : N = 256 * n) (hM : M = 128 * n) (f : Fin N → EReal) :
    ∑ r, f r = ∑ i : Fin M, f ⟨256 * (i.val / 128) + i.val % 128, by omega⟩
      + ∑ i : Fin M, f ⟨256 * (i.val / 128) + 128 + i.val % 128, by omega⟩ := by
  subst hN hM
  have h := sum_blocks (fun r => if h : r < 256 * n then f ⟨r, h⟩ else 0) n
  rw [Finset.sum_range, Finset.sum_range, Finset.sum_range] at h
  refine Eq.trans (Finset.sum_congr rfl fun r _ => ?_) (h.trans ?_)
  · rw [dif_pos r.isLt]
  · refine congrArg₂ _ (Finset.sum_congr rfl fun i _ => ?_) (Finset.sum_congr rfl fun i _ => ?_)
    · rw [dif_pos (by omega)]
    · rw [dif_pos (by omega)]

/-- Where the normalised teacher entry of a rearranged position comes from. -/
abbrev perm (r : Fin 8192) : Fin 8192 :=
  ⟨256 * (r.val / 256) + (if r.val % 256 < 128 then 2 * (r.val % 256) else 2 * (r.val % 256) - 255), by split <;> omega⟩

/-- The packed row that a rearranged weight row comes from. -/
abbrev packedRow (r : Fin 8192) : Fin 4096 := ⟨128 * (r.val / 256) + r.val % 128, by omega⟩

/-- The teacher logit from the rearranged rows. -/
theorem teacher_arranged (h : Fin 8192 → EReal) (P : Fin 4096 → BitVec 8) (S Z : Fin 64 → EReal) :
    ∑ r : Fin 8192, h (perm r) * (((if r.val % 256 < 128 then low (P (packedRow r)) else high (P (packedRow r))) - Z (grp (packedRow r))) * S (grp (packedRow r)))
      = teacher h P S Z := by
  rw [sum_fin_blocks 32 8192 4096 rfl rfl]
  unfold teacher
  refine congrArg₂ _ (Finset.sum_congr rfl fun i _ => ?_) (Finset.sum_congr rfl fun i _ => ?_)
  · have hp : packedRow ⟨256 * (i.val / 128) + i.val % 128, by omega⟩ = i := Fin.ext (by simp only [packedRow]; omega)
    have hl : (256 * (i.val / 128) + i.val % 128) % 256 < 128 := by omega
    have hq : perm ⟨256 * (i.val / 128) + i.val % 128, by omega⟩ = ⟨2 * i.val, by omega⟩ := Fin.ext (by
      simp only [perm]; rw [if_pos hl]; omega)
    rw [hp, hq, if_pos hl]
  · have hp : packedRow ⟨256 * (i.val / 128) + 128 + i.val % 128, by omega⟩ = i := Fin.ext (by simp only [packedRow]; omega)
    have hl : ¬(256 * (i.val / 128) + 128 + i.val % 128) % 256 < 128 := by omega
    have hq : perm ⟨256 * (i.val / 128) + 128 + i.val % 128, by omega⟩ = ⟨2 * i.val + 1, by omega⟩ := Fin.ext (by
      simp only [perm]; rw [if_neg hl]; omega)
    rw [hp, hq, if_neg hl]

/-! ## Words and constants -/

theorem low_word (b : BitVec 8) : ((BitVec.setWidth 32 b) &&& 15#32).toInt = (b &&& 15#8).toInt := by
  revert b; decide

/-- The high nibble by an arithmetic shift of the widened byte. -/
theorem high_word (b : BitVec 8) : (BitVec.sshiftRight (BitVec.setWidth 32 b) 4).toInt = (b >>> 4).toInt := by
  revert b; decide

/-- The high nibble by a logical shift of the widened byte, truncated. -/
theorem high_word' (b : BitVec 8) : (BitVec.setWidth 8 ((BitVec.setWidth 32 b) >>> 4)).toInt = (b >>> 4).toInt := by
  revert b; decide

/-- The word of the temperature is 2. -/
theorem two_val : Ideal.ofBits FTy.f32 0x40000000#32 = ((2 : ℝ) : EReal) := by
  simp [Ideal.ofBits, Ideal.ieee, -EReal.coe_mul]; norm_num

/-- Division by the temperature is multiplication by one half. -/
theorem half (x : EReal) : Ideal.div x (Ideal.ofBits FTy.f32 0x40000000#32) = x * ((1 / 2 : ℝ) : EReal) := by
  rw [two_val, Ideal.div_coe (by norm_num)]

/-- The named scale is one half in base two. -/
theorem z_scaled (x : EReal) : x * (((Real.log 2)⁻¹ * (1 / 2) : ℝ) : EReal) = x * ((1 / 2 : ℝ) : EReal) * (Lse.c2 : EReal) := by
  rw [mul_assoc, ← EReal.coe_mul, mul_comm (1 / 2 : ℝ)]

end Cert.Spec

end

end
-- ==== Proof.KPrep.lean ====
/-
  What the first call stores, read at an index, in terms of the plain functions: the normalised teacher rows with the even and the odd
  entries of each 256 brought together, the student's codes, and their scales.
-/
module

public import proofs.«01_k».proof.Proof.Prep
public import proofs.«01_k».proof.Proof.Spec
public import Idealize.ShloMosaic.Lib.Pointwise
public import Idealize.ShloMosaic.Lib.Pipeline.Value

@[expose] public section

set_option maxRecDepth 16384

noncomputable section

namespace Cert.KernelIdeal.Hand

open Idealize.ShloMosaic Cert.KernelIdeal Cert.KernelIdeal.Gen

/-! ## The 0/1 matrix -/

/-- Where column `k` of the matrix has its one. -/
abbrev oneAt (k : ℕ) : ℕ := if k < 128 then 2 * k else 2 * k - 255

/-- The selection matrix's wanted row, as a word. -/
theorem oneAt_word : ∀ k : Fin 256, Scalar.select (IntOp.cmpi .slt (BitVec.ofNat 32 k.val) 128#32) (IntOp.muli 2#32 (BitVec.ofNat 32 k.val))
    (IntOp.subi (IntOp.muli 2#32 (BitVec.ofNat 32 k.val)) 255#32) = BitVec.ofNat 32 (oneAt k.val) := by decide +kernel

/-- Comparing the row with the wanted one gives one or zero. -/
theorem one_or_zero (r p : ℕ) (hr : r < 256) (hp : p < 256) :
    FloatOps.sitofp (F := Ideal) .f32 (BitVec.setWidth 32 (IntOp.cmpi .eq (BitVec.ofNat 32 r) (BitVec.ofNat 32 p))) = (if r = p then (1 : EReal) else 0) := by
  have e : (BitVec.ofNat 32 r == BitVec.ofNat 32 p) = decide (r = p) := by
    rw [Bool.eq_iff_iff, beq_iff_eq, decide_eq_true_iff]
    constructor
    · intro h
      have := congrArg BitVec.toNat h
      rw [BitVec.toNat_ofNat, BitVec.toNat_ofNat] at this
      omega
    · rintro rfl; rfl
  show (((BitVec.setWidth 32 (BitVec.ofBool (BitVec.ofNat 32 r == BitVec.ofNat 32 p))).toInt : ℝ) : EReal) = _
  rw [e]
  by_cases h : r = p
  · simp [h]
  · simp [h]

/-- The selection matrix at an index. -/
theorem pay3_apply (r k : Fin 256) : k0_pay3 (F := Ideal) (ix2 r k) = (if r.val = oneAt k.val then (1 : EReal) else 0) := by
  pointwise [k0_pay3]
  rw [oneAt_word]
  exact one_or_zero _ _ r.isLt (by have := k.isLt; unfold oneAt; split <;> omega)

/-! ## The rearranged teacher rows -/

/-- One chunk of 256 columns times the matrix. -/
def chunk (o : ℕ) (h : S128x8192.Slices ![0, o] S128x256) (v : FVec Ideal S128x8192 .bf16) (w : FVec Ideal S256x256 .bf16) : FVec Ideal S128x256 .bf16 :=
  truncf .bf16 (matmul dot_S128x256_S256x256_S128x256_1_0_0_1_n_n none (extractStridedSlice S128x256 ![0, o] v h) w
    (constant S128x256 .f32 0x00000000#32)) bitsLt_bf16_f32

/-- A product with a 256 by 256 matrix at an index. -/
theorem product_apply (u : FVec Ideal S128x256 .bf16) (w : FVec Ideal S256x256 .bf16) (r : Fin 128) (k : Fin 256) :
    (truncf .bf16 (matmul dot_S128x256_S256x256_S128x256_1_0_0_1_n_n none u w (constant S128x256 .f32 0x00000000#32)) bitsLt_bf16_f32 : FVec Ideal S128x256 .bf16) (ix2 r k)
      = ∑ x, u (ix2 r x) * w (ix2 x k) := by
  pointwise

/-- A slice of 256 columns at an index. -/
theorem chunk_apply (o : ℕ) (ho : o + 256 ≤ 8192) (h) (v : FVec Ideal S128x8192 .bf16) (r : Fin 128) (k : Fin 256) :
    chunk o h v (k0_pay3 (F := Ideal)) (ix2 r k) = v (ix2 r ⟨o + oneAt k.val, by have := k.isLt; unfold oneAt; split <;> omega⟩) := by
  have hk : oneAt k.val < 256 := by have := k.isLt; unfold oneAt; split <;> omega
  unfold chunk
  rw [product_apply, Finset.sum_eq_single (⟨oneAt k.val, hk⟩ : Fin 256)]
  · rw [pay3_apply, if_pos rfl, mul_one]
    refine congrArg v (funext fun a => Fin.ext ?_)
    match a with
    | 0 => exact Nat.zero_add _
    | 1 => rfl
  · intro x _ hx
    rw [pay3_apply, if_neg (fun e => hx (Fin.ext e)), mul_zero]
  · intro hx; exact absurd (Finset.mem_univ _) hx

/-- The rearranged rows as one function of the block's index. -/
def arranged (v : FVec Ideal S128x8192 .bf16) : S128x8192.Idx → EReal := fun y =>
  v (ix2 ⟨(y 0).val, (y 0).isLt⟩ (Spec.perm ⟨(y 1).val, (y 1).isLt⟩))

/-- One piece of the arranged rows. -/
theorem piece_arranged (o : ℕ) (ho : o % 256 = 0) (ho' : o + 256 ≤ 8192) (h) (inb : ∀ a, (![0, o] : Fin 2 → ℕ) a + S128x256.size a ≤ S128x8192.size a)
    (v : FVec Ideal S128x8192 .bf16) (w : S128x256.Idx → EReal) (hw : w = chunk o h v (k0_pay3 (F := Ideal))) (x : S128x256.Idx) :
    w x = arranged v ((Rect.unit (s := S128x8192) ![0, o] S128x256.size inb).emb x) := by
  subst hw
  have h0 : (x 0).val < 128 := (x 0).isLt
  have h1 : (x 1).val < 256 := (x 1).isLt
  have hx : x = ix2 ⟨(x 0).val, h0⟩ ⟨(x 1).val, h1⟩ := by
    funext a; match a with | 0 => rfl | 1 => rfl
  have e0 : ((Rect.unit (s := S128x8192) ![0, o] S128x256.size inb).emb x 0).val = (x 0).val := by show 0 + 1 * (x 0).val = _; omega
  have e1 : ((Rect.unit (s := S128x8192) ![0, o] S128x256.size inb).emb x 1).val = o + (x 1).val := by show o + 1 * (x 1).val = _; omega
  have hl : chunk o h v (k0_pay3 (F := Ideal)) x = _ := (congrArg (chunk o h v (k0_pay3 (F := Ideal))) hx).trans (chunk_apply o ho' h v _ _)
  rw [hl]
  unfold arranged
  refine congrArg v (funext fun a => Fin.ext ?_)
  match a with
  | 0 => exact e0.symm
  | 1 =>
    show o + (if (x 1).val < 128 then 2 * (x 1).val else 2 * (x 1).val - 255)
      = 256 * (((Rect.unit (s := S128x8192) ![0, o] S128x256.size inb).emb x 1).val / 256)
        + (if ((Rect.unit (s := S128x8192) ![0, o] S128x256.size inb).emb x 1).val % 256 < 128
            then 2 * (((Rect.unit (s := S128x8192) ![0, o] S128x256.size inb).emb x 1).val % 256)
            else 2 * (((Rect.unit (s := S128x8192) ![0, o] S128x256.size inb).emb x 1).val % 256) - 255)
    rw [e1]
    split <;> split <;> omega

/-- The teacher's normalised row. -/
theorem hidden_apply (x : Vec Ideal S128x8192 .bf16) (g : Vec Ideal S1x8192 .f32) (r : Fin 128) (k : Fin 8192) :
    k0_pay2 x g (ix2 r k) = Spec.hidden (fun k => x (ix2 r k)) (fun k => g (ix2 0 k)) k := by
  pointwise [k0_pay2]
  rfl

/-- Each piece is a slice. -/
theorem slices_at (o : ℕ) (ho : o + 256 ≤ 8192) : S128x8192.Slices ![0, o] S128x256 := by
  refine ⟨rfl, fun a => ?_⟩
  match a with
  | 0 => exact le_refl _
  | 1 => exact ho

/-- Each piece lies inside the block. -/
theorem inb_at (o : ℕ) (ho : o + 256 ≤ 8192) : ∀ a, (![0, o] : Fin 2 → ℕ) a + S128x256.size a ≤ S128x8192.size a :=
  Fin.forall_fin_two.mpr ⟨le_refl _, ho⟩

/-- The first output: the teacher's normalised row, arranged. -/
theorem out4_apply (x0 x1 x2 x3) (r : Fin 128) (k : Fin 8192) :
    out0_4 (F := Ideal) x0 x1 x2 x3 (ix2 r k) = Spec.hidden (fun k => x1 (ix2 r k)) (fun k => x3 (ix2 0 k)) (Spec.perm k) := by
  have e1 : View.ld x1 r0_0 = x1 := View.ld_unit_zero (by funext a; match a with | 0 => rfl | 1 => rfl) _ _
  have e3 : View.ld x3 r0_1 = x3 := View.ld_unit_zero (by funext a; match a with | 0 => rfl | 1 => rfl) _ _
  rw [← hidden_apply]
  unfold out0_4 prepNormed prepPerm
  rw [e1, e3]
  refine (View.canon_apply_of_pieces (Val := Elt Ideal) (e := .bf16) (arranged (k0_pay2 x1 x3)) _ ?_ _ (cover0_4 _ _ _ _ _ _ _ _ _ _ _ _ _ _ _ _ _ _ _ _ _ _ _ _ _ _ _ _ _ _ _ _ _)).trans ?_
  · iterate 32 (refine List.forall_mem_cons.mpr ⟨fun x => piece_arranged _ (by rfl) (by decide) (slices_at _ (by decide)) (inb_at _ (by decide)) _ _ rfl x, ?_⟩)
    exact fun p hp => absurd hp (List.not_mem_nil)
  · rfl

/-! ## The codes and their scales -/

theorem pay40_apply (x : Vec Ideal S128x2048 .bf16) (g : Vec Ideal S1x2048 .f32) (r : Fin 128) (k : Fin 2048) :
    k0_pay40 x g (ix2 r k) = Spec.normed (fun k => x (ix2 r k)) (fun k => g (ix2 0 k)) k := by
  pointwise [k0_pay38, k0_pay39, k0_pay40]
  rfl

/-- The row scale. -/
theorem pay41_apply (x : Vec Ideal S128x2048 .bf16) (g : Vec Ideal S1x2048 .f32) (r : Fin 128) :
    k0_pay41 x g (ix2 r 0) = Spec.scale (fun k => x (ix2 r k)) (fun k => g (ix2 0 k)) := by
  pointwise [k0_pay41]
  simp only [pay40_apply]
  rfl

/-- The code. -/
theorem pay42_apply (x : Vec Ideal S128x2048 .bf16) (g : Vec Ideal S1x2048 .f32) (r : Fin 128) (k : Fin 2048) :
    k0_pay42 x g (ix2 r k) = Spec.code (fun k => x (ix2 r k)) (fun k => g (ix2 0 k)) k := by
  pointwise [k0_pay42]
  simp only [pay40_apply, pay41_apply]
  rfl

/-- The row scale in every lane. -/
theorem pay43_apply (x : Vec Ideal S128x2048 .bf16) (g : Vec Ideal S1x2048 .f32) (r : Fin 128) (k : Fin 128) :
    k0_pay43 x g (ix2 r k) = Spec.scale (fun k => x (ix2 r k)) (fun k => g (ix2 0 k)) := by
  pointwise [k0_pay43]
  exact pay41_apply x g r

/-- The second output: the codes. -/
theorem out5_apply (x0 x1 x2 x3) (r : Fin 128) (k : Fin 2048) :
    out0_5 (F := Ideal) x0 x1 x2 x3 (ix2 r k) = Spec.code (fun k => x0 (ix2 r k)) (fun k => x2 (ix2 0 k)) k := by
  have e0 : View.ld x0 r0_34 = x0 := View.ld_unit_zero (by funext a; match a with | 0 => rfl | 1 => rfl) _ _
  have e2 : View.ld x2 r0_35 = x2 := View.ld_unit_zero (by funext a; match a with | 0 => rfl | 1 => rfl) _ _
  unfold out0_5
  rw [e0, e2, View.canon_unit_zero (by funext a; match a with | 0 => rfl | 1 => rfl)]
  exact pay42_apply _ _ _ _

/-- The third output: the row scales. -/
theorem out6_apply (x0 x1 x2 x3) (r : Fin 128) (k : Fin 128) :
    out0_6 (F := Ideal) x0 x1 x2 x3 (ix2 r k) = Spec.scale (fun k => x0 (ix2 r k)) (fun k => x2 (ix2 0 k)) := by
  have e0 : View.ld x0 r0_34 = x0 := View.ld_unit_zero (by funext a; match a with | 0 => rfl | 1 => rfl) _ _
  have e2 : View.ld x2 r0_35 = x2 := View.ld_unit_zero (by funext a; match a with | 0 => rfl | 1 => rfl) _ _
  unfold out0_6
  rw [e0, e2, View.canon_unit_zero (by funext a; match a with | 0 => rfl | 1 => rfl)]
  exact pay43_apply _ _ _ _

end Cert.KernelIdeal.Hand

end

end
-- ==== Proof.Blocks.lean ====
/-
  The second call's input blocks, read at an index: the ragged last block agrees with its array wherever the column is one of the array's.
-/
module

public import proofs.«01_k».proof.Proof.Logits
public import Idealize.ShloMosaic.Lib.Pointwise

@[expose] public section

set_option maxRecDepth 16384

noncomputable section

namespace Cert.KernelIdeal.Hand

open Idealize.ShloMosaic Idealize.ShloMosaic.TcCoe Idealize.ShloMosaic.Pipeline
open Cert.KernelIdeal Cert.KernelIdeal.Gen

variable {F : FTy → Type} [FloatOps F] [Named F]
variable (a : (pcfgs (F := F) 1).Adm) (W : Valuation τ sig (Elt F)) (c : Dev nD)

/-- A column inside the array lies inside the clipped block. -/
theorem extent_ge (ix k d : ℕ) (q : ℕ) (hq : q < k) (h : ix * k + q < d) : q < (Pipeline.Clip.of ix k d).extent k := by
  unfold Pipeline.Clip.of
  split
  · exact hq
  · show q < d - ix * k
    omega

/-- An index inside the clipped block reads the array's part, not the padding. -/
theorem fill_of_lt {sig : RefSig} {G : Grid} (w : Window sig G) {α : Type} (i : G.Coords) (d : w.block.Idx → α) (g : (w.xblock i).Idx → α) (j : w.block.Idx)
    (h : ∀ b, (j b).val < w.xsize i b) : w.fill i d g j = g fun b => ⟨(j b).val, h b⟩ := by
  unfold Window.fill
  exact dif_pos ((w.moved_iff i j).mpr h)

/-- An index from its two components. -/
theorem idx_eq {n0 n1 : ℕ} (e : (⟨2, ![n0, n1]⟩ : Shape).Idx) (r : Fin n0) (k : Fin n1) (h0 : (e 0).val = r.val) (h1 : (e 1).val = k.val) : e = ix2 r k := by
  funext b; apply Fin.ext
  match b with
  | 0 => exact h0
  | 1 => exact h1

/-- A small number is the value of its word. -/
theorem word_val (n : ℕ) (h : n < 63) : (BitVec.ofNat 32 n).toNat = n := by rw [BitVec.toNat_ofNat]; omega

/-! ## The blocks that are whole arrays -/

theorem blk0_apply (t : Fin (cfgL a).N) (x) (hx : Blk a W c 0 t x) (i : Fin 384) (k : Fin 8192) :
    x (ix2 i k) = W (Proc.devRef .tc main_v22_0) (ix2 i k) := by
  obtain ⟨d, rfl⟩ := hx
  refine (fill_of_lt ((cfgL a).win 0) _ _ _ _ ?_).trans (congrArg (W (Proc.devRef .tc main_v22_0)) (idx_eq (n0 := 384) (n1 := 8192) _ _ _ ?_ ?_))
  · exact Fin.forall_fin_two.mpr ⟨i.isLt, k.isLt⟩
  · show 0 * 384 + 1 * i.val = i.val; omega
  · show 0 * 8192 + 1 * k.val = k.val; omega

/-- The block of the codes is the whole array. -/
theorem blk1_apply (t : Fin (cfgL a).N) (x) (hx : Blk a W c 1 t x) (i : Fin 384) (k : Fin 2048) :
    x (ix2 i k) = W (Proc.devRef .tc main_v22_1) (ix2 i k) := by
  obtain ⟨d, rfl⟩ := hx
  refine (fill_of_lt ((cfgL a).win 1) _ _ _ _ ?_).trans (congrArg (W (Proc.devRef .tc main_v22_1)) (idx_eq (n0 := 384) (n1 := 2048) _ _ _ ?_ ?_))
  · exact Fin.forall_fin_two.mpr ⟨i.isLt, k.isLt⟩
  · show 0 * 384 + 1 * i.val = i.val; omega
  · show 0 * 2048 + 1 * k.val = k.val; omega

/-- The block of the row scales is the whole array. -/
theorem blk2_apply (t : Fin (cfgL a).N) (x) (hx : Blk a W c 2 t x) (i : Fin 384) (k : Fin 128) :
    x (ix2 i k) = W (Proc.devRef .tc main_v22_2) (ix2 i k) := by
  obtain ⟨d, rfl⟩ := hx
  refine (fill_of_lt ((cfgL a).win 2) _ _ _ _ ?_).trans (congrArg (W (Proc.devRef .tc main_v22_2)) (idx_eq (n0 := 384) (n1 := 128) _ _ _ ?_ ?_))
  · exact Fin.forall_fin_two.mpr ⟨i.isLt, k.isLt⟩
  · show 0 * 384 + 1 * i.val = i.val; omega
  · show 0 * 128 + 1 * k.val = k.val; omega

/-! ## The tiles of 512 columns (or, of the student's weights, rows) -/

theorem blk3_apply (t : Fin (cfgL a).N) (x) (hx : Blk a W c 3 t x) (n : ℕ) (hn : ((cfgL a).grid.coords t 0).val = n) (i : Fin 4096) (q : Fin 512)
    (h : 512 * n + q.val < 32000) : x (ix2 i q) = W (Proc.devRef .tc main_arg4) (ix2 i ⟨512 * n + q.val, h⟩) := by
  obtain ⟨d, rfl⟩ := hx
  have hi := i.isLt
  have hq := q.isLt
  have hw : (BitVec.ofNat 32 ((cfgL a).grid.coords t 0).val).toNat = n := by rw [hn]; exact word_val n (by omega)
  refine (fill_of_lt ((cfgL a).win 3) _ _ _ _ ?_).trans (congrArg (W (Proc.devRef .tc main_arg4)) (idx_eq (n0 := 4096) (n1 := 32000) _ _ _ ?_ ?_))
  · exact Fin.forall_fin_two.mpr ⟨extent_ge 0 4096 4096 i.val hi (by omega), extent_ge _ 512 32000 q.val hq (by show (BitVec.ofNat 32 ((cfgL a).grid.coords t 0).val).toNat * 512 + q.val < 32000; rw [hw]; omega)⟩
  · show 0 * 4096 + 1 * i.val = i.val; omega
  · show (BitVec.ofNat 32 ((cfgL a).grid.coords t 0).val).toNat * 512 + 1 * q.val = 512 * n + q.val; rw [hw]; omega

/-- A column of the block of weight scales that lies inside the array. -/
theorem blk4_apply (t : Fin (cfgL a).N) (x) (hx : Blk a W c 4 t x) (n : ℕ) (hn : ((cfgL a).grid.coords t 0).val = n) (i : Fin 64) (q : Fin 512)
    (h : 512 * n + q.val < 32000) : x (ix2 i q) = W (Proc.devRef .tc main_arg5) (ix2 i ⟨512 * n + q.val, h⟩) := by
  obtain ⟨d, rfl⟩ := hx
  have hi := i.isLt
  have hq := q.isLt
  have hw : (BitVec.ofNat 32 ((cfgL a).grid.coords t 0).val).toNat = n := by rw [hn]; exact word_val n (by omega)
  refine (fill_of_lt ((cfgL a).win 4) _ _ _ _ ?_).trans (congrArg (W (Proc.devRef .tc main_arg5)) (idx_eq (n0 := 64) (n1 := 32000) _ _ _ ?_ ?_))
  · exact Fin.forall_fin_two.mpr ⟨extent_ge 0 64 64 i.val hi (by omega), extent_ge _ 512 32000 q.val hq (by show (BitVec.ofNat 32 ((cfgL a).grid.coords t 0).val).toNat * 512 + q.val < 32000; rw [hw]; omega)⟩
  · show 0 * 64 + 1 * i.val = i.val; omega
  · show (BitVec.ofNat 32 ((cfgL a).grid.coords t 0).val).toNat * 512 + 1 * q.val = 512 * n + q.val; rw [hw]; omega

/-- The same of the weight zeros. -/
theorem blk5_apply (t : Fin (cfgL a).N) (x) (hx : Blk a W c 5 t x) (n : ℕ) (hn : ((cfgL a).grid.coords t 0).val = n) (i : Fin 64) (q : Fin 512)
    (h : 512 * n + q.val < 32000) : x (ix2 i q) = W (Proc.devRef .tc main_arg6) (ix2 i ⟨512 * n + q.val, h⟩) := by
  obtain ⟨d, rfl⟩ := hx
  have hi := i.isLt
  have hq := q.isLt
  have hw : (BitVec.ofNat 32 ((cfgL a).grid.coords t 0).val).toNat = n := by rw [hn]; exact word_val n (by omega)
  refine (fill_of_lt ((cfgL a).win 5) _ _ _ _ ?_).trans (congrArg (W (Proc.devRef .tc main_arg6)) (idx_eq (n0 := 64) (n1 := 32000) _ _ _ ?_ ?_))
  · exact Fin.forall_fin_two.mpr ⟨extent_ge 0 64 64 i.val hi (by omega), extent_ge _ 512 32000 q.val hq (by show (BitVec.ofNat 32 ((cfgL a).grid.coords t 0).val).toNat * 512 + q.val < 32000; rw [hw]; omega)⟩
  · show 0 * 64 + 1 * i.val = i.val; omega
  · show (BitVec.ofNat 32 ((cfgL a).grid.coords t 0).val).toNat * 512 + 1 * q.val = 512 * n + q.val; rw [hw]; omega

/-- The same of the student's weights. -/
theorem blk6_apply (t : Fin (cfgL a).N) (x) (hx : Blk a W c 6 t x) (n : ℕ) (hn : ((cfgL a).grid.coords t 0).val = n) (q : Fin 512) (k : Fin 2048)
    (h : 512 * n + q.val < 32000) : x (ix2 q k) = W (Proc.devRef .tc main_arg7) (ix2 ⟨512 * n + q.val, h⟩ k) := by
  obtain ⟨d, rfl⟩ := hx
  have hk := k.isLt
  have hq := q.isLt
  have hw : (BitVec.ofNat 32 ((cfgL a).grid.coords t 0).val).toNat = n := by rw [hn]; exact word_val n (by omega)
  refine (fill_of_lt ((cfgL a).win 6) _ _ _ _ ?_).trans (congrArg (W (Proc.devRef .tc main_arg7)) (idx_eq (n0 := 32000) (n1 := 2048) _ _ _ ?_ ?_))
  · exact Fin.forall_fin_two.mpr ⟨extent_ge _ 512 32000 q.val hq (by show (BitVec.ofNat 32 ((cfgL a).grid.coords t 0).val).toNat * 512 + q.val < 32000; rw [hw]; omega), extent_ge 0 2048 2048 k.val hk (by omega)⟩
  · show (BitVec.ofNat 32 ((cfgL a).grid.coords t 0).val).toNat * 512 + 1 * q.val = 512 * n + q.val; rw [hw]; omega
  · show 0 * 2048 + 1 * k.val = k.val; omega

/-- The same of the student's weight scales. -/
theorem blk7_apply (t : Fin (cfgL a).N) (x) (hx : Blk a W c 7 t x) (n : ℕ) (hn : ((cfgL a).grid.coords t 0).val = n) (i : Fin 1) (q : Fin 512)
    (h : 512 * n + q.val < 32000) : x (ix2 i q) = W (Proc.devRef .tc main_v28) (ix2 i ⟨512 * n + q.val, h⟩) := by
  obtain ⟨d, rfl⟩ := hx
  have hi := i.isLt
  have hq := q.isLt
  have hw : (BitVec.ofNat 32 ((cfgL a).grid.coords t 0).val).toNat = n := by rw [hn]; exact word_val n (by omega)
  refine (fill_of_lt ((cfgL a).win 7) _ _ _ _ ?_).trans (congrArg (W (Proc.devRef .tc main_v28)) (idx_eq (n0 := 1) (n1 := 32000) _ _ _ ?_ ?_))
  · exact Fin.forall_fin_two.mpr ⟨extent_ge 0 1 1 i.val hi (by omega), extent_ge _ 512 32000 q.val hq (by show (BitVec.ofNat 32 ((cfgL a).grid.coords t 0).val).toNat * 512 + q.val < 32000; rw [hw]; omega)⟩
  · show 0 * 1 + 1 * i.val = i.val; omega
  · show (BitVec.ofNat 32 ((cfgL a).grid.coords t 0).val).toNat * 512 + 1 * q.val = 512 * n + q.val; rw [hw]; omega

end Cert.KernelIdeal.Hand

end

end
-- ==== Proof.PrepArrays.lean ====
/-
  What the first call's output arrays hold at an index: row by row, the plain functions of the reshaped arguments.
-/
module

public import proofs.«01_k».proof.Proof.KPrep
public import proofs.«01_k».proof.Proof.Blocks
public import Idealize.ShloMosaic.Lib.Pointwise
public import Idealize.ShloMosaic.Lib.StableHlo.ReadAt
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Pipeline
open Cert.KernelIdeal Cert.KernelIdeal.Gen

section host
variable (W : Valuation τ sig (Elt Ideal))

/-- The student's input as rows. -/
theorem host_v0 : StableHlo.after hostOps0 W (Proc.devRef .tc main_v0)
    = shapeCast S384x2048 (W (Proc.devRef .tc main_arg0) : Vec Ideal S3x128x2048 .bf16) shapeCasts_S3x128x2048_S384x2048 := by
  after_reads_simp
  rfl

/-- The teacher's input as rows. -/
theorem host_v1 : StableHlo.after hostOps0 W (Proc.devRef .tc main_v1)
    = shapeCast S384x8192 (W (Proc.devRef .tc main_arg1) : Vec Ideal S3x128x8192 .bf16) shapeCasts_S3x128x8192_S384x8192 := by
  after_reads_simp
  rfl

/-- The student's gain as one row. -/
theorem host_v2 (k : Fin 2048) : StableHlo.after hostOps0 W (Proc.devRef .tc main_v2) (ix2 0 k) = (W (Proc.devRef .tc main_arg2) : Vec Ideal S2048 .f32) (Idealize.ShloMosaic.ix1 k) := by
  after_reads_at

/-- The teacher's gain as one row. -/
theorem host_v3 (k : Fin 8192) : StableHlo.after hostOps0 W (Proc.devRef .tc main_v3) (ix2 0 k) = (W (Proc.devRef .tc main_arg3) : Vec Ideal S8192 .f32) (Idealize.ShloMosaic.ix1 k) := by
  after_reads_at

/-- The student's weight scales as one row. -/
theorem host_v28 (k : Fin 32000) : StableHlo.after hostOps1_4 W (Proc.devRef .tc main_v28) (ix2 0 k) = (W (Proc.devRef .tc main_arg8) : Vec Ideal S32000 .f32) (Idealize.ShloMosaic.ix1 k) := by
  after_reads_at

end host

variable (m : (ℓ : Loc nD τ sig) → Buf (Elt Ideal) ℓ) (c : Dev nD)

/-- The student's rows, the teacher's rows and the two gains, as the plain functions take them. -/
def rowX (r : Fin 384) (k : Fin 2048) : EReal :=
  shapeCast S384x2048 (m ((c : Thread nD τ).loc main_arg0) : Vec Ideal S3x128x2048 .bf16) shapeCasts_S3x128x2048_S384x2048 (ix2 r k)
/-- A row of the teacher's input. -/
def rowH (r : Fin 384) (k : Fin 8192) : EReal :=
  shapeCast S384x8192 (m ((c : Thread nD τ).loc main_arg1) : Vec Ideal S3x128x8192 .bf16) shapeCasts_S3x128x8192_S384x8192 (ix2 r k)
/-- The student's gain. -/
def gainS (k : Fin 2048) : EReal := (m ((c : Thread nD τ).loc main_arg2) : Vec Ideal S2048 .f32) (Idealize.ShloMosaic.ix1 k)
/-- The teacher's gain. -/
def gainT (k : Fin 8192) : EReal := (m ((c : Thread nD τ).loc main_arg3) : Vec Ideal S8192 .f32) (Idealize.ShloMosaic.ix1 k)

/-- Where window 0 stands at each point. -/
theorem at0 : ∀ t : Fin cfg0.N, win0_0.index t 0 = t.val ∧ win0_0.index t 1 = 0 := by decide +kernel
/-- Where window 1 stands at each point. -/
theorem at1 : ∀ t : Fin cfg0.N, win0_1.index t 0 = t.val ∧ win0_1.index t 1 = 0 := by decide +kernel
/-- Where window 2 stands at each point. -/
theorem at2 : ∀ t : Fin cfg0.N, win0_2.index t 0 = 0 ∧ win0_2.index t 1 = 0 := by decide +kernel
/-- Where window 3 stands at each point. -/
theorem at3 : ∀ t : Fin cfg0.N, win0_3.index t 0 = 0 ∧ win0_3.index t 1 = 0 := by decide +kernel
/-- Where window 4 stands at each point. -/
theorem at4 : ∀ t : Fin cfg0.N, win0_4.index t 0 = t.val ∧ win0_4.index t 1 = 0 := by decide +kernel
/-- Where window 5 stands at each point. -/
theorem at5 : ∀ t : Fin cfg0.N, win0_5.index t 0 = t.val ∧ win0_5.index t 1 = 0 := by decide +kernel
/-- Where window 6 stands at each point. -/
theorem at6 : ∀ t : Fin cfg0.N, win0_6.index t 0 = t.val ∧ win0_6.index t 1 = 0 := by decide +kernel

/-- The block of the student's rows. -/
theorem iblk0_apply (t : Fin cfg0.N) (r : Fin 128) (k : Fin 2048) (h : 128 * t.val + r.val < 384) :
    iblk m c 0 t (ix2 r k) = rowX m c ⟨128 * t.val + r.val, h⟩ k := by
  refine (congrArg (V1 m c (Proc.devRef .tc main_v0)) (idx_eq (n0 := 384) (n1 := 2048) _ ⟨128 * t.val + r.val, h⟩ k ?_ ?_)).trans ?_
  · blk_simp; show _ = 128 * t.val + r.val; rw [(at0 t).1]; omega
  · blk_simp; rw [(at0 t).2]; omega
  · exact congrFun (host_v0 (V0 m c)) _

/-- The block of the teacher's rows. -/
theorem iblk1_apply (t : Fin cfg0.N) (r : Fin 128) (k : Fin 8192) (h : 128 * t.val + r.val < 384) :
    iblk m c 1 t (ix2 r k) = rowH m c ⟨128 * t.val + r.val, h⟩ k := by
  refine (congrArg (V1 m c (Proc.devRef .tc main_v1)) (idx_eq (n0 := 384) (n1 := 8192) _ ⟨128 * t.val + r.val, h⟩ k ?_ ?_)).trans ?_
  · blk_simp; show _ = 128 * t.val + r.val; rw [(at1 t).1]; omega
  · blk_simp; rw [(at1 t).2]; omega
  · exact congrFun (host_v1 (V0 m c)) _

/-- The block of the student's gain. -/
theorem iblk2_apply (t : Fin cfg0.N) (k : Fin 2048) : iblk m c 2 t (ix2 0 k) = gainS m c k := by
  refine (congrArg (V1 m c (Proc.devRef .tc main_v2)) (idx_eq (n0 := 1) (n1 := 2048) _ 0 k ?_ ?_)).trans ?_
  · blk_simp; rw [(at2 t).1]; omega
  · blk_simp; rw [(at2 t).2]; omega
  · exact host_v2 (V0 m c) k

/-- The block of the teacher's gain. -/
theorem iblk3_apply (t : Fin cfg0.N) (k : Fin 8192) : iblk m c 3 t (ix2 0 k) = gainT m c k := by
  refine (congrArg (V1 m c (Proc.devRef .tc main_v3)) (idx_eq (n0 := 1) (n1 := 8192) _ 0 k ?_ ?_)).trans ?_
  · blk_simp; rw [(at3 t).1]; omega
  · blk_simp; rw [(at3 t).2]; omega
  · exact host_v3 (V0 m c) k

/-- The array of normalised teacher rows. -/
def G4 : S384x8192.Idx → EReal := fun i => Spec.hidden (rowH m c (i 0)) (gainT m c) (Spec.perm (i 1))

/-- After the call: the arranged teacher rows, -/
theorem arr4_eq : (prepDat m c).arrAt 4 cfg0.N = G4 m c := by
  refine (prepDat m c).arrAt_eq_of_covers 4 (G4 m c) (by decide +kernel) fun t ht y => ?_
  have h0 : (y 0).val < 128 := (y 0).isLt
  have h1 : (y 1).val < 8192 := (y 1).isLt
  have ht3 : t.val < 3 := t.isLt
  have hy : (cfg0.win 4).xinj (cfg0.grid.coords t) y = ix2 ⟨(y 0).val, h0⟩ ⟨(y 1).val, h1⟩ := idx_eq _ _ _ rfl rfl
  have he : ((cfg0.win 4).blk t).view.emb y = ix2 ⟨128 * t.val + (y 0).val, by omega⟩ ⟨(y 1).val, h1⟩ := by
    refine idx_eq (n0 := 384) (n1 := 8192) _ _ _ ?_ ?_
    · blk_simp; show _ = 128 * t.val + (y 0).val; rw [(at4 t).1]; omega
    · blk_simp; show _ = (y 1).val; rw [(at4 t).2]; omega
  rw [he, hy]
  refine (congrFun (after0_4 m c t) _).trans ?_
  refine (out4_apply _ _ _ _ _ _).trans ?_
  rw [funext fun k => iblk1_apply m c t ⟨(y 0).val, h0⟩ k (by show 128 * t.val + (y 0).val < 384; omega), funext fun k => iblk3_apply m c t k]
  rfl

/-- The array of the student's codes. -/
def G5 : S384x2048.Idx → EReal := fun i => Spec.code (rowX m c (i 0)) (gainS m c) (i 1)

/-- the codes, -/
theorem arr5_eq : (prepDat m c).arrAt 5 cfg0.N = G5 m c := by
  refine (prepDat m c).arrAt_eq_of_covers 5 (G5 m c) (by decide +kernel) fun t ht y => ?_
  have h0 : (y 0).val < 128 := (y 0).isLt
  have h1 : (y 1).val < 2048 := (y 1).isLt
  have ht3 : t.val < 3 := t.isLt
  have hy : (cfg0.win 5).xinj (cfg0.grid.coords t) y = ix2 ⟨(y 0).val, h0⟩ ⟨(y 1).val, h1⟩ := idx_eq _ _ _ rfl rfl
  have he : ((cfg0.win 5).blk t).view.emb y = ix2 ⟨128 * t.val + (y 0).val, by omega⟩ ⟨(y 1).val, h1⟩ := by
    refine idx_eq (n0 := 384) (n1 := 2048) _ _ _ ?_ ?_
    · blk_simp; show _ = 128 * t.val + (y 0).val; rw [(at5 t).1]; omega
    · blk_simp; show _ = (y 1).val; rw [(at5 t).2]; omega
  rw [he, hy]
  refine (congrFun (after0_5 m c t) _).trans ?_
  refine (out5_apply _ _ _ _ _ _).trans ?_
  rw [funext fun k => iblk0_apply m c t ⟨(y 0).val, h0⟩ k (by show 128 * t.val + (y 0).val < 384; omega), funext fun k => iblk2_apply m c t k]
  rfl

/-- The array of the student's scales. -/
def G6 : S384x128.Idx → EReal := fun i => Spec.scale (rowX m c (i 0)) (gainS m c)

/-- and the row scales. -/
theorem arr6_eq : (prepDat m c).arrAt 6 cfg0.N = G6 m c := by
  refine (prepDat m c).arrAt_eq_of_covers 6 (G6 m c) (by decide +kernel) fun t ht y => ?_
  have h0 : (y 0).val < 128 := (y 0).isLt
  have h1 : (y 1).val < 128 := (y 1).isLt
  have ht3 : t.val < 3 := t.isLt
  have hy : (cfg0.win 6).xinj (cfg0.grid.coords t) y = ix2 ⟨(y 0).val, h0⟩ ⟨(y 1).val, h1⟩ := idx_eq _ _ _ rfl rfl
  have he : ((cfg0.win 6).blk t).view.emb y = ix2 ⟨128 * t.val + (y 0).val, by omega⟩ ⟨(y 1).val, h1⟩ := by
    refine idx_eq (n0 := 384) (n1 := 128) _ _ _ ?_ ?_
    · blk_simp; show _ = 128 * t.val + (y 0).val; rw [(at6 t).1]; omega
    · blk_simp; show _ = (y 1).val; rw [(at6 t).2]; omega
  rw [he, hy]
  refine (congrFun (after0_6 m c t) _).trans ?_
  refine (out6_apply _ _ _ _ _ _).trans ?_
  rw [funext fun k => iblk0_apply m c t ⟨(y 0).val, h0⟩ k (by show 128 * t.val + (y 0).val < 384; omega), funext fun k => iblk2_apply m c t k]
  rfl

end Cert.KernelIdeal.Hand

end

end
-- ==== Proof.HostOut.lean ====
/-
  What the kernel's host code makes of the calls' arrays, and what the second call is entered with.
-/
module

public import proofs.«01_k».proof.Proof.PrepArrays
public import proofs.«01_k».proof.Proof.Run

@[expose] public section

set_option maxRecDepth 16384

noncomputable section

namespace Cert.KernelIdeal.Hand

open Idealize.ShloMosaic Idealize.ShloMosaic.TcCoe Idealize.ShloMosaic.Pipeline
open Cert.KernelIdeal Cert.KernelIdeal.Gen

section
variable (W : Valuation τ sig (Elt Ideal))

/-- Result 2 is the first lane of its statistics less the constant. -/
theorem host_v34 (b : Fin 3) (s : Fin 128) : StableHlo.after hostOps2 W (Proc.devRef .tc main_v34) (ix2 b s)
    = HSub.hSub (α := EReal) (β := EReal) ((W (Proc.devRef .tc main_v29_2) : Vec Ideal S384x128 .f32) (ix2 ⟨b.val * 128 + s.val, by omega⟩ 0)) (Ideal.ofBits FTy.f32 0x4125F9D2#32) := by
  after_reads_at

/-- Result 3 likewise. -/
theorem host_v39 (b : Fin 3) (s : Fin 128) : StableHlo.after hostOps2 W (Proc.devRef .tc main_v39) (ix2 b s)
    = HSub.hSub (α := EReal) (β := EReal) ((W (Proc.devRef .tc main_v29_3) : Vec Ideal S384x128 .f32) (ix2 ⟨b.val * 128 + s.val, by omega⟩ 0)) (Ideal.ofBits FTy.f32 0x4125F9D2#32) := by
  after_reads_at

/-- Result 6 is the codes reshaped. -/
theorem host_v40 (b : Fin 3) (s : Fin 128) (k : Fin 2048) : StableHlo.after hostOps2 W (Proc.devRef .tc main_v40) (ix3 b s k)
    = (W (Proc.devRef .tc main_v22_1) : Vec Ideal S384x2048 .fp8e4m3) (ix2 ⟨b.val * 128 + s.val, by omega⟩ k) := by
  after_reads_at

/-- Result 7 is the first lane of the row scales. -/
theorem host_v43 (b : Fin 3) (s : Fin 128) : StableHlo.after hostOps2 W (Proc.devRef .tc main_v43) (ix2 b s)
    = (W (Proc.devRef .tc main_v22_2) : Vec Ideal S384x128 .f32) (ix2 ⟨b.val * 128 + s.val, by omega⟩ 0) := by
  after_reads_at
end

variable (m : (ℓ : Loc nD τ sig) → Buf (Elt Ideal) ℓ) (c : Dev nD)

/-- A buffer that neither the host code between the calls nor the first call writes. -/
theorem V7_pass (outs : Outs (F := Ideal)) (r : Ref sig .tc) (h7 : r ∉ hostOps1_4_W) (h6 : r ∉ hostOps1_3_W) (h5 : r ∉ hostOps1_2_W) (h4 : r ∉ hostOps1_1_W) (h3 : r ∉ hostOps1_W) :
    V7 m outs c r = V2 m outs c r :=
  (V7_of m outs c r h7).trans <| (V6_of m outs c r h6).trans <| (V5_of m outs c r h5).trans <| (V4_of m outs c r h4).trans (V3_of m outs c r h3)

/-- At the second call: the teacher's arranged rows, -/
theorem V7_v22_0 : V7 m (outs0 m) c main_v22_0 = G4 m c :=
  (V7_pass m c _ _ (by decide) (by decide) (by decide) (by decide) (by decide)).trans ((V2_out4 m c).trans (arr4_eq m c))
/-- the codes, -/
theorem V7_v22_1 : V7 m (outs0 m) c main_v22_1 = G5 m c :=
  (V7_pass m c _ _ (by decide) (by decide) (by decide) (by decide) (by decide)).trans ((V2_out5 m c).trans (arr5_eq m c))
/-- the row scales, -/
theorem V7_v22_2 : V7 m (outs0 m) c main_v22_2 = G6 m c :=
  (V7_pass m c _ _ (by decide) (by decide) (by decide) (by decide) (by decide)).trans ((V2_out6 m c).trans (arr6_eq m c))

/-- A buffer that neither any host code before the second call nor the first call writes. -/
theorem V7_start (outs : Outs (F := Ideal)) (r : Ref sig .tc) (h7 : r ∉ hostOps1_4_W) (h6 : r ∉ hostOps1_3_W) (h5 : r ∉ hostOps1_2_W) (h4 : r ∉ hostOps1_1_W) (h3 : r ∉ hostOps1_W)
    (h2 : r ∉ ([main_v22_0, main_v22_1, main_v22_2, main_v22_3] : List (Ref sig .tc))) (h1 : r ∉ hostOps0_W) : V7 m outs c r = m (c, Proc.devRef .tc r) :=
  (V7_pass m c outs r h7 h6 h5 h4 h3).trans ((V2_of m outs c r h2).trans (V1_of m c r h1))

/-- argument 4 as at the start, -/
theorem V7_arg4 (outs : Outs (F := Ideal)) : V7 m outs c main_arg4 = m ((c : Thread nD τ).loc main_arg4) :=
  V7_start m c outs _ (by decide) (by decide) (by decide) (by decide) (by decide) (by decide) (by decide)
/-- argument 5 as at the start, -/
theorem V7_arg5 (outs : Outs (F := Ideal)) : V7 m outs c main_arg5 = m ((c : Thread nD τ).loc main_arg5) :=
  V7_start m c outs _ (by decide) (by decide) (by decide) (by decide) (by decide) (by decide) (by decide)
/-- argument 6 as at the start, -/
theorem V7_arg6 (outs : Outs (F := Ideal)) : V7 m outs c main_arg6 = m ((c : Thread nD τ).loc main_arg6) :=
  V7_start m c outs _ (by decide) (by decide) (by decide) (by decide) (by decide) (by decide) (by decide)
/-- argument 7 as at the start, -/
theorem V7_arg7 (outs : Outs (F := Ideal)) : V7 m outs c main_arg7 = m ((c : Thread nD τ).loc main_arg7) :=
  V7_start m c outs _ (by decide) (by decide) (by decide) (by decide) (by decide) (by decide) (by decide)
/-- argument 8 as at the start, -/
theorem V7_arg8 (outs : Outs (F := Ideal)) : V7 m outs c main_arg8 = m ((c : Thread nD τ).loc main_arg8) :=
  V7_start m c outs _ (by decide) (by decide) (by decide) (by decide) (by decide) (by decide) (by decide)

/-- and the student's weight scales as one row. -/
theorem V7_v28 (outs : Outs (F := Ideal)) (k : Fin 32000) : V7 m outs c main_v28 (ix2 0 k) = (m ((c : Thread nD τ).loc main_arg8) : Vec Ideal S32000 .f32) (Idealize.ShloMosaic.ix1 k) :=
  (host_v28 (V6 m outs c) k).trans (congrFun ((V7_of m outs c main_arg8 (by decide)).symm.trans (V7_arg8 m c outs)) _)

end Cert.KernelIdeal.Hand

end

end
-- ==== Proof.Exit.lean ====
/-
  What the second call leaves in the two arrays of log-sum-exps: at every row and column the log-sum-exp of that row's logits at half.
-/
module

public import proofs.«01_k».proof.Proof.Run
public import Idealize.ShloMosaic.Lib.Pointwise
public import Idealize.ShloMosaic.Lib.Pipeline.ValueKit.Geometry
public import Idealize.ShloMosaic.Lib.Pipeline.ArrRel

@[expose] public section

set_option maxRecDepth 16384

noncomputable section

namespace Cert.KernelIdeal.Hand

open Idealize.SL Idealize.SL.RA
open Idealize.ShloMosaic Idealize.ShloMosaic.TcCoe Idealize.ShloMosaic.Pipeline
open Cert.KernelIdeal Cert.KernelIdeal.Gen

/-- An output window whose block is its whole array at every point is written back once, at the last point. -/
theorem wholeAt_last {sig : RefSig} {G : Grid} (w : Window sig G) (t₀ : Fin G.N) (h : t₀.val + 1 = G.N) (ho : w.isOut = true) (hi : ∀ t a, w.index t a = 0)
    (hx : ∀ a, w.xsize (G.coords t₀) a = w.shape.size a) : w.WholeAt t₀ := by
  refine ⟨?_, fun t ht => ?_, fun a => ⟨hi t₀ a, hx a⟩⟩
  · unfold Window.flush
    rw [ho, Bool.true_and, decide_eq_true h, Bool.true_or]
  · unfold Window.flush at ht
    rw [ho, Bool.true_and, Bool.or_eq_true, decide_eq_true_iff, decide_eq_true_iff] at ht
    rcases ht with e | ⟨h', hne⟩
    · exact Fin.ext (by omega)
    · exact absurd (funext fun a => (hi _ a).trans (hi t a).symm) hne

section
variable {nD : Nat} {τ : Topo} {sig : RefSig} {Val : EltTy → Type} {Ix : Type} [DecidableEq Ix] {Name : Type} [DecidableEq Name] {U : Type} [URA U]
  {Lvl : Type} [Preorder Lvl] {Λ₀ : Idealize.SL.Sem.Labels}

/-- Of a window held to a relation and written back once, the array ends at contents that meet the relation at that point. -/
theorem exit_leaves [∀ e, Nonempty (Val e)] {cfg : Cfg sig Λ₀} {c : Dev nD} (dat : Dat τ Val Ix Name U Lvl cfg c) (fgt : Fin cfg.W → Bool)
    (Rl : (w : Fin cfg.W) → Fin cfg.N → ((cfg.win w).block.Idx → Val (cfg.win w).elt) → Prop) (w : Fin cfg.W)
    (B : Buf Val ((cfg.win w).arr.view.loc (c.tc : Thread nD τ))) (hB : (dat.toRRel fgt Rl).ArrAt w cfg.N B) (hf : fgt w = true) (t₀ : Fin cfg.N) (h : (cfg.win w).WholeAt t₀) :
    ∃ X, Rl w t₀ X ∧ ∀ j : (cfg.win w).shape.Idx,
      B ((cfg.win w).arr.view.emb j) = _root_.cast (congrArg Val (cfg.win w).arr.view.elt_eq.symm) (X fun a => ⟨j a, h.lt_size j a⟩) := by
  obtain ⟨X, ⟨Y, _, hY⟩, hG⟩ := RDat.ArrAt.emb_eq_of_wholeAt hB h
  refine ⟨X, ?_, hG⟩
  simp only [Dat.toRRel, RDat.override, hf] at hY
  exact hY
end

/-- The last point's condition holds. -/
theorem isLast (n : ℕ) (hn : n < 63) (h0 : 1 ≤ n + 1) : k1_cond2 (BitVec.ofNat 32 n) (BitVec.ofNat 32 (n + 1)) = 1#1 := by
  clear h0
  revert n
  decide +kernel

section
variable {F : FTy → Type} [FloatOps F] [Named F] (a : (pcfgs (F := F) 1).Adm)

/-- The count of points is the table's bound. -/
theorem points_eq : (cfgL a).N = dynb1 a.1 0 := by
  show (List.ofFn ((grid1.at (dynb1 a.1)).bound)).prod = _
  rw [List.ofFn_succ, List.ofFn_zero, List.prod_cons, List.prod_nil, mul_one]
  rfl

/-- A point's coordinate is its number. -/
theorem point_eq (t : Fin (cfgL a).N) : ((cfgL a).grid.coords t 0).val = t.val := by
  rw [Grid.coords_val (G := (cfgL a).grid) t 0 (S := 1) (B := dynb1 a.1 0) rfl rfl, Nat.div_one]
  exact Nat.mod_eq_of_lt (lt_of_lt_of_eq t.isLt (points_eq a))

/-- The last point writes the teacher's statistics whole. -/
theorem whole10 (t₀ : Fin (cfgL a).N) (h : t₀.val + 1 = (cfgL a).N) : ((cfgL a).win 10).WholeAt t₀ :=
  wholeAt_last _ t₀ h rfl (fun _ (x : Fin 2) => match x with | ⟨0, _⟩ => rfl | ⟨1, _⟩ => rfl) (fun (x : Fin 2) => match x with | ⟨0, _⟩ => rfl | ⟨1, _⟩ => rfl)

/-- The last point writes the student's statistics whole. -/
theorem whole11 (t₀ : Fin (cfgL a).N) (h : t₀.val + 1 = (cfgL a).N) : ((cfgL a).win 11).WholeAt t₀ :=
  wholeAt_last _ t₀ h rfl (fun _ (x : Fin 2) => match x with | ⟨0, _⟩ => rfl | ⟨1, _⟩ => rfl) (fun (x : Fin 2) => match x with | ⟨0, _⟩ => rfl | ⟨1, _⟩ => rfl)

/-- The condition under which the statistics are stored holds at the last point. -/
theorem cond_last (hN : (cfgL a).N ≤ 63) (t₀ : Fin (cfgL a).N) (h : t₀.val + 1 = (cfgL a).N) :
    k1_cond2 (pointWord a t₀) (BitVec.ofNat 32 (dynb1 a.1 0)) = 1#1 := by
  have e1 : pointWord a t₀ = BitVec.ofNat 32 t₀.val := congrArg (BitVec.ofNat 32) (point_eq a t₀)
  have e2 : dynb1 a.1 0 = t₀.val + 1 := ((points_eq a).symm.trans h.symm)
  rw [e1, e2]
  exact isLast t₀.val (by omega) (by omega)

variable (W : Valuation τ sig (Elt F)) (c : Dev nD)

/-- What the teacher's array holds at the exit is what the last point stores from the maxima and sums reached. -/
theorem exit10 (B : Buf (Elt F) ((spec1 10).arr.view.loc (c.tc : Thread nD τ))) (hB : ((logitsDat a W c).toRRel fgt1 (Rl1 a W c)).ArrAt 10 (cfgL a).N B)
    (hN : (cfgL a).N ≤ 63) (t₀ : Fin (cfgL a).N) (h : t₀.val + 1 = (cfgL a).N) :
    ∃ M, Reach a W c (cfgL a).N M ∧ ∀ (r : Fin 384) (j : Fin 128), B (ix2 r j) = newLse M.mt M.lt (ix2 r j) := by
  obtain ⟨X, hY, hG⟩ := exit_leaves (logitsDat a W c) fgt1 (Rl1 a W c) 10 B hB rfl t₀ (whole10 a t₀ h)
  have hY' : k1_cond2 (pointWord a t₀) (BitVec.ofNat 32 (dynb1 a.1 0)) = 1#1 → ∃ M, Reach a W c (t₀.val + 1) M ∧ X = newLse M.mt M.lt := hY
  obtain ⟨M, hM, e⟩ := hY' (cond_last a hN t₀ h)
  exact ⟨M, h ▸ hM, fun r j => (hG (ix2 r j)).trans (congrFun e (ix2 r j))⟩

/-- The same for the student's. -/
theorem exit11 (B : Buf (Elt F) ((spec1 11).arr.view.loc (c.tc : Thread nD τ))) (hB : ((logitsDat a W c).toRRel fgt1 (Rl1 a W c)).ArrAt 11 (cfgL a).N B)
    (hN : (cfgL a).N ≤ 63) (t₀ : Fin (cfgL a).N) (h : t₀.val + 1 = (cfgL a).N) :
    ∃ M, Reach a W c (cfgL a).N M ∧ ∀ (r : Fin 384) (j : Fin 128), B (ix2 r j) = newLse M.ms M.ls (ix2 r j) := by
  obtain ⟨X, hY, hG⟩ := exit_leaves (logitsDat a W c) fgt1 (Rl1 a W c) 11 B hB rfl t₀ (whole11 a t₀ h)
  have hY' : k1_cond2 (pointWord a t₀) (BitVec.ofNat 32 (dynb1 a.1 0)) = 1#1 → ∃ M, Reach a W c (t₀.val + 1) M ∧ X = newLse M.ms M.ls := hY
  obtain ⟨M, hM, e⟩ := hY' (cond_last a hN t₀ h)
  exact ⟨M, h ▸ hM, fun r j => (hG (ix2 r j)).trans (congrFun e (ix2 r j))⟩

end

end Cert.KernelIdeal.Hand

end

end
-- ==== Proof.Lanes.lean ====
module

public import proofs.«01_k».proof.Proof.BodyDefs
public import proofs.«01_k».proof.Proof.LogitsStep
public import proofs.«01_k».proof.Proof.Lse
public import Idealize.ShloMosaic.Lib.Pointwise

@[expose] public section

set_option maxRecDepth 16384

noncomputable section

namespace Cert.KernelIdeal.Hand

open Idealize.ShloMosaic Cert.KernelIdeal.Gen

/-- The masking constant is minus infinity. -/
theorem masked_val : (Named.named (F := Ideal) κ "masked" 0xF149F2CA#32 : Ideal .f32) = (⊥ : EReal) :=
  IdealRules.named_const.ideal_named_scalar _ _ _ _ rfl

/-- A lane's new maximum is over the old one and its four columns. -/
theorem newMax_apply (z : Vec Ideal S384x512 .f32) (m : Vec Ideal S384x128 .f32) (r : Fin 384) (l : Fin 128) (Z : ℕ → EReal)
    (hz : ∀ q : Fin 512, z (ix2 r q) = Z q.val) :
    newMax z m (ix2 r l) = max (max (max (max (m (ix2 r l) : EReal) (Z l.val)) (Z (128 + l.val))) (Z (256 + l.val))) (Z (384 + l.val)) := by
  unfold newMax
  pointwise [k1_pay310, k1_pay312]
  rw [hz, hz, hz, hz]

/-- A lane's new sum is the rescaled old one and its four columns' powers. -/
theorem newSum_apply (z : Vec Ideal S384x512 .f32) (m l : Vec Ideal S384x128 .f32) (r : Fin 384) (j : Fin 128) (Z : ℕ → EReal)
    (hz : ∀ q : Fin 512, z (ix2 r q) = Z q.val) :
    newSum z m l (ix2 r j) = (l (ix2 r j) : EReal) * Ideal.exp2 (m (ix2 r j) - newMax z m (ix2 r j))
      + Ideal.exp2 (Z j.val - newMax z m (ix2 r j)) + Ideal.exp2 (Z (128 + j.val) - newMax z m (ix2 r j))
      + Ideal.exp2 (Z (256 + j.val) - newMax z m (ix2 r j)) + Ideal.exp2 (Z (384 + j.val) - newMax z m (ix2 r j)) := by
  have h : newMax z m = k1_pay312 z m := by unfold newMax k1_pay310; exact shapeCast_self _ _
  rw [h]
  unfold newSum
  generalize k1_pay312 z m = M
  pointwise [k1_pay311]
  rw [hz, hz, hz, hz]
  rfl

/-- A row's lanes hold the running maximum and sum of their first `4 n` columns, in base two, of the row's logits `y`. -/
def Holds (y : ℕ → EReal) (r : Fin 384) (n : ℕ) (m l : Vec Ideal S384x128 .f32) : Prop :=
  ∀ j : Fin 128, m (ix2 r j) = Lse.runMax (Lse.lane y j.val) (4 * n) ∧ l (ix2 r j) = Lse.runSum (Lse.lane y j.val) (4 * n)

/-- The column a lane sees. -/
theorem lane_at (y : ℕ → EReal) (j n c : ℕ) : Lse.lane y j (4 * n + c) = y (512 * n + (128 * c + j)) * (Lse.c2 : EReal) := by
  unfold Lse.lane; congr 2; ring

/-- Before any block. -/
theorem Holds.zero (y : ℕ → EReal) (r : Fin 384) (m l : Vec Ideal S384x128 .f32) (hm : m = k1_pay4 (F := Ideal)) (hl : l = k1_pay6 (F := Ideal)) : Holds y r 0 m l := by
  subst hm hl
  intro j
  constructor
  · pointwise [k1_pay4]
    rw [masked_val]; rfl
  · pointwise [k1_pay6]
    simp [Lse.runSum]

/-- One more block. -/
theorem Holds.next (y : ℕ → EReal) (r : Fin 384) (n : ℕ) (m l : Vec Ideal S384x128 .f32) (z : Vec Ideal S384x512 .f32) (h : Holds y r n m l)
    (hz : ∀ q : Fin 512, z (ix2 r q) = y (512 * n + q.val) * (Lse.c2 : EReal)) : Holds y r (n + 1) (newMax z m) (newSum z m l) := by
  intro j
  have e0 := lane_at y j.val n 0
  have e1 := lane_at y j.val n 1
  have e2 := lane_at y j.val n 2
  have e3 := lane_at y j.val n 3
  simp only [Nat.mul_zero, Nat.zero_add, Nat.add_zero, Nat.mul_one, Nat.reduceMul] at e0 e1 e2 e3
  have hm : newMax z m (ix2 r j) = Lse.runMax (Lse.lane y j.val) (4 * n + 4) := by
    rw [newMax_apply z m r j (fun q => y (512 * n + q) * (Lse.c2 : EReal)) hz, (h j).1, Lse.runMax_four, e0, e1, e2, e3]
  refine ⟨hm, ?_⟩
  rw [newSum_apply z m l r j (fun q => y (512 * n + q) * (Lse.c2 : EReal)) hz, (h j).1, (h j).2]
  refine Eq.trans ?_ (Lse.runSum_four (Lse.lane y j.val) (4 * n) hm).symm
  rw [e0, e1, e2, e3]

/-- The named constants: 1 / log 2, -/
theorem log2e_val : (Named.named (F := Ideal) κ "log2e" 0x3FB8AA3B#32 : Ideal .f32) = (((Real.log 2)⁻¹ : ℝ) : EReal) :=
  IdealRules.named_const.ideal_named_scalar _ _ _ _ rfl

/-- log 2, -/
theorem ln2_val : (Named.named (F := Ideal) κ "ln2" 0x3F317218#32 : Ideal .f32) = ((Real.log 2 : ℝ) : EReal) :=
  IdealRules.named_const.ideal_named_scalar _ _ _ _ rfl

/-- and 1 / (2 log 2). -/
theorem z_scale_val : (Named.named (F := Ideal) κ "z_scale" 0x3F38AA3B#32 : Ideal .f32) = (((Real.log 2)⁻¹ * (1 / 2) : ℝ) : EReal) :=
  IdealRules.named_const.ideal_named_scalar _ _ _ _ rfl

/-- The word of minus infinity. -/
theorem ninf_val : Ideal.ofBits FTy.f32 0xFF800000#32 = (⊥ : EReal) := by
  simp [Ideal.ofBits, Ideal.ieee]

/-- A fold of maxima from minus infinity is a supremum. -/
theorem fold_max_bot {n : ℕ} (f : Fin n → EReal) (g : ℕ → EReal) (h : ∀ i : Fin n, f i = g i.val) :
    Finset.univ.fold max ⊥ f = (Finset.range n).sup g := by
  show Finset.univ.sup f = _
  refine le_antisymm (Finset.sup_le fun i _ => ?_) (Finset.sup_le fun i hi => ?_)
  · rw [h]; exact Finset.le_sup (f := g) (Finset.mem_range.mpr i.isLt)
  · have := Finset.le_sup (f := f) (Finset.mem_univ ⟨i, Finset.mem_range.mp hi⟩)
    rwa [h] at this

/-- What the last point stores, from a row's lanes. -/
theorem newLse_apply (m l : Vec Ideal S384x128 .f32) (r : Fin 384) (j : Fin 128) (M L : ℕ → EReal)
    (hM : ∀ i : Fin 128, m (ix2 r i) = M i.val) (hL : ∀ i : Fin 128, l (ix2 r i) = L i.val) :
    newLse m l (ix2 r j) = (((Finset.range 128).sup M
      + Ideal.log (∑ i ∈ Finset.range 128, L i * Ideal.exp2 (M i - (Finset.range 128).sup M)) * (((Real.log 2)⁻¹ : ℝ) : EReal)) * ((Real.log 2 : ℝ) : EReal) : EReal) := by
  unfold newLse
  pointwise [k1_pay2]
  rw [ninf_val, log2e_val, ln2_val, fold_max_bot _ M fun i => hM i, Finset.sum_range]
  congr 3
  refine congrArg Ideal.log (Finset.sum_congr rfl fun i _ => ?_)
  show (l (ix2 r i) : EReal) * Ideal.exp2 (m (ix2 r i) - _) = _
  rw [hM, hL]

/-- After all blocks, the row's log-sum-exp. -/
theorem Holds.lse (y : ℕ → EReal) (r : Fin 384) (n : ℕ) (m l : Vec Ideal S384x128 .f32) (h : Holds y r n m l) (j : Fin 128) :
    newLse m l (ix2 r j) = Lse.lse y (128 * (4 * n)) :=
  (newLse_apply m l r j (fun i => Lse.runMax (Lse.lane y i) (4 * n)) (fun i => Lse.runSum (Lse.lane y i) (4 * n)) (fun i => (h i).1) (fun i => (h i).2)).trans
    (Lse.combine y (4 * n) _ rfl)

end Cert.KernelIdeal.Hand

end

end
-- ==== Proof.RefRow.lean ====
/-
  The reference's row statistics, read at an index, in terms of the plain functions.
-/
module

public import proofs.«01_k».proof.Proof.Gen.ReferenceIdeal.Frame
public import proofs.«01_k».proof.Proof.Lanes
public import proofs.«01_k».proof.Proof.Spec

@[expose] public section

set_option maxRecDepth 16384

noncomputable section

namespace Cert.ReferenceIdeal.Hand

open Idealize.ShloMosaic Cert.ReferenceIdeal Cert.ReferenceIdeal.Gen

/-- The maximum of a row as a fold over its columns. -/
theorem rowMax {n0 n1 : ℕ} (h : Shape.Reduces ⟨2, ![n0, n1]⟩ [1] ⟨1, ![n0]⟩) (hφ) (hacc) (v : FVec Ideal ⟨2, ![n0, n1]⟩ .f32) (r : Fin n0) :
    multiReduction .maximumf [1] ⟨1, ![n0]⟩ v 0xFF800000#32 h hφ hacc (ix1 r)
      = Finset.univ.fold max (Ideal.ofBits FTy.f32 0xFF800000#32) (fun k => v (ix2 r k)) := by
  rw [multiReduction_maximumf_eq_fold]
  exact h.fold_fiber_r2_a1 (ix1 r) max _ v

/-- The sum of a row over its columns. -/
theorem rowSum {n0 n1 : ℕ} (h : Shape.Reduces ⟨2, ![n0, n1]⟩ [1] ⟨1, ![n0]⟩) (hφ) (hacc) (v : FVec Ideal ⟨2, ![n0, n1]⟩ .f32) (r : Fin n0) :
    multiReduction .add [1] ⟨1, ![n0]⟩ v 0x00000000#32 h hφ hacc (ix1 r) = ∑ k, v (ix2 r k) :=
  h.sum_fiber_r2_a1 (ix1 r) v

/-- The logits at half, minus infinity outside. -/
def masked (v : FVec Ideal S384x32000 .f32) (m : IVec S384x32000 1) (c : FVec Ideal S384x32000 .f32) : FVec Ideal S384x32000 .f32 :=
  select m (divf v c) (broadcast S384x32000 (Scalar.ofBits .f32 0xFF800000#32 : Ideal .f32))

/-- The exponentials of a row less its maximum. -/
def shifted (w : FVec Ideal S384x32000 .f32) (M : FVec Ideal S384 .f32) : FVec Ideal S384x32000 .f32 :=
  exp (subf w (broadcastTo S384x32000 (shapeCast S384x1 M shapeCasts_S384_S384x1) broadcasts_S384x1_S384x32000))

/-- The statistic from a row's maximum and its sum. -/
def stat (M L : FVec Ideal S384 .f32) : FVec Ideal S3x128 .f32 :=
  subf (shapeCast S3x128 (addf (shapeCast S384x1 M shapeCasts_S384_S384x1) (log (shapeCast S384x1 L shapeCasts_S384_S384x1)))
    shapeCasts_S384x1_S3x128) (broadcast S3x128 (Scalar.ofBits .f32 0x4125F9D2#32 : Ideal .f32))

/-- A row's log-sum-exp in two passes, less the constant, as the reference computes it. -/
def rowStat (w : FVec Ideal S384x32000 .f32) : FVec Ideal S3x128 .f32 :=
  stat (multiReduction .maximumf [1] S384 w 0xFF800000#32 reduces_S384x32000_S384 (.inl rfl) rfl)
    (multiReduction .add [1] S384 (shifted w (multiReduction .maximumf [1] S384 w 0xFF800000#32 reduces_S384x32000_S384 (.inl rfl) rfl))
      0x00000000#32 reduces_S384x32000_S384 (.inl rfl) rfl)

/-- Result 2's final expression is that function of the masked teacher logits. -/
theorem pay11_eq (v m c) : k0_pay11 (F := Ideal) v m c = rowStat (masked v m c) := rfl
/-- Result 3's is that function of the masked student logits. -/
theorem pay12_eq (v m) : k0_pay12 (F := Ideal) v m = rowStat (masked v m (k0_pay10 (F := Ideal))) := rfl

/-- A masked logit at an index. -/
theorem masked_apply (v m) (r : Fin 384) (k : Fin 32000) :
    masked v m (k0_pay10 (F := Ideal)) (ix2 r k) = Scalar.select (m (ix2 r k)) (Ideal.div (v (ix2 r k)) (Ideal.ofBits FTy.f32 0x40000000#32)) (Ideal.ofBits FTy.f32 0xFF800000#32) := by
  pointwise [masked, k0_pay10]

/-- The exponential of a logit less its row's maximum. -/
theorem shifted_apply (w M) (r : Fin 384) (k : Fin 32000) : shifted w M (ix2 r k) = Ideal.exp (w (ix2 r k) - M (ix1 r)) := by
  pointwise [shifted]

/-- Maximum and sum combined, read at an index. -/
theorem stat_apply (M L) (b : Fin 3) (s : Fin 128) :
    stat M L (ix2 b s) = M (ix1 ⟨b.val * 128 + s.val, by omega⟩) + Ideal.log (L (ix1 ⟨b.val * 128 + s.val, by omega⟩)) - Ideal.ofBits FTy.f32 0x4125F9D2#32 := by
  pointwise [stat]

/-- The two-pass form is the log-sum-exp of the row's values. -/
theorem rowStat_apply (w) (b : Fin 3) (s : Fin 128) (y : ℕ → EReal) (hy : ∀ k : Fin 32000, w (ix2 ⟨b.val * 128 + s.val, by omega⟩ k) = y k.val) :
    rowStat w (ix2 b s) = Lse.lse y 32000 - Ideal.ofBits FTy.f32 0x4125F9D2#32 := by
  unfold rowStat
  rw [stat_apply, rowSum reduces_S384x32000_S384 (.inl rfl) rfl]
  simp only [shifted_apply]
  rw [rowMax reduces_S384x32000_S384 (.inl rfl) rfl]
  simp only [hy]
  rw [KernelIdeal.Hand.ninf_val, KernelIdeal.Hand.fold_max_bot _ y fun _ => rfl]
  unfold Lse.lse
  rw [Finset.sum_range]

/-- Column `k` is admitted when it is below the count, as signed words. -/
theorem pay9_apply (v) (r : Fin 384) (k : Fin 32000) :
    k0_pay9 (F := Ideal) v (ix2 r k) = IntOp.cmpi .slt (BitVec.ofNat 32 k.val) (v (ix2 0 0)) := by
  pointwise [k0_pay9]

/-- A selection by the signed comparison of a column with the count. -/
theorem select_slt (k : ℕ) (hk : k < 2 ^ 31) (vv : BitVec 32) (a b : EReal) :
    Scalar.select (IntOp.cmpi .slt (BitVec.ofNat 32 k) vv) a b = if (k : ℤ) < vv.toInt then a else b := by
  have e : (BitVec.ofNat 32 k).toInt = k := by
    have h : (BitVec.ofNat 32 k).toNat = k := by rw [BitVec.toNat_ofNat]; omega
    rw [BitVec.toInt_eq_toNat_of_lt (by omega), h]
  unfold Scalar.select IntOp.cmpi
  simp only [BitVec.slt, e]
  by_cases h : (k : ℤ) < vv.toInt <;> simp [h]

/-- The codes, reshaped. -/
theorem pay13_apply (a) (b : Fin 3) (s : Fin 128) (k : Fin 2048) : k0_pay13 (F := Ideal) a (ix3 b s k) = a (ix2 ⟨b.val * 128 + s.val, by omega⟩ k) := by
  pointwise [k0_pay13]

/-- The scales, reshaped. -/
theorem pay14_apply (a) (b : Fin 3) (s : Fin 128) : k0_pay14 (F := Ideal) a (ix2 b s) = a (ix2 ⟨b.val * 128 + s.val, by omega⟩ 0) := by
  pointwise [k0_pay14]

end Cert.ReferenceIdeal.Hand

end

end
-- ==== Proof.Tile.lean ====
/-
  One tile of 512 columns: the scaled and masked logits that the second call computes at a grid point, read at an index.
-/
module

public import proofs.«01_k».proof.Proof.Lanes
public import proofs.«01_k».proof.Proof.Spec
public import proofs.«01_k».proof.Proof.RefRow

@[expose] public section

set_option maxRecDepth 16384

noncomputable section

namespace Cert.KernelIdeal.Hand

open Idealize.ShloMosaic Cert.KernelIdeal Cert.KernelIdeal.Gen

/-- A weight from a low nibble. -/
theorem pay10_apply (x : Vec Ideal S64x512 .i8) (s z : Vec Ideal S1x512 .f32) (r : Fin 64) (k : Fin 512) :
    k1_pay10 x s z (ix2 r k) = (Spec.low (x (ix2 r k)) - z (ix2 0 k)) * s (ix2 0 k) := by
  pointwise [k1_pay8, k1_pay9, k1_pay10]
  rfl

/-- A weight from a high nibble. -/
theorem pay11_apply (x : Vec Ideal S64x512 .i8) (s z : Vec Ideal S1x512 .f32) (r : Fin 64) (k : Fin 512) :
    k1_pay11 x s z (ix2 r k) = (Spec.high (x (ix2 r k)) - z (ix2 0 k)) * s (ix2 0 k) := by
  pointwise [k1_pay8, k1_pay9, k1_pay11]
  have e : (BitVec.setWidth 8 (IntOp.shrui ArithUnit.vector (BitVec.setWidth 32 (x (ix2 r k))) 4#32)).toInt = (x (ix2 r k) >>> 4).toInt := Spec.high_word' _
  show ((((BitVec.setWidth 8 (IntOp.shrui ArithUnit.vector (BitVec.setWidth 32 (x (ix2 r k))) 4#32)).toInt : ℝ) : EReal) - _) * _ = _
  rw [e]; rfl

/-- A dequantised weight of the tile. -/
theorem wScr_apply (P : Vec Ideal S4096x512 .i8) (S Z : Vec Ideal S64x512 .f32) (x : Fin 8192) (q : Fin 512) :
    wScr P S Z (ix2 x q) = ((if x.val % 256 < 128 then Spec.low (P (ix2 (Spec.packedRow x) q)) else Spec.high (P (ix2 (Spec.packedRow x) q)))
      - Z (ix2 (Spec.grp (Spec.packedRow x)) q)) * S (ix2 (Spec.grp (Spec.packedRow x)) q) := by
  have hx := x.isLt
  have hk : 2 * (x.val / 256) + x.val % 128 / 64 < 64 := by omega
  have hr : rows64 P _ hk (ix2 ⟨x.val % 64, Nat.mod_lt _ (by decide)⟩ q) = P (ix2 (Spec.packedRow x) q) := by
    unfold rows64
    refine congrArg P (funext fun a => Fin.ext ?_)
    match a with
    | 0 => show 64 * (2 * (x.val / 256) + x.val % 128 / 64) + x.val % 64 = 128 * (x.val / 256) + x.val % 128; omega
    | 1 => rfl
  have h1 : ∀ U : Vec Ideal S64x512 .f32, row1 U _ hk (ix2 0 q) = U (ix2 (Spec.grp (Spec.packedRow x)) q) := fun U => by
    unfold row1
    refine congrArg U (funext fun a => Fin.ext ?_)
    match a with
    | 0 => show 2 * (x.val / 256) + x.val % 128 / 64 = (128 * (x.val / 256) + x.val % 128) / 64; omega
    | 1 => rfl
  have hj : (fun a => match a with
      | 0 => ⟨x.val % 64, Nat.mod_lt _ (by decide)⟩
      | 1 => ⟨q.val, q.isLt⟩ : S64x512.Idx) = ix2 ⟨x.val % 64, Nat.mod_lt _ (by decide)⟩ q := by
    funext a; match a with | 0 => rfl | 1 => rfl
  show (if x.val % 256 < 128 then k1_pay10 (rows64 P _ hk) (row1 S _ hk) (row1 Z _ hk) (fun a => match a with
      | 0 => ⟨x.val % 64, Nat.mod_lt _ (by decide)⟩
      | 1 => ⟨q.val, q.isLt⟩ : S64x512.Idx) else k1_pay11 (rows64 P _ hk) (row1 S _ hk) (row1 Z _ hk) (fun a => match a with
      | 0 => ⟨x.val % 64, Nat.mod_lt _ (by decide)⟩
      | 1 => ⟨q.val, q.isLt⟩ : S64x512.Idx)) = _
  rw [hj, pay10_apply, pay11_apply, hr, h1, h1]
  split <;> rfl

/-- The word of a column is that of the tile's first column plus its place in the tile. -/
theorem column_word (n q : ℕ) : IntOp.addi (Scalar.muli (BitVec.ofNat 32 n) 512#32) (BitVec.ofNat 32 q) = BitVec.ofNat 32 (512 * n + q) := by
  show BitVec.ofNat 32 n * BitVec.ofNat 32 512 + BitVec.ofNat 32 q = _
  rw [← BitVec.ofNat_mul, ← BitVec.ofNat_add, mul_comm]

/-- Admission of a tile's column. -/
theorem pay306_apply (n : ℕ) (vv : BitVec 32) (r : Fin 384) (q : Fin 512) :
    k1_pay306 (F := Ideal) (BitVec.ofNat 32 n) vv (ix2 r q) = IntOp.cmpi .slt (BitVec.ofNat 32 (512 * n + q.val)) vv := by
  rw [← column_word]
  pointwise [k1_pay306]

/-- The teacher's masked product of a tile. -/
theorem pay307_apply (M) (x : Vec Ideal S384x8192 .bf16) (w : Vec Ideal S8192x512 .bf16) (r : Fin 384) (k : Fin 512) :
    k1_pay307 (F := Ideal) M x w (ix2 r k) = Scalar.select (M (ix2 r k)) ((∑ i, x (ix2 r i) * w (ix2 i k)) * (Named.named (F := Ideal) κ "z_scale" 1060678203#32 : Ideal .f32)) (Named.named (F := Ideal) κ "masked" 4048155338#32 : Ideal .f32) := by
  pointwise [k1_pay307]

/-- The student's masked product of a tile. -/
theorem pay308_apply (M) (x : Vec Ideal S384x2048 .fp8e4m3) (w : Vec Ideal S512x2048 .fp8e4m3) (c : Vec Ideal S384x1 .f32) (s : Vec Ideal S1x512 .f32) (r : Fin 384) (k : Fin 512) :
    k1_pay308 (F := Ideal) M x w c s (ix2 r k) = Scalar.select (M (ix2 r k)) ((∑ i, x (ix2 r i) * w (ix2 k i)) * c (ix2 r 0) * s (ix2 0 k) * (Named.named (F := Ideal) κ "z_scale" 1060678203#32 : Ideal .f32)) (Named.named (F := Ideal) κ "masked" 4048155338#32 : Ideal .f32) := by
  pointwise [k1_pay308]

/-- A masked and scaled logit is the row's logit at half, in base two. -/
theorem masked_scaled (n : ℕ) (hn : n < 63) (q : Fin 512) (vv : BitVec 32) (hv : vv.toInt ≤ 32000) (L : Fin 32000 → EReal) (s : EReal)
    (hs : ∀ h : 512 * n + q.val < 32000, s = L ⟨512 * n + q.val, h⟩) :
    Scalar.select (IntOp.cmpi .slt (BitVec.ofNat 32 (512 * n + q.val)) vv) (s * (Named.named (F := Ideal) κ "z_scale" 1060678203#32 : Ideal .f32)) (Named.named (F := Ideal) κ "masked" 4048155338#32 : Ideal .f32)
      = Spec.logits vv L (512 * n + q.val) * (Lse.c2 : EReal) := by
  have hq := q.isLt
  rw [ReferenceIdeal.Hand.select_slt _ (by omega)]
  unfold Spec.logits
  by_cases h : ((512 * n + q.val : ℕ) : ℤ) < vv.toInt
  · have h' : 512 * n + q.val < 32000 := by omega
    rw [if_pos h, dif_pos ⟨h', h⟩, z_scale_val, ← hs h']
    exact Spec.z_scaled s
  · rw [if_neg h, dif_neg (fun e => h e.2), masked_val, Lse.bot_mul_pos Lse.c2_pos]

theorem zT_apply (n : ℕ) (hn : n < 63) (vv : Vec Ideal S1 .i32) (hv : (vv idx0).toInt ≤ 32000) (x : Vec Ideal S384x8192 .bf16)
    (P : Vec Ideal S4096x512 .i8) (S Z : Vec Ideal S64x512 .f32) (r : Fin 384) (q : Fin 512) (H : Fin 8192 → EReal)
    (P' : Fin 4096 → Fin 32000 → BitVec 8) (S' Z' : Fin 64 → Fin 32000 → EReal) (hx : ∀ k, x (ix2 r k) = H (Spec.perm k))
    (hP : ∀ (h : 512 * n + q.val < 32000) i, P (ix2 i q) = P' i ⟨512 * n + q.val, h⟩)
    (hS : ∀ (h : 512 * n + q.val < 32000) i, S (ix2 i q) = S' i ⟨512 * n + q.val, h⟩)
    (hZ : ∀ (h : 512 * n + q.val < 32000) i, Z (ix2 i q) = Z' i ⟨512 * n + q.val, h⟩) :
    zT (BitVec.ofNat 32 n) vv x P S Z (ix2 r q)
      = Spec.logits (vv idx0) (fun v => Spec.teacher H (fun i => P' i v) (fun i => S' i v) (fun i => Z' i v)) (512 * n + q.val) * (Lse.c2 : EReal) := by
  unfold zT
  rw [pay307_apply, pay306_apply]
  refine masked_scaled n hn q (vv idx0) hv _ _ fun h => ?_
  rw [← Spec.teacher_arranged]
  refine Finset.sum_congr rfl fun k _ => ?_
  rw [wScr_apply, hx, hP h, hS h, hZ h]

/-- The same for the student. -/
theorem zS_apply (n : ℕ) (hn : n < 63) (vv : Vec Ideal S1 .i32) (hv : (vv idx0).toInt ≤ 32000) (x : Vec Ideal S384x2048 .fp8e4m3) (c : Vec Ideal S384x128 .f32)
    (w : Vec Ideal S512x2048 .fp8e4m3) (s : Vec Ideal S1x512 .f32) (r : Fin 384) (q : Fin 512) (C : Fin 2048 → EReal) (sc : EReal)
    (w' : Fin 32000 → Fin 2048 → EReal) (s' : Fin 32000 → EReal) (hx : ∀ k, x (ix2 r k) = C k) (hc : c (ix2 r 0) = sc)
    (hw : ∀ (h : 512 * n + q.val < 32000) i, w (ix2 q i) = w' ⟨512 * n + q.val, h⟩ i)
    (hs : ∀ (h : 512 * n + q.val < 32000), s (ix2 0 q) = s' ⟨512 * n + q.val, h⟩) :
    zS (BitVec.ofNat 32 n) vv x c w s (ix2 r q)
      = Spec.logits (vv idx0) (fun v => Spec.student C (w' v) sc (s' v)) (512 * n + q.val) * (Lse.c2 : EReal) := by
  unfold zS
  rw [pay308_apply, pay306_apply]
  refine masked_scaled n hn q (vv idx0) hv _ _ fun h => ?_
  have hcol : col0 c (ix2 r 0) = sc := by
    rw [← hc]; unfold col0
    refine congrArg c (funext fun a => Fin.ext ?_)
    match a with | 0 => rfl | 1 => rfl
  rw [hcol, hs h]
  unfold Spec.student
  refine congrArg (fun t => t * sc * s' _) (Finset.sum_congr rfl fun k _ => ?_)
  rw [hx, hw h]

end Cert.KernelIdeal.Hand

end

end
-- ==== Proof.Reached.lean ====
/-
  The statistics that the second call's points can leave: after `n` points every lane holds its running maximum and its running sum over the
  first `n` tiles.
-/
module

public import proofs.«01_k».proof.Proof.Blocks
public import proofs.«01_k».proof.Proof.Tile

@[expose] public section

set_option maxRecDepth 16384

noncomputable section

namespace Cert.KernelIdeal.Hand

open Idealize.ShloMosaic Idealize.ShloMosaic.TcCoe Idealize.ShloMosaic.Pipeline
open Cert.KernelIdeal Cert.KernelIdeal.Gen

variable (a : (pcfgs (F := Ideal) 1).Adm) (W : Valuation τ sig (Elt Ideal)) (c : Dev nD)

/-- The count of points is the table's bound. -/
theorem N_eq : (cfgL a).N = dynb1 a.1 0 := by
  show (List.ofFn ((grid1.at (dynb1 a.1)).bound)).prod = _
  rw [List.ofFn_succ, List.ofFn_zero, List.prod_cons, List.prod_nil, mul_one]
  rfl

/-- A point's coordinate is its number. -/
theorem coords_eq (t : Fin (cfgL a).N) : ((cfgL a).grid.coords t 0).val = t.val := by
  rw [Grid.coords_val (G := (cfgL a).grid) t 0 (S := 1) (B := dynb1 a.1 0) rfl rfl, Nat.div_one]
  exact Nat.mod_eq_of_lt (lt_of_lt_of_eq t.isLt (N_eq a))

/-- The first point is number 0. -/
theorem isFirst_iff (n : ℕ) (hn : n < 63) : isFirst (BitVec.ofNat 32 n) ↔ n = 0 := by
  revert n
  decide +kernel

/-- A row's teacher logits at half, from the arrays at the call. -/
def rowT (H : Fin 8192 → EReal) : ℕ → EReal := Spec.logits ((a.1 1 : Vec Ideal S1 .i32) idx0) fun v =>
  Spec.teacher H (fun i => W (Proc.devRef .tc main_arg4) (ix2 i v)) (fun i => W (Proc.devRef .tc main_arg5) (ix2 i v)) (fun i => W (Proc.devRef .tc main_arg6) (ix2 i v))

/-- A row's student logits at half, from the arrays at the call. -/
def rowS (C : Fin 2048 → EReal) (sc : EReal) : ℕ → EReal := Spec.logits ((a.1 1 : Vec Ideal S1 .i32) idx0) fun v =>
  Spec.student C (fun i => W (Proc.devRef .tc main_arg7) (ix2 v i)) sc (W (Proc.devRef .tc main_v28) (ix2 0 v))

/-- After every count of points, each lane of a row holds the running maximum and sum of the columns seen. -/
theorem reach_holds (hN : (cfgL a).N ≤ 63) (hv : ((a.1 1 : Vec Ideal S1 .i32) idx0).toInt ≤ 32000) (r : Fin 384) (H : Fin 8192 → EReal) (C : Fin 2048 → EReal) (sc : EReal)
    (hH : ∀ k, W (Proc.devRef .tc main_v22_0) (ix2 r k) = H (Spec.perm k)) (hC : ∀ k, W (Proc.devRef .tc main_v22_1) (ix2 r k) = C k)
    (hsc : W (Proc.devRef .tc main_v22_2) (ix2 r 0) = sc) :
    ∀ (n : ℕ) (M : Stats Ideal), Reach a W c n M → 0 < n → Holds (rowT a W H) r n M.mt M.lt ∧ Holds (rowS a W C sc) r n M.ms M.ls
  | 0, _, _, h => absurd h (Nat.lt_irrefl 0)
  | n + 1, M', hM', _ => by
    obtain ⟨h, M, y0, y1, y2, y3, y4, y5, y6, y7, hM, ⟨b0, b1, b2, b3, b4, b5, b6, b7⟩, rfl⟩ := hM'
    have hn : n < 63 := lt_of_lt_of_le h hN
    have hco : ((cfgL a).grid.coords ⟨n, h⟩ 0).val = n := coords_eq a ⟨n, h⟩
    have hp : pointWord a ⟨n, h⟩ = BitVec.ofNat 32 n := by unfold pointWord; rw [hco]
    rw [hp]
    have hb : Holds (rowT a W H) r n (base (BitVec.ofNat 32 n) M).mt (base (BitVec.ofNat 32 n) M).lt
        ∧ Holds (rowS a W C sc) r n (base (BitVec.ofNat 32 n) M).ms (base (BitVec.ofNat 32 n) M).ls := by
      unfold base
      by_cases h0 : n = 0
      · subst h0
        rw [if_pos ((isFirst_iff 0 hn).mpr rfl)]
        exact ⟨Holds.zero _ _ _ _ rfl rfl, Holds.zero _ _ _ _ rfl rfl⟩
      · rw [if_neg (fun e => h0 ((isFirst_iff n hn).mp e))]
        exact reach_holds hN hv r H C sc hH hC hsc n M hM (Nat.pos_of_ne_zero h0)
    refine ⟨Holds.next _ _ _ _ _ _ hb.1 fun q => ?_, Holds.next _ _ _ _ _ _ hb.2 fun q => ?_⟩
    · exact zT_apply n hn _ hv y0 y3 y4 y5 r q H (fun i v => W (Proc.devRef .tc main_arg4) (ix2 i v)) (fun i v => W (Proc.devRef .tc main_arg5) (ix2 i v))
        (fun i v => W (Proc.devRef .tc main_arg6) (ix2 i v)) (fun k => (blk0_apply a W c _ _ b0 r k).trans (hH k))
        (fun hq i => blk3_apply a W c _ _ b3 n hco i q hq) (fun hq i => blk4_apply a W c _ _ b4 n hco i q hq) (fun hq i => blk5_apply a W c _ _ b5 n hco i q hq)
    · exact zS_apply n hn _ hv y1 y2 y6 y7 r q C sc (fun v i => W (Proc.devRef .tc main_arg7) (ix2 v i)) (fun v => W (Proc.devRef .tc main_v28) (ix2 0 v))
        (fun k => (blk1_apply a W c _ _ b1 r k).trans (hC k)) ((blk2_apply a W c _ _ b2 r 0).trans hsc)
        (fun hq i => blk6_apply a W c _ _ b6 n hco q i hq) (fun hq => blk7_apply a W c _ _ b7 n hco 0 q hq)

end Cert.KernelIdeal.Hand

end

end
-- ==== Proof.Ends.lean ====
/-
  What the second call leaves in its two arrays of log-sum-exps: at every row and column, the log-sum-exp of the row's whole vocabulary.
-/
module

public import proofs.«01_k».proof.Proof.Exit
public import proofs.«01_k».proof.Proof.Reached

@[expose] public section

set_option maxRecDepth 16384

noncomputable section

namespace Cert.KernelIdeal.Hand

open Idealize.ShloMosaic Idealize.ShloMosaic.TcCoe Idealize.ShloMosaic.Pipeline
open Cert.KernelIdeal Cert.KernelIdeal.Gen

/-- A row's log-sum-exp over the tiles that reach the last word in the vocabulary is that over the whole vocabulary. -/
theorem lse_whole (vv : BitVec 32) (L : Fin 32000 → EReal) (nt : ℕ) (hcov : ∀ n : ℕ, (n : ℤ) < vv.toInt → n < nt * 512) :
    Lse.lse (Spec.logits vv L) (128 * (4 * nt)) = Lse.lse (Spec.logits vv L) 32000 := by
  rcases le_total (128 * (4 * nt)) 32000 with h | h
  · refine (Lse.lse_tail _ h fun i hi => ?_).symm
    exact dif_neg fun e => by have := hcov i e.2; omega
  · exact Lse.lse_tail _ h fun i hi => dif_neg fun e => by have := e.1; omega

section
variable (a : (pcfgs (F := Ideal) 1).Adm) (W : Valuation τ sig (Elt Ideal)) (c : Dev nD) (nt : ℕ) (hnt : (cfgL a).N = nt) (h1 : 1 ≤ nt) (h63 : nt ≤ 63)
  (vv : BitVec 32) (hvv : ((a.1 1 : Vec Ideal S1 .i32) idx0) = vv) (hv : vv.toInt ≤ 32000) (hcov : ∀ n : ℕ, (n : ℤ) < vv.toInt → n < nt * 512)
  (r : Fin 384) (H : Fin 8192 → EReal) (C : Fin 2048 → EReal) (sc : EReal)
  (hH : ∀ k, W (Proc.devRef .tc main_v22_0) (ix2 r k) = H (Spec.perm k)) (hC : ∀ k, W (Proc.devRef .tc main_v22_1) (ix2 r k) = C k)
  (hsc : W (Proc.devRef .tc main_v22_2) (ix2 r 0) = sc)

include hnt h1 h63 hvv hv hcov hH hC hsc

/-- The teacher's log-sum-exps at the exit, in every lane, from the arrays at the call. -/
theorem ends10 (B : Buf (Elt Ideal) ((spec1 10).arr.view.loc (c.tc : Thread nD τ))) (hB : ((logitsDat a W c).toRRel fgt1 (Rl1 a W c)).ArrAt 10 (cfgL a).N B) (j : Fin 128) :
    B (ix2 r j) = Lse.lse (Spec.logits vv fun v => Spec.teacher H (fun i => W (Proc.devRef .tc main_arg4) (ix2 i v)) (fun i => W (Proc.devRef .tc main_arg5) (ix2 i v))
      (fun i => W (Proc.devRef .tc main_arg6) (ix2 i v))) 32000 := by
  subst hnt hvv
  obtain ⟨M, hM, hB'⟩ := exit10 a W c B hB h63 ⟨(cfgL a).N - 1, by omega⟩ (by show (cfgL a).N - 1 + 1 = _; omega)
  exact (hB' r j).trans ((Holds.lse _ r _ _ _ (reach_holds a W c h63 hv r H C sc hH hC hsc _ M hM h1).1 j).trans (lse_whole _ _ _ hcov))

/-- The student's log-sum-exps at the exit. -/
theorem ends11 (B : Buf (Elt Ideal) ((spec1 11).arr.view.loc (c.tc : Thread nD τ))) (hB : ((logitsDat a W c).toRRel fgt1 (Rl1 a W c)).ArrAt 11 (cfgL a).N B) (j : Fin 128) :
    B (ix2 r j) = Lse.lse (Spec.logits vv fun v => Spec.student C (fun i => W (Proc.devRef .tc main_arg7) (ix2 v i)) sc (W (Proc.devRef .tc main_v28) (ix2 0 v))) 32000 := by
  subst hnt hvv
  obtain ⟨M, hM, hB'⟩ := exit11 a W c B hB h63 ⟨(cfgL a).N - 1, by omega⟩ (by show (cfgL a).N - 1 + 1 = _; omega)
  exact (hB' r j).trans ((Holds.lse _ r _ _ _ (reach_holds a W c h63 hv r H C sc hH hC hsc _ M hM h1).2 j).trans (lse_whole _ _ _ hcov))
end

end Cert.KernelIdeal.Hand

end

end
-- ==== Proof.Results.lean ====
/-
  The kernel's four results at an index, in terms of the plain functions of its arguments.
-/
module

public import proofs.«01_k».proof.Proof.HostOut
public import proofs.«01_k».proof.Proof.Ends

@[expose] public section

set_option maxRecDepth 16384

noncomputable section

namespace Cert.KernelIdeal.Hand

open Idealize.ShloMosaic Idealize.ShloMosaic.TcCoe Idealize.ShloMosaic.Pipeline
open Cert.KernelIdeal Cert.KernelIdeal.Gen

variable (m : (ℓ : Loc nD τ sig) → Buf (Elt Ideal) ℓ) (A : Exit1 m 0)

/-- Result 6 of the kernel: the fp8 codes, each row's quotient by its scale, clipped. -/
theorem out6 (b : Fin 3) (s : Fin 128) (k : Fin 2048) : V9 m (outsA m 0 A.1) 0 main_v40 (ix3 b s k)
    = Spec.code (rowX m 0 ⟨b.val * 128 + s.val, by omega⟩) (gainS m 0) k :=
  (host_v40 (V8 m (outsA m 0 A.1) 0) b s k).trans (congrFun ((V8_of m (outsA m 0 A.1) 0 main_v22_1 (by decide)).trans (V7_v22_1 m 0)) _)

/-- Result 7 of the kernel: the scale of each row. -/
theorem out7 (b : Fin 3) (s : Fin 128) : V9 m (outsA m 0 A.1) 0 main_v43 (ix2 b s)
    = Spec.scale (rowX m 0 ⟨b.val * 128 + s.val, by omega⟩) (gainS m 0) :=
  (host_v43 (V8 m (outsA m 0 A.1) 0) b s).trans (congrFun ((V8_of m (outsA m 0 A.1) 0 main_v22_2 (by decide)).trans (V7_v22_2 m 0)) _)

/-- The second call runs as many points as the table computed from the count of valid columns says. -/
theorem tiles_eq : (cfgL (adm1 m 0)).N = (ntOf (vvWord m 0)).toNat := (N_eq (adm1 m 0)).trans (congrFun (dynb_tbl m 0) 0)

/-- The scalar that the second call reads is the count of valid columns. -/
theorem word_eq : ((adm1 m 0).1 1 : Vec Ideal S1 .i32) idx0 = vvWord m 0 := congrFun ((tbl_eq m (outs0 m) 0 1).trans (V7_arg12 m (outs0 m) 0)) idx0

attribute [local irreducible] adm1

/-- What the second call's arrays hold at its exit is a content its points can leave. -/
theorem held (w : Fin 12) : ((logitsDat (adm1 m 0) (V7 m (outs0 m) 0) 0).toRRel fgt1 (Rl1 (adm1 m 0) (V7 m (outs0 m) 0) 0)).ArrAt w (cfgL (adm1 m 0)).N (A.1 w) := A.2 w

/-- Result 2 of the kernel: each row's log-sum-exp over the admitted columns of the teacher's logits at half, less the constant. -/
theorem out2 (hv : (vvWord m 0).toInt ≤ 32000) (b : Fin 3) (s : Fin 128) : V9 m (outsA m 0 A.1) 0 main_v34 (ix2 b s)
    = Spec.result (vvWord m 0) fun v => Spec.teacher (Spec.hidden (rowH m 0 ⟨b.val * 128 + s.val, by omega⟩) (gainT m 0))
        (fun i => (m (((0 : Dev nD) : Thread nD τ).loc main_arg4) : Vec Ideal S4096x32000 .i8) (ix2 i v))
        (fun i => (m (((0 : Dev nD) : Thread nD τ).loc main_arg5) : Vec Ideal S64x32000 .f32) (ix2 i v))
        (fun i => (m (((0 : Dev nD) : Thread nD τ).loc main_arg6) : Vec Ideal S64x32000 .f32) (ix2 i v)) := by
  refine (host_v34 (V8 m (outsA m 0 A.1) 0) b s).trans ?_
  unfold Spec.result
  refine congrArg (· - _) ?_
  refine (congrFun (V8_out10 m 0 A.1) _).trans ?_
  refine (ends10 (adm1 m 0) (V7 m (outs0 m) 0) 0 _ (tiles_eq m) (ntOf_toNat _).1 (ntOf_toNat _).2 _ (word_eq m) hv (ntOf_covers _ hv) ⟨b.val * 128 + s.val, by omega⟩
    (Spec.hidden (rowH m 0 ⟨b.val * 128 + s.val, by omega⟩) (gainT m 0)) (Spec.code (rowX m 0 ⟨b.val * 128 + s.val, by omega⟩) (gainS m 0))
    (Spec.scale (rowX m 0 ⟨b.val * 128 + s.val, by omega⟩) (gainS m 0)) (fun k => congrFun (V7_v22_0 m 0) _) (fun k => congrFun (V7_v22_1 m 0) _) (congrFun (V7_v22_2 m 0) _)
    _ (held m A 10) 0).trans ?_
  rw [V7_arg4, V7_arg5, V7_arg6]

/-- Result 3 of the kernel: the same of the student's logits. -/
theorem out3 (hv : (vvWord m 0).toInt ≤ 32000) (b : Fin 3) (s : Fin 128) : V9 m (outsA m 0 A.1) 0 main_v39 (ix2 b s)
    = Spec.result (vvWord m 0) fun v => Spec.student (Spec.code (rowX m 0 ⟨b.val * 128 + s.val, by omega⟩) (gainS m 0))
        (fun i => (m (((0 : Dev nD) : Thread nD τ).loc main_arg7) : Vec Ideal S32000x2048 .fp8e4m3) (ix2 v i)) (Spec.scale (rowX m 0 ⟨b.val * 128 + s.val, by omega⟩) (gainS m 0))
        ((m (((0 : Dev nD) : Thread nD τ).loc main_arg8) : Vec Ideal S32000 .f32) (Idealize.ShloMosaic.ix1 v)) := by
  refine (host_v39 (V8 m (outsA m 0 A.1) 0) b s).trans ?_
  unfold Spec.result
  refine congrArg (· - _) ?_
  refine (congrFun (V8_out11 m 0 A.1) _).trans ?_
  refine (ends11 (adm1 m 0) (V7 m (outs0 m) 0) 0 _ (tiles_eq m) (ntOf_toNat _).1 (ntOf_toNat _).2 _ (word_eq m) hv (ntOf_covers _ hv) ⟨b.val * 128 + s.val, by omega⟩
    (Spec.hidden (rowH m 0 ⟨b.val * 128 + s.val, by omega⟩) (gainT m 0)) (Spec.code (rowX m 0 ⟨b.val * 128 + s.val, by omega⟩) (gainS m 0))
    (Spec.scale (rowX m 0 ⟨b.val * 128 + s.val, by omega⟩) (gainS m 0)) (fun k => congrFun (V7_v22_0 m 0) _) (fun k => congrFun (V7_v22_1 m 0) _) (congrFun (V7_v22_2 m 0) _)
    _ (held m A 11) 0).trans ?_
  rw [V7_arg7]
  exact congrArg (fun f : Fin 32000 → EReal => Lse.lse (Spec.logits (vvWord m 0) fun v => Spec.student (Spec.code (rowX m 0 ⟨b.val * 128 + s.val, by omega⟩) (gainS m 0))
    (fun i => (m (((0 : Dev nD) : Thread nD τ).loc main_arg7) : Vec Ideal S32000x2048 .fp8e4m3) (ix2 v i)) (Spec.scale (rowX m 0 ⟨b.val * 128 + s.val, by omega⟩) (gainS m 0)) (f v)) 32000)
    (funext fun v => V7_v28 m 0 (outs0 m) v)

end Cert.KernelIdeal.Hand

end

end
-- ==== Proof.RefPay.lean ====
/-
  The reference's stored values, the logits and the codes, read at an index, in terms of the plain functions.
-/
module

public import proofs.«01_k».proof.Proof.Gen.ReferenceIdeal.Frame
public import proofs.«01_k».proof.Proof.Lanes
public import proofs.«01_k».proof.Proof.Spec

@[expose] public section

set_option maxRecDepth 16384

noncomputable section

namespace Cert.ReferenceIdeal.Hand

open Idealize.ShloMosaic Cert.ReferenceIdeal Cert.ReferenceIdeal.Gen

/-! ## The reference's values in terms of the plain functions -/

theorem pay5_apply (x g) (r : Fin 384) (k : Fin 2048) :
    k0_pay5 (k0_pay2 (F := Ideal) x) (k0_pay3 x) (k0_pay4 (F := Ideal)) g (ix2 r k) = Spec.normed (fun k => x (ix2 r k)) (fun k => g (ix2 0 k)) k := by
  pointwise [k0_pay2, k0_pay3, k0_pay4, k0_pay5]
  rfl

/-- The reference's row scale. -/
theorem pay6_apply (x g) (r : Fin 384) :
    k0_pay6 (k0_pay2 (F := Ideal) x) (k0_pay3 x) (k0_pay4 (F := Ideal)) g (ix2 r 0) = Spec.scale (fun k => x (ix2 r k)) (fun k => g (ix2 0 k)) := by
  have h := pay5_apply x g r
  revert h
  generalize k0_pay2 (F := Ideal) x = a; generalize k0_pay3 (F := Ideal) x = b; generalize k0_pay4 (F := Ideal) = c
  intro h
  pointwise [k0_pay6]
  simp only [h]
  rfl

/-- The reference's code. -/
theorem pay7_apply (x g) (r : Fin 384) (k : Fin 2048) :
    k0_pay7 (k0_pay2 (F := Ideal) x) (k0_pay3 x) (k0_pay4 (F := Ideal)) g (ix2 r k) = Spec.code (fun k => x (ix2 r k)) (fun k => g (ix2 0 k)) k := by
  have h := pay5_apply x g r k
  have h' := pay6_apply x g r
  revert h h'
  generalize k0_pay2 (F := Ideal) x = a; generalize k0_pay3 (F := Ideal) x = b; generalize k0_pay4 (F := Ideal) = c
  intro h h'
  pointwise [k0_pay7]
  simp only [h, h']
  rfl

/-- The reference's student logit. -/
theorem pay8_apply (x g w s) (r : Fin 384) (k : Fin 32000) :
    k0_pay8 (k0_pay2 (F := Ideal) x) (k0_pay3 x) (k0_pay4 (F := Ideal)) g w s (ix2 r k)
      = Spec.student (Spec.code (fun k => x (ix2 r k)) (fun k => g (ix2 0 k))) (fun i => w (ix2 k i))
          (Spec.scale (fun k => x (ix2 r k)) (fun k => g (ix2 0 k))) (s (ix2 0 k)) := by
  have h := pay7_apply x g r
  have h' := pay6_apply x g r
  revert h h'
  generalize k0_pay2 (F := Ideal) x = a; generalize k0_pay3 (F := Ideal) x = b; generalize k0_pay4 (F := Ideal) = c
  intro h h'
  pointwise [k0_pay8]
  simp only [h, h']
  rfl

/-- The reference's teacher logit: two sums over 4096 columns are the one over 8192. -/
theorem pay1_apply (sc ze pk xe xo) (h : Fin 384 → Fin 8192 → EReal) (r : Fin 384) (k : Fin 32000)
    (he : ∀ i : Fin 4096, xe (ix2 r i) = h r ⟨2 * i.val, by omega⟩) (ho : ∀ i : Fin 4096, xo (ix2 r i) = h r ⟨2 * i.val + 1, by omega⟩) :
    k0_pay1 (F := Ideal) sc ze pk xe xo (ix2 r k)
      = Spec.teacher (h r) (fun i => pk (ix2 i k)) (fun j => sc (ix2 j k)) (fun j => ze (ix2 j k)) := by
  pointwise [k0_pay1]
  unfold Spec.teacher
  refine congrArg₂ _ (Finset.sum_congr rfl fun i _ => ?_) (Finset.sum_congr rfl fun i _ => ?_)
  · rw [he]
    have e : (IntOp.andi (BitVec.setWidth 32 (pk (ix2 i k))) 15#32).toInt = (pk (ix2 i k) &&& 15#8).toInt := Spec.low_word _
    show h r _ * (((((IntOp.andi (BitVec.setWidth 32 (pk (ix2 i k))) 15#32).toInt : ℝ) : EReal) - _) * _) = _
    rw [e]; rfl
  · rw [ho]
    have e : (IntOp.shrsi ArithUnit.vector (BitVec.setWidth 32 (pk (ix2 i k))) 4#32).toInt = (pk (ix2 i k) >>> 4).toInt := Spec.high_word _
    show h r _ * (((((IntOp.shrsi ArithUnit.vector (BitVec.setWidth 32 (pk (ix2 i k))) 4#32).toInt : ℝ) : EReal) - _) * _) = _
    rw [e]; rfl

end Cert.ReferenceIdeal.Hand

end

end
-- ==== Proof.RefHost.lean ====
/-
  What the reference's host code hands to its call: the normalised teacher rows, split into even and odd entries, and the reshaped arguments.
-/
module

public import proofs.«01_k».proof.Proof.Gen.ReferenceIdeal.Frame
public import proofs.«01_k».proof.Proof.Spec
public import Idealize.ShloMosaic.Lib.Pointwise
public import Idealize.ShloMosaic.Lib.StableHlo.ReadAt

@[expose] public section

set_option maxRecDepth 16384

noncomputable section

namespace Cert.ReferenceIdeal.Hand

open Idealize.ShloMosaic Idealize.ShloMosaic.TcCoe Cert.ReferenceIdeal Cert.ReferenceIdeal.Gen

variable (W : Valuation τ sig (Elt Ideal))

/-- The host reshapes the student's input to rows. -/
theorem host_v16 (r : Fin 384) (k : Fin 2048) : StableHlo.after hostOps0 W (Proc.devRef .tc main_v16) (ix2 r k)
    = shapeCast S384x2048 (W (Proc.devRef .tc main_arg0) : Vec Ideal S3x128x2048 .bf16) shapeCasts_S3x128x2048_S384x2048 (ix2 r k) := by
  after_reads_simp
  rfl

/-- The weight scales as one row. -/
theorem host_v19 (k : Fin 32000) : StableHlo.after hostOps0 W (Proc.devRef .tc main_v19) (ix2 0 k) = (W (Proc.devRef .tc main_arg8) : Vec Ideal S32000 .f32) (ix1 k) := by
  after_reads_at

/-- The student's gain as one row. -/
theorem host_v20 (k : Fin 2048) : StableHlo.after hostOps0 W (Proc.devRef .tc main_v20) (ix2 0 k) = (W (Proc.devRef .tc main_arg2) : Vec Ideal S2048 .f32) (ix1 k) := by
  after_reads_at

/-- The count of valid columns as a 1 by 1 array. -/
theorem host_v21 : StableHlo.after hostOps0 W (Proc.devRef .tc main_v21) (ix2 0 0) = (W (Proc.devRef .tc main_arg12) : Vec Ideal S1 .i32) (ix1 0) := by
  after_reads_at

/-- Argument 4 is unchanged. -/
theorem host_arg4 : StableHlo.after hostOps0 W (Proc.devRef .tc main_arg4) = W (Proc.devRef .tc main_arg4) := by
  after_reads_simp

/-- Argument 5 is unchanged. -/
theorem host_arg5 : StableHlo.after hostOps0 W (Proc.devRef .tc main_arg5) = W (Proc.devRef .tc main_arg5) := by
  after_reads_simp

/-- Argument 6 is unchanged. -/
theorem host_arg6 : StableHlo.after hostOps0 W (Proc.devRef .tc main_arg6) = W (Proc.devRef .tc main_arg6) := by
  after_reads_simp

/-- Argument 7 is unchanged. -/
theorem host_arg7 : StableHlo.after hostOps0 W (Proc.devRef .tc main_arg7) = W (Proc.devRef .tc main_arg7) := by
  after_reads_simp

/-- The host's normalisation of the teacher's rows. -/
def normT (x : Vec Ideal S384x8192 .bf16) (g : Vec Ideal S8192 .f32) : Vec Ideal S384x8192 .bf16 :=
  truncf .bf16 (mulf (Host.divf (extf .f32 x bitsLt_bf16_f32)
    (broadcastInDim S384x8192 ![0, 1] bcast_S384x1_S384x8192_0_1 (Host.sqrt (addf (Host.divf (broadcastInDim S384x1 ![0] bcast_S384_S384x1_0
      (Host.reduceAdd (mulf (extf .f32 x bitsLt_bf16_f32) (extf .f32 x bitsLt_bf16_f32)) (constant (F := Ideal) S_ .f32 0x00000000#32) reducesTo_S384x8192_S384_d1 h_S_))
      (broadcastInDim S384x1 ![] bcast_S_S384x1 (constant (F := Ideal) S_ .f32 0x46000000#32))) (broadcastInDim S384x1 ![] bcast_S_S384x1 (constant (F := Ideal) S_ .f32 0x358637BD#32))))))
    (broadcastInDim S384x8192 ![0, 1] bcast_S1x8192_S384x8192_0_1 (broadcastInDim S1x8192 ![1] bcast_S8192_S1x8192_1 g))) bitsLt_bf16_f32

/-- The teacher's normalised rows. -/
theorem host_v15 : StableHlo.after hostOps0 W (Proc.devRef .tc main_v15)
    = normT (shapeCast S384x8192 (W (Proc.devRef .tc main_arg1) : Vec Ideal S3x128x8192 .bf16) shapeCasts_S3x128x8192_S384x8192) (W (Proc.devRef .tc main_arg3)) := by
  after_reads_simp
  rfl

/-- Their even columns. -/
theorem host_v17 : StableHlo.after hostOps0 W (Proc.devRef .tc main_v17)
    = Host.slice S384x4096 ![0, 0] ![1, 2] (normT (shapeCast S384x8192 (W (Proc.devRef .tc main_arg1) : Vec Ideal S3x128x8192 .bf16) shapeCasts_S3x128x8192_S384x8192) (W (Proc.devRef .tc main_arg3))) slicesBy_S384x8192_S384x4096_0s1_0s2 := by
  after_reads_simp
  rfl

/-- Their odd columns. -/
theorem host_v18 : StableHlo.after hostOps0 W (Proc.devRef .tc main_v18)
    = Host.slice S384x4096 ![0, 1] ![1, 2] (normT (shapeCast S384x8192 (W (Proc.devRef .tc main_arg1) : Vec Ideal S3x128x8192 .bf16) shapeCasts_S3x128x8192_S384x8192) (W (Proc.devRef .tc main_arg3))) slicesBy_S384x8192_S384x4096_0s1_1s2 := by
  after_reads_simp
  rfl

/-- The strided slice of the even columns, at an index. -/
theorem even_apply (x : Vec Ideal S384x8192 .bf16) (r : Fin 384) (i : Fin 4096) :
    Host.slice S384x4096 ![0, 0] ![1, 2] x slicesBy_S384x8192_S384x4096_0s1_0s2 (ix2 r i) = x (ix2 r ⟨2 * i.val, by omega⟩) := by
  pointwise

/-- The strided slice of the odd columns, at an index. -/
theorem odd_apply (x : Vec Ideal S384x8192 .bf16) (r : Fin 384) (i : Fin 4096) :
    Host.slice S384x4096 ![0, 1] ![1, 2] x slicesBy_S384x8192_S384x4096_0s1_1s2 (ix2 r i) = x (ix2 r ⟨2 * i.val + 1, by omega⟩) := by
  pointwise
  exact congrArg (fun j => x (ix2 r j)) (Fin.ext (Nat.add_comm _ _))

end Cert.ReferenceIdeal.Hand

end

end
-- ==== Proof.RefNorm.lean ====
/-
  The host's normalisation of a teacher row, read at an index.
-/
module

public import proofs.«01_k».proof.Proof.Spec
public import proofs.«01_k».proof.Proof.RefHost
public import Idealize.ShloMosaic.Lib.Pointwise

@[expose] public section

set_option maxRecDepth 16384

noncomputable section

namespace Cert.ReferenceIdeal.Hand

open Idealize.ShloMosaic Cert.ReferenceIdeal Cert.ReferenceIdeal.Gen

/-- The teacher's row normalisation on the host is the row's quotient by its root mean square, times the gain. -/
theorem normT_apply (x : Vec Ideal S384x8192 .bf16) (g : Vec Ideal S8192 .f32) (r : Fin 384) (k : Fin 8192) :
    normT x g (ix2 r k) = Spec.hidden (fun k => x (ix2 r k)) (fun k => g (ix1 k)) k := by
  unfold normT Spec.hidden
  pointwise
  done

end Cert.ReferenceIdeal.Hand

end

end
-- ==== Proof.RefArrays.lean ====
/-
  What the reference's four results hold at an index, in terms of the plain functions of its arguments.
-/
module

public import proofs.«01_k».proof.Proof.RefPay
public import proofs.«01_k».proof.Proof.RefRow
public import proofs.«01_k».proof.Proof.RefNorm
public import proofs.«01_k».proof.Proof.Blocks
public import Idealize.ShloMosaic.Lib.Pipeline.Value
public import Idealize.ShloMosaic.Lib.Pipeline.ValueKit.Geometry

@[expose] public section

set_option maxRecDepth 16384

noncomputable section

namespace Cert.ReferenceIdeal.Hand

open Idealize.ShloMosaic Idealize.ShloMosaic.TcCoe Idealize.ShloMosaic.Pipeline
open Cert.ReferenceIdeal Cert.ReferenceIdeal.Gen

/-- A row of logits, masked and divided, is the plain row of logits at half. -/
theorem masked_logits (v : Vec Ideal S384x32000 .f32) (x9 : Vec Ideal S1x1 .i32) (L : Fin 32000 → EReal) (r : Fin 384) (hv : ∀ k, v (ix2 r k) = L k) (k : Fin 32000) :
    masked v (k0_pay9 (F := Ideal) x9) (k0_pay10 (F := Ideal)) (ix2 r k) = Spec.logits (x9 (ix2 0 0)) L k.val := by
  have hb : Ideal.ofBits FTy.f32 0xFF800000#32 = (⊥ : EReal) := Cert.KernelIdeal.Hand.ninf_val
  rw [masked_apply, pay9_apply, select_slt k.val (lt_trans k.isLt (by decide)), hv, Spec.half, hb]
  unfold Spec.logits
  by_cases h : (k.val : ℤ) < (x9 (ix2 0 0)).toInt
  · rw [if_pos h, dif_pos ⟨k.isLt, h⟩]
  · rw [if_neg h, dif_neg fun e => h e.2]

section out
variable (x0 : Vec Ideal S384x2048 .bf16) (x1 x2 : Vec Ideal S384x4096 .bf16) (x3 : Vec Ideal S4096x32000 .i8) (x4 x5 : Vec Ideal S64x32000 .f32)
  (x6 : Vec Ideal S32000x2048 .fp8e4m3) (x7 : Vec Ideal S1x32000 .f32) (x8 : Vec Ideal S1x2048 .f32) (x9 : Vec Ideal S1x1 .i32)

/-- The block of result 2, read at an index, from the blocks the call reads. -/
theorem out10_apply (h : Fin 384 → Fin 8192 → EReal) (he : ∀ r i, x1 (ix2 r i) = h r ⟨2 * i.val, by omega⟩) (ho : ∀ r i, x2 (ix2 r i) = h r ⟨2 * i.val + 1, by omega⟩)
    (b : Fin 3) (s : Fin 128) : out0_10 x0 x1 x2 x3 x4 x5 x6 x7 x8 x9 (ix2 b s)
      = Spec.result (x9 (ix2 0 0)) fun v => Spec.teacher (h ⟨b.val * 128 + s.val, by omega⟩) (fun i => x3 (ix2 i v)) (fun i => x4 (ix2 i v)) (fun i => x5 (ix2 i v)) := by
  have e1 : View.ld x1 r0_2 = x1 := View.ld_unit_zero (by funext a; match a with | 0 => rfl | 1 => rfl) _ _
  have e2 : View.ld x2 r0_2 = x2 := View.ld_unit_zero (by funext a; match a with | 0 => rfl | 1 => rfl) _ _
  have e3 : View.ld x3 r0_1 = x3 := View.ld_unit_zero (by funext a; match a with | 0 => rfl | 1 => rfl) _ _
  have e4 : View.ld x4 r0_0 = x4 := View.ld_unit_zero (by funext a; match a with | 0 => rfl | 1 => rfl) _ _
  have e5 : View.ld x5 r0_0 = x5 := View.ld_unit_zero (by funext a; match a with | 0 => rfl | 1 => rfl) _ _
  have e9 : View.ld x9 r0_7 = x9 := View.ld_unit_zero (by funext a; match a with | 0 => rfl | 1 => rfl) _ _
  unfold out0_10 k0_pay18
  rw [View.canon_unit_zero (by funext a; match a with | 0 => rfl | 1 => rfl), e1, e2, e3, e4, e5, e9, pay11_eq]
  exact rowStat_apply _ b s _ fun k => masked_logits _ x9 _ _ (fun v => pay1_apply _ _ _ _ _ h _ v (fun i => he _ i) (fun i => ho _ i)) k

/-- The block of result 3, read at an index. -/
theorem out11_apply (b : Fin 3) (s : Fin 128) : out0_11 x0 x1 x2 x3 x4 x5 x6 x7 x8 x9 (ix2 b s)
      = Spec.result (x9 (ix2 0 0)) fun v => Spec.student (Spec.code (fun k => x0 (ix2 ⟨b.val * 128 + s.val, by omega⟩ k)) (fun k => x8 (ix2 0 k))) (fun i => x6 (ix2 v i))
          (Spec.scale (fun k => x0 (ix2 ⟨b.val * 128 + s.val, by omega⟩ k)) (fun k => x8 (ix2 0 k))) (x7 (ix2 0 v)) := by
  have e0 : View.ld x0 r0_3 = x0 := View.ld_unit_zero (by funext a; match a with | 0 => rfl | 1 => rfl) _ _
  have e6 : View.ld x6 r0_5 = x6 := View.ld_unit_zero (by funext a; match a with | 0 => rfl | 1 => rfl) _ _
  have e7 : View.ld x7 r0_6 = x7 := View.ld_unit_zero (by funext a; match a with | 0 => rfl | 1 => rfl) _ _
  have e8 : View.ld x8 r0_4 = x8 := View.ld_unit_zero (by funext a; match a with | 0 => rfl | 1 => rfl) _ _
  have e9 : View.ld x9 r0_7 = x9 := View.ld_unit_zero (by funext a; match a with | 0 => rfl | 1 => rfl) _ _
  unfold out0_11 k0_pay15 k0_pay16 k0_pay17 k0_pay18
  rw [View.canon_unit_zero (by funext a; match a with | 0 => rfl | 1 => rfl), e0, e6, e7, e8, e9, pay12_eq]
  exact rowStat_apply _ b s _ fun k => masked_logits _ x9 _ _ (fun v => pay8_apply _ _ _ _ _ v) k

/-- The block of the codes, read at an index. -/
theorem out12_apply (b : Fin 3) (s : Fin 128) (k : Fin 2048) : out0_12 x0 x1 x2 x3 x4 x5 x6 x7 x8 x9 (ix3 b s k)
      = Spec.code (fun k => x0 (ix2 ⟨b.val * 128 + s.val, by omega⟩ k)) (fun k => x8 (ix2 0 k)) k := by
  have e0 : View.ld x0 r0_3 = x0 := View.ld_unit_zero (by funext a; match a with | 0 => rfl | 1 => rfl) _ _
  have e8 : View.ld x8 r0_4 = x8 := View.ld_unit_zero (by funext a; match a with | 0 => rfl | 1 => rfl) _ _
  unfold out0_12 k0_pay15 k0_pay16 k0_pay17
  rw [View.canon_unit_zero (by funext a; match a with | 0 => rfl | 1 => rfl | 2 => rfl), e0, e8]
  exact (pay13_apply _ b s k).trans (pay7_apply _ _ _ k)

/-- The block of the scales, read at an index. -/
theorem out13_apply (b : Fin 3) (s : Fin 128) : out0_13 x0 x1 x2 x3 x4 x5 x6 x7 x8 x9 (ix2 b s)
      = Spec.scale (fun k => x0 (ix2 ⟨b.val * 128 + s.val, by omega⟩ k)) (fun k => x8 (ix2 0 k)) := by
  have e0 : View.ld x0 r0_3 = x0 := View.ld_unit_zero (by funext a; match a with | 0 => rfl | 1 => rfl) _ _
  have e8 : View.ld x8 r0_4 = x8 := View.ld_unit_zero (by funext a; match a with | 0 => rfl | 1 => rfl) _ _
  unfold out0_13 k0_pay15 k0_pay16 k0_pay17
  rw [View.canon_unit_zero (by funext a; match a with | 0 => rfl | 1 => rfl), e0, e8]
  exact (pay14_apply _ b s).trans (pay6_apply _ _ _)

end out

variable (m : (ℓ : Loc nD τ sig) → Buf (Elt Ideal) ℓ) (c : Dev nD)

/-- The student's rows, the teacher's rows and the two gains, as the plain functions take them. -/
def rowX (r : Fin 384) (k : Fin 2048) : EReal :=
  shapeCast S384x2048 (m ((c : Thread nD τ).loc main_arg0) : Vec Ideal S3x128x2048 .bf16) shapeCasts_S3x128x2048_S384x2048 (ix2 r k)
/-- A row of the teacher's input. -/
def rowH (r : Fin 384) (k : Fin 8192) : EReal :=
  shapeCast S384x8192 (m ((c : Thread nD τ).loc main_arg1) : Vec Ideal S3x128x8192 .bf16) shapeCasts_S3x128x8192_S384x8192 (ix2 r k)
/-- The student's gain. -/
def gainS (k : Fin 2048) : EReal := (m ((c : Thread nD τ).loc main_arg2) : Vec Ideal S2048 .f32) (ix1 k)
/-- The teacher's gain. -/
def gainT (k : Fin 8192) : EReal := (m ((c : Thread nD τ).loc main_arg3) : Vec Ideal S8192 .f32) (ix1 k)

/-- Window 0 of the call stands at the origin. -/
theorem at0 : ∀ t : Fin cfg0.N, win0_0.index t 0 = 0 ∧ win0_0.index t 1 = 0 := by decide +kernel
/-- Window 1 of the call stands at the origin. -/
theorem at1 : ∀ t : Fin cfg0.N, win0_1.index t 0 = 0 ∧ win0_1.index t 1 = 0 := by decide +kernel
/-- Window 2 of the call stands at the origin. -/
theorem at2 : ∀ t : Fin cfg0.N, win0_2.index t 0 = 0 ∧ win0_2.index t 1 = 0 := by decide +kernel
/-- Window 3 of the call stands at the origin. -/
theorem at3 : ∀ t : Fin cfg0.N, win0_3.index t 0 = 0 ∧ win0_3.index t 1 = 0 := by decide +kernel
/-- Window 4 of the call stands at the origin. -/
theorem at4 : ∀ t : Fin cfg0.N, win0_4.index t 0 = 0 ∧ win0_4.index t 1 = 0 := by decide +kernel
/-- Window 5 of the call stands at the origin. -/
theorem at5 : ∀ t : Fin cfg0.N, win0_5.index t 0 = 0 ∧ win0_5.index t 1 = 0 := by decide +kernel
/-- Window 6 of the call stands at the origin. -/
theorem at6 : ∀ t : Fin cfg0.N, win0_6.index t 0 = 0 ∧ win0_6.index t 1 = 0 := by decide +kernel
/-- Window 7 of the call stands at the origin. -/
theorem at7 : ∀ t : Fin cfg0.N, win0_7.index t 0 = 0 ∧ win0_7.index t 1 = 0 := by decide +kernel
/-- Window 8 of the call stands at the origin. -/
theorem at8 : ∀ t : Fin cfg0.N, win0_8.index t 0 = 0 ∧ win0_8.index t 1 = 0 := by decide +kernel
/-- Window 9 of the call stands at the origin. -/
theorem at9 : ∀ t : Fin cfg0.N, win0_9.index t 0 = 0 ∧ win0_9.index t 1 = 0 := by decide +kernel

/-- The call reads the student's rows, -/
theorem blk0_apply (t : Fin cfg0.N) (r : Fin 384) (k : Fin 2048) : iblk m c 0 t (ix2 r k) = rowX m c r k := by
  refine (congrArg (V m c main_v16) (Cert.KernelIdeal.Hand.idx_eq (n0 := 384) (n1 := 2048) _ r k ?_ ?_)).trans ?_
  · blk_simp; show _ = ((r : Fin 384)).val; rw [(at0 t).1]; omega
  · blk_simp; show _ = ((k : Fin 2048)).val; rw [(at0 t).2]; omega
  · exact host_v16 _ r k

/-- the even columns of the teacher's normalised rows, -/
theorem blk1_apply (t : Fin cfg0.N) (r : Fin 384) (k : Fin 4096) : iblk m c 1 t (ix2 r k) = Spec.hidden (rowH m c r) (gainT m c) ⟨2 * k.val, by omega⟩ := by
  refine (congrArg (V m c main_v17) (Cert.KernelIdeal.Hand.idx_eq (n0 := 384) (n1 := 4096) _ r k ?_ ?_)).trans ?_
  · blk_simp; show _ = ((r : Fin 384)).val; rw [(at1 t).1]; omega
  · blk_simp; show _ = ((k : Fin 4096)).val; rw [(at1 t).2]; omega
  · exact (congrFun (host_v17 _) _).trans ((even_apply _ r k).trans (normT_apply _ _ r _))

/-- the odd columns, -/
theorem blk2_apply (t : Fin cfg0.N) (r : Fin 384) (k : Fin 4096) : iblk m c 2 t (ix2 r k) = Spec.hidden (rowH m c r) (gainT m c) ⟨2 * k.val + 1, by omega⟩ := by
  refine (congrArg (V m c main_v18) (Cert.KernelIdeal.Hand.idx_eq (n0 := 384) (n1 := 4096) _ r k ?_ ?_)).trans ?_
  · blk_simp; show _ = ((r : Fin 384)).val; rw [(at2 t).1]; omega
  · blk_simp; show _ = ((k : Fin 4096)).val; rw [(at2 t).2]; omega
  · exact (congrFun (host_v18 _) _).trans ((odd_apply _ r k).trans (normT_apply _ _ r _))

/-- the packed weights, -/
theorem blk3_apply (t : Fin cfg0.N) (r : Fin 4096) (k : Fin 32000) : iblk m c 3 t (ix2 r k) = (m ((c : Thread nD τ).loc main_arg4) : Vec Ideal S4096x32000 .i8) (ix2 r k) := by
  refine (congrArg (V m c main_arg4) (Cert.KernelIdeal.Hand.idx_eq (n0 := 4096) (n1 := 32000) _ r k ?_ ?_)).trans ?_
  · blk_simp; show _ = ((r : Fin 4096)).val; rw [(at3 t).1]; omega
  · blk_simp; show _ = ((k : Fin 32000)).val; rw [(at3 t).2]; omega
  · exact congrFun (host_arg4 _) _

/-- their scales, -/
theorem blk4_apply (t : Fin cfg0.N) (r : Fin 64) (k : Fin 32000) : iblk m c 4 t (ix2 r k) = (m ((c : Thread nD τ).loc main_arg5) : Vec Ideal S64x32000 .f32) (ix2 r k) := by
  refine (congrArg (V m c main_arg5) (Cert.KernelIdeal.Hand.idx_eq (n0 := 64) (n1 := 32000) _ r k ?_ ?_)).trans ?_
  · blk_simp; show _ = ((r : Fin 64)).val; rw [(at4 t).1]; omega
  · blk_simp; show _ = ((k : Fin 32000)).val; rw [(at4 t).2]; omega
  · exact congrFun (host_arg5 _) _

/-- their zeros, -/
theorem blk5_apply (t : Fin cfg0.N) (r : Fin 64) (k : Fin 32000) : iblk m c 5 t (ix2 r k) = (m ((c : Thread nD τ).loc main_arg6) : Vec Ideal S64x32000 .f32) (ix2 r k) := by
  refine (congrArg (V m c main_arg6) (Cert.KernelIdeal.Hand.idx_eq (n0 := 64) (n1 := 32000) _ r k ?_ ?_)).trans ?_
  · blk_simp; show _ = ((r : Fin 64)).val; rw [(at5 t).1]; omega
  · blk_simp; show _ = ((k : Fin 32000)).val; rw [(at5 t).2]; omega
  · exact congrFun (host_arg6 _) _

/-- the student's weights, -/
theorem blk6_apply (t : Fin cfg0.N) (r : Fin 32000) (k : Fin 2048) : iblk m c 6 t (ix2 r k) = (m ((c : Thread nD τ).loc main_arg7) : Vec Ideal S32000x2048 .fp8e4m3) (ix2 r k) := by
  refine (congrArg (V m c main_arg7) (Cert.KernelIdeal.Hand.idx_eq (n0 := 32000) (n1 := 2048) _ r k ?_ ?_)).trans ?_
  · blk_simp; show _ = ((r : Fin 32000)).val; rw [(at6 t).1]; omega
  · blk_simp; show _ = ((k : Fin 2048)).val; rw [(at6 t).2]; omega
  · exact congrFun (host_arg7 _) _

/-- their scales, -/
theorem blk7_apply (t : Fin cfg0.N) (k : Fin 32000) : iblk m c 7 t (ix2 0 k) = (m ((c : Thread nD τ).loc main_arg8) : Vec Ideal S32000 .f32) (ix1 k) := by
  refine (congrArg (V m c main_v19) (Cert.KernelIdeal.Hand.idx_eq (n0 := 1) (n1 := 32000) _ 0 k ?_ ?_)).trans ?_
  · blk_simp; show _ = ((0 : Fin 1)).val; rw [(at7 t).1]; omega
  · blk_simp; show _ = ((k : Fin 32000)).val; rw [(at7 t).2]; omega
  · exact host_v19 _ k

/-- the student's gain, -/
theorem blk8_apply (t : Fin cfg0.N) (k : Fin 2048) : iblk m c 8 t (ix2 0 k) = gainS m c k := by
  refine (congrArg (V m c main_v20) (Cert.KernelIdeal.Hand.idx_eq (n0 := 1) (n1 := 2048) _ 0 k ?_ ?_)).trans ?_
  · blk_simp; show _ = ((0 : Fin 1)).val; rw [(at8 t).1]; omega
  · blk_simp; show _ = ((k : Fin 2048)).val; rw [(at8 t).2]; omega
  · exact host_v20 _ k

/-- and the count of valid columns. -/
theorem blk9_apply (t : Fin cfg0.N)  : iblk m c 9 t (ix2 0 0) = (m ((c : Thread nD τ).loc main_arg12) : Vec Ideal S1 .i32) (ix1 0) := by
  refine (congrArg (V m c main_v21) (Cert.KernelIdeal.Hand.idx_eq (n0 := 1) (n1 := 1) _ 0 0 ?_ ?_)).trans ?_
  · blk_simp; show _ = ((0 : Fin 1)).val; rw [(at9 t).1]; omega
  · blk_simp; show _ = ((0 : Fin 1)).val; rw [(at9 t).2]; omega
  · exact host_v21 _

/-- The point at which every result is written. -/
abbrev t0 : Fin cfg0.N := ⟨0, by decide⟩

/-- Result 2 of the reference, in the arguments. -/
theorem val10 (b : Fin 3) (s : Fin 128) : (dats m 0 c).arrAt 10 cfg0.N (ix2 b s)
    = Spec.result ((m ((c : Thread nD τ).loc main_arg12) : Vec Ideal S1 .i32) (ix1 0)) fun v => Spec.teacher (Spec.hidden (rowH m c ⟨b.val * 128 + s.val, by omega⟩) (gainT m c))
        (fun i => (m ((c : Thread nD τ).loc main_arg4) : Vec Ideal S4096x32000 .i8) (ix2 i v)) (fun i => (m ((c : Thread nD τ).loc main_arg5) : Vec Ideal S64x32000 .f32) (ix2 i v))
        (fun i => (m ((c : Thread nD τ).loc main_arg6) : Vec Ideal S64x32000 .f32) (ix2 i v)) := by
  refine ((dats m 0 c).arrAt_emb_eq_after_last 10 t0 (by decide +kernel) (ix2 b s)).trans ?_
  refine (congrFun (after0_10 m c t0) _).trans ?_
  refine (out10_apply _ _ _ _ _ _ _ _ _ _ (fun r => Spec.hidden (rowH m c r) (gainT m c)) (fun r i => blk1_apply m c t0 r i) (fun r i => blk2_apply m c t0 r i) b s).trans ?_
  refine congrArg₂ Spec.result (blk9_apply m c t0) (funext fun v => ?_)
  rw [funext fun i => blk3_apply m c t0 i v, funext fun i => blk4_apply m c t0 i v, funext fun i => blk5_apply m c t0 i v]

/-- Result 3 of the reference, in the arguments. -/
theorem val11 (b : Fin 3) (s : Fin 128) : (dats m 0 c).arrAt 11 cfg0.N (ix2 b s)
    = Spec.result ((m ((c : Thread nD τ).loc main_arg12) : Vec Ideal S1 .i32) (ix1 0)) fun v => Spec.student (Spec.code (rowX m c ⟨b.val * 128 + s.val, by omega⟩) (gainS m c))
        (fun i => (m ((c : Thread nD τ).loc main_arg7) : Vec Ideal S32000x2048 .fp8e4m3) (ix2 v i)) (Spec.scale (rowX m c ⟨b.val * 128 + s.val, by omega⟩) (gainS m c))
        ((m ((c : Thread nD τ).loc main_arg8) : Vec Ideal S32000 .f32) (ix1 v)) := by
  refine ((dats m 0 c).arrAt_emb_eq_after_last 11 t0 (by decide +kernel) (ix2 b s)).trans ?_
  refine (congrFun (after0_11 m c t0) _).trans ?_
  refine (out11_apply _ _ _ _ _ _ _ _ _ _ b s).trans ?_
  refine congrArg₂ Spec.result (blk9_apply m c t0) (funext fun v => ?_)
  rw [funext fun k => blk0_apply m c t0 _ k, funext fun k => blk8_apply m c t0 k, funext fun i => blk6_apply m c t0 v i, blk7_apply]

/-- Result 6 of the reference, in the arguments. -/
theorem val12 (b : Fin 3) (s : Fin 128) (k : Fin 2048) : (dats m 0 c).arrAt 12 cfg0.N (ix3 b s k)
    = Spec.code (rowX m c ⟨b.val * 128 + s.val, by omega⟩) (gainS m c) k := by
  refine ((dats m 0 c).arrAt_emb_eq_after_last 12 t0 (by decide +kernel) (ix3 b s k)).trans ?_
  refine (congrFun (after0_12 m c t0) _).trans ?_
  refine (out12_apply _ _ _ _ _ _ _ _ _ _ b s k).trans ?_
  rw [funext fun k => blk0_apply m c t0 _ k, funext fun k => blk8_apply m c t0 k]

/-- Result 7 of the reference, in the arguments. -/
theorem val13 (b : Fin 3) (s : Fin 128) : (dats m 0 c).arrAt 13 cfg0.N (ix2 b s)
    = Spec.scale (rowX m c ⟨b.val * 128 + s.val, by omega⟩) (gainS m c) := by
  refine ((dats m 0 c).arrAt_emb_eq_after_last 13 t0 (by decide +kernel) (ix2 b s)).trans ?_
  refine (congrFun (after0_13 m c t0) _).trans ?_
  refine (out13_apply _ _ _ _ _ _ _ _ _ _ b s).trans ?_
  rw [funext fun k => blk0_apply m c t0 _ k, funext fun k => blk8_apply m c t0 k]

end Cert.ReferenceIdeal.Hand

end

end
-- ==== Proof.ReferenceRun.lean ====
/-
  The run of the reference with each result named: the output arrays of its one region, block by block.
-/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S3x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S3x128.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S3x128x2048.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the body's result for that window (`Gen.out0_13`: its stores
    as pieces over the input windows' blocks), read through the window's block. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t)) := by
  show (cfg0.win 13).cut (grid0.coords t) ((dats m 0 c).after 13 t) = _
  rw [after0_13]

/-- The index map sends distinct grid points to distinct block indices (decided over the 1 point). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S3x128.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v22_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v22_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v22_2) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v22_3) = (dats m 0 c).arrAt 13 cfg0.N :=
  (h c).1 13

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 3 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 3).trans (((dats m 0 c).arrAt_in 3 rfl _).trans ((A_eq m c 3).trans (V_main_arg4 m c)))

/-- After the frame run, argument `main_arg5` is as launched: input window 4 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 4).trans (((dats m 0 c).arrAt_in 4 rfl _).trans ((A_eq m c 4).trans (V_main_arg5 m c)))

/-- After the frame run, argument `main_arg6` is as launched: input window 5 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 5).trans (((dats m 0 c).arrAt_in 5 rfl _).trans ((A_eq m c 5).trans (V_main_arg6 m c)))

/-- After the frame run, argument `main_arg7` is as launched: input window 6 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 6).trans (((dats m 0 c).arrAt_in 6 rfl _).trans ((A_eq m c 6).trans (V_main_arg7 m c)))

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v22_0) = (dats m 0 c).arrAt 10 cfg0.N
      ∧ r.2.mem ((c : Thread nD τ).loc main_v22_1) = (dats m 0 c).arrAt 11 cfg0.N
      ∧ r.2.mem ((c : Thread nD τ).loc main_v22_2) = (dats m 0 c).arrAt 12 cfg0.N
      ∧ r.2.mem ((c : Thread nD τ).loc main_v22_3) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post10 m r h c,
      post11 m r h c,
      post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.ReferenceIdeal.Hand

end
-- ==== Proof.Equation.lean ====
/-
  The kernel and the reference compute the same four arrays from the same arguments.
-/
module

public import proofs.«01_k».proof.Defs
public import proofs.«01_k».proof.Proof.Results
public import proofs.«01_k».proof.Proof.RefArrays
public import proofs.«01_k».proof.Proof.ReferenceRun

@[expose] public section

set_option maxRecDepth 16384

noncomputable section

namespace Cert.Equation

open Idealize.ShloMosaic Idealize.ShloMosaic.TcCoe Idealize.SL.Sem
open Cert.KernelIdeal.Hand (vvWord Exit1 outsA)

/-- The shape relation that the precondition's function states. -/
theorem factsPre : Cert.Pre_in_vocabulary.Facts := ⟨by decide⟩

/-- An index of a rank-2 and of a rank-3 array from its components. -/
theorem idx2 {n0 n1 : ℕ} (i : (⟨2, ![n0, n1]⟩ : Shape).Idx) : i = ix2 (i 0) (i 1) := Cert.KernelIdeal.Hand.idx_eq i _ _ rfl rfl
/-- The same for rank 3. -/
theorem idx3 {n0 n1 n2 : ℕ} (i : (⟨3, ![n0, n1, n2]⟩ : Shape).Idx) : i = ix3 (i 0) (i 1) (i 2) := by
  funext a
  match a with
  | ⟨0, _⟩ => rfl
  | ⟨1, _⟩ => rfl
  | ⟨2, _⟩ => rfl

/-- The signed comparison word is 1 only when the integer is at most 32000. -/
theorem le_of_sle (x : BitVec 32) (h : IntOp.cmpi .sle x 32000#32 = 1#1) : x.toInt ≤ 32000 := by
  have e : x.sle 32000#32 = true := by
    cases hb : x.sle 32000#32 with
    | true => rfl
    | false =>
      have : IntOp.cmpi .sle x 32000#32 = 0#1 := by
        show BitVec.ofBool (x.sle 32000#32) = 0#1
        rw [hb]; rfl
      exact absurd (this.symm.trans h) (by decide)
  rw [BitVec.sle_iff_toInt_le] at e
  exact e

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The count of valid columns stays inside the vocabulary. -/
theorem word_le (h : Cert.Pre_KernelIdeal_in_vocabulary (hPre_in_vocabulary := factsPre) m) : (vvWord m 0).toInt ≤ 32000 :=
  le_of_sle _ (congrFun (h 0) Cert.KernelIdeal.Hand.idx0)

/-- The arguments the four results depend on agree. -/
structure Same : Prop where
  h0 : m' (((0 : Dev Cert.ReferenceIdeal.nD) : Thread Cert.ReferenceIdeal.nD Cert.ReferenceIdeal.τ).loc Cert.ReferenceIdeal.main_arg0) = (m (((0 : Dev Cert.KernelIdeal.nD) : Thread Cert.KernelIdeal.nD Cert.KernelIdeal.τ).loc Cert.KernelIdeal.main_arg0) : Vec Ideal Cert.KernelIdeal.S3x128x2048 .bf16)
  h1 : m' (((0 : Dev Cert.ReferenceIdeal.nD) : Thread Cert.ReferenceIdeal.nD Cert.ReferenceIdeal.τ).loc Cert.ReferenceIdeal.main_arg1) = (m (((0 : Dev Cert.KernelIdeal.nD) : Thread Cert.KernelIdeal.nD Cert.KernelIdeal.τ).loc Cert.KernelIdeal.main_arg1) : Vec Ideal Cert.KernelIdeal.S3x128x8192 .bf16)
  h2 : m' (((0 : Dev Cert.ReferenceIdeal.nD) : Thread Cert.ReferenceIdeal.nD Cert.ReferenceIdeal.τ).loc Cert.ReferenceIdeal.main_arg2) = (m (((0 : Dev Cert.KernelIdeal.nD) : Thread Cert.KernelIdeal.nD Cert.KernelIdeal.τ).loc Cert.KernelIdeal.main_arg2) : Vec Ideal Cert.KernelIdeal.S2048 .f32)
  h3 : m' (((0 : Dev Cert.ReferenceIdeal.nD) : Thread Cert.ReferenceIdeal.nD Cert.ReferenceIdeal.τ).loc Cert.ReferenceIdeal.main_arg3) = (m (((0 : Dev Cert.KernelIdeal.nD) : Thread Cert.KernelIdeal.nD Cert.KernelIdeal.τ).loc Cert.KernelIdeal.main_arg3) : Vec Ideal Cert.KernelIdeal.S8192 .f32)
  h4 : m' (((0 : Dev Cert.ReferenceIdeal.nD) : Thread Cert.ReferenceIdeal.nD Cert.ReferenceIdeal.τ).loc Cert.ReferenceIdeal.main_arg4) = (m (((0 : Dev Cert.KernelIdeal.nD) : Thread Cert.KernelIdeal.nD Cert.KernelIdeal.τ).loc Cert.KernelIdeal.main_arg4) : Vec Ideal Cert.KernelIdeal.S4096x32000 .i8)
  h5 : m' (((0 : Dev Cert.ReferenceIdeal.nD) : Thread Cert.ReferenceIdeal.nD Cert.ReferenceIdeal.τ).loc Cert.ReferenceIdeal.main_arg5) = (m (((0 : Dev Cert.KernelIdeal.nD) : Thread Cert.KernelIdeal.nD Cert.KernelIdeal.τ).loc Cert.KernelIdeal.main_arg5) : Vec Ideal Cert.KernelIdeal.S64x32000 .f32)
  h6 : m' (((0 : Dev Cert.ReferenceIdeal.nD) : Thread Cert.ReferenceIdeal.nD Cert.ReferenceIdeal.τ).loc Cert.ReferenceIdeal.main_arg6) = (m (((0 : Dev Cert.KernelIdeal.nD) : Thread Cert.KernelIdeal.nD Cert.KernelIdeal.τ).loc Cert.KernelIdeal.main_arg6) : Vec Ideal Cert.KernelIdeal.S64x32000 .f32)
  h7 : m' (((0 : Dev Cert.ReferenceIdeal.nD) : Thread Cert.ReferenceIdeal.nD Cert.ReferenceIdeal.τ).loc Cert.ReferenceIdeal.main_arg7) = (m (((0 : Dev Cert.KernelIdeal.nD) : Thread Cert.KernelIdeal.nD Cert.KernelIdeal.τ).loc Cert.KernelIdeal.main_arg7) : Vec Ideal Cert.KernelIdeal.S32000x2048 .fp8e4m3)
  h8 : m' (((0 : Dev Cert.ReferenceIdeal.nD) : Thread Cert.ReferenceIdeal.nD Cert.ReferenceIdeal.τ).loc Cert.ReferenceIdeal.main_arg8) = (m (((0 : Dev Cert.KernelIdeal.nD) : Thread Cert.KernelIdeal.nD Cert.KernelIdeal.τ).loc Cert.KernelIdeal.main_arg8) : Vec Ideal Cert.KernelIdeal.S32000 .f32)
  h12 : m' (((0 : Dev Cert.ReferenceIdeal.nD) : Thread Cert.ReferenceIdeal.nD Cert.ReferenceIdeal.τ).loc Cert.ReferenceIdeal.main_arg12) = (m (((0 : Dev Cert.KernelIdeal.nD) : Thread Cert.KernelIdeal.nD Cert.KernelIdeal.τ).loc Cert.KernelIdeal.main_arg12) : Vec Ideal Cert.KernelIdeal.S1 .i32)

variable {m m'} (h : Same m m')
include h

/-- The student rows agree. -/
theorem same_x (r : Fin 384) : Cert.KernelIdeal.Hand.rowX m 0 r = Cert.ReferenceIdeal.Hand.rowX m' 0 r := by
  funext k; unfold Cert.KernelIdeal.Hand.rowX Cert.ReferenceIdeal.Hand.rowX; rw [h.h0]
/-- The teacher rows agree. -/
theorem same_h (r : Fin 384) : Cert.KernelIdeal.Hand.rowH m 0 r = Cert.ReferenceIdeal.Hand.rowH m' 0 r := by
  funext k; unfold Cert.KernelIdeal.Hand.rowH Cert.ReferenceIdeal.Hand.rowH; rw [h.h1]
/-- The student gains agree. -/
theorem same_gs : Cert.KernelIdeal.Hand.gainS m 0 = Cert.ReferenceIdeal.Hand.gainS m' 0 := funext fun k => congrFun h.h2.symm _
/-- The teacher gains agree. -/
theorem same_gt : Cert.KernelIdeal.Hand.gainT m 0 = Cert.ReferenceIdeal.Hand.gainT m' 0 := funext fun k => congrFun h.h3.symm _
/-- The counts of valid columns agree. -/
theorem same_w : vvWord m 0 = (m' (((0 : Dev Cert.ReferenceIdeal.nD) : Thread Cert.ReferenceIdeal.nD Cert.ReferenceIdeal.τ).loc Cert.ReferenceIdeal.main_arg12) : Vec Ideal Cert.ReferenceIdeal.S1 .i32) (ix1 0) := (congrFun h.h12.symm Cert.KernelIdeal.Hand.idx0).trans (congrArg (m' (((0 : Dev Cert.ReferenceIdeal.nD) : Thread Cert.ReferenceIdeal.nD Cert.ReferenceIdeal.τ).loc Cert.ReferenceIdeal.main_arg12) : Vec Ideal Cert.ReferenceIdeal.S1 .i32) (Cert.KernelIdeal.Hand.eq_idx0 _).symm)

variable (A : Exit1 m 0)

/-- Result 2: the teacher's row log-sum-exps agree. -/
theorem same2 (hv : (vvWord m 0).toInt ≤ 32000) :
    Cert.KernelIdeal.Gen.V9 m (outsA m 0 A.1) 0 Cert.KernelIdeal.main_v34 = (Cert.ReferenceIdeal.Gen.dats m' 0 0).arrAt 10 Cert.ReferenceIdeal.cfg0.N := by
  refine funext fun (i : (⟨2, ![3, 128]⟩ : Shape).Idx) => ?_
  rw [idx2 i]
  refine (Cert.KernelIdeal.Hand.out2 m A hv _ _).trans (Eq.trans ?_ (Cert.ReferenceIdeal.Hand.val10 m' 0 _ _).symm)
  rw [same_w h, same_h h, same_gt h, h.h4, h.h5, h.h6]

/-- Result 3: the student's row log-sum-exps agree. -/
theorem same3 (hv : (vvWord m 0).toInt ≤ 32000) :
    Cert.KernelIdeal.Gen.V9 m (outsA m 0 A.1) 0 Cert.KernelIdeal.main_v39 = (Cert.ReferenceIdeal.Gen.dats m' 0 0).arrAt 11 Cert.ReferenceIdeal.cfg0.N := by
  refine funext fun (i : (⟨2, ![3, 128]⟩ : Shape).Idx) => ?_
  rw [idx2 i]
  refine (Cert.KernelIdeal.Hand.out3 m A hv _ _).trans (Eq.trans ?_ (Cert.ReferenceIdeal.Hand.val11 m' 0 _ _).symm)
  rw [same_w h, same_x h, same_gs h, h.h7, h.h8]

/-- Result 6: the fp8 codes agree. -/
theorem same6 : Cert.KernelIdeal.Gen.V9 m (outsA m 0 A.1) 0 Cert.KernelIdeal.main_v40 = (Cert.ReferenceIdeal.Gen.dats m' 0 0).arrAt 12 Cert.ReferenceIdeal.cfg0.N := by
  refine funext fun (i : (⟨3, ![3, 128, 2048]⟩ : Shape).Idx) => ?_
  rw [idx3 i]
  refine (Cert.KernelIdeal.Hand.out6 m A _ _ _).trans (Eq.trans ?_ (Cert.ReferenceIdeal.Hand.val12 m' 0 _ _ _).symm)
  rw [same_x h, same_gs h]

/-- Result 7: the row scales agree. -/
theorem same7 : Cert.KernelIdeal.Gen.V9 m (outsA m 0 A.1) 0 Cert.KernelIdeal.main_v43 = (Cert.ReferenceIdeal.Gen.dats m' 0 0).arrAt 13 Cert.ReferenceIdeal.cfg0.N := by
  refine funext fun (i : (⟨2, ![3, 128]⟩ : Shape).Idx) => ?_
  rw [idx2 i]
  refine (Cert.KernelIdeal.Hand.out7 m A _ _).trans (Eq.trans ?_ (Cert.ReferenceIdeal.Hand.val13 m' 0 _ _).symm)
  rw [same_x h, same_gs h]

end

/-- Kernel and reference, run from the same arguments, end with the same four results, the arguments unchanged. -/
theorem algebraic : Cert.algebraic_KernelIdeal_ReferenceIdeal_pre_in_vocabulary (hKernelIdeal := Cert.KernelIdeal.Gen.facts) (hReferenceIdeal := Cert.ReferenceIdeal.Gen.facts)
    (hPre_in_vocabulary := factsPre) := by
  intro m g m' g' hpre hargs
  have h : Same m m' := by
    obtain ⟨h0, h1, h2, h3, h4, h5, h6, h7, h8, -, -, -, h12⟩ := hargs 0
    exact ⟨h0, h1, h2, h3, h4, h5, h6, h7, h8, h12⟩
  have hv := word_le m hpre
  refine ⟨fun c => (Cert.ReferenceIdeal.Gen.dats m' 0 c).arrAt 10 Cert.ReferenceIdeal.cfg0.N, fun c => (Cert.ReferenceIdeal.Gen.dats m' 0 c).arrAt 11 Cert.ReferenceIdeal.cfg0.N,
    fun c => (Cert.ReferenceIdeal.Gen.dats m' 0 c).arrAt 12 Cert.ReferenceIdeal.cfg0.N, fun c => (Cert.ReferenceIdeal.Gen.dats m' 0 c).arrAt 13 Cert.ReferenceIdeal.cfg0.N,
    ?_, Cert.ReferenceIdeal.Hand.run_blocks m' g'⟩
  refine (θ_run Cert.KernelIdeal.defs _ _).mono (fun r hr c => ?_) (Cert.KernelIdeal.Hand.run_all m g)
  obtain ⟨A, hA⟩ := hr.1 c
  obtain rfl : c = 0 := Subsingleton.elim c 0
  refine ⟨(hA _ (Cert.KernelIdeal.Hand.mem_uc Cert.KernelIdeal.main_v34 rfl)).trans (same2 h A hv), (hA _ (Cert.KernelIdeal.Hand.mem_uc Cert.KernelIdeal.main_v39 rfl)).trans (same3 h A hv),
    (hA _ (Cert.KernelIdeal.Hand.mem_uc Cert.KernelIdeal.main_v40 rfl)).trans (same6 h A), (hA _ (Cert.KernelIdeal.Hand.mem_uc Cert.KernelIdeal.main_v43 rfl)).trans (same7 h A),
    (hA _ (Cert.KernelIdeal.Hand.mem_uc Cert.KernelIdeal.main_arg0 rfl)).trans (Cert.KernelIdeal.Gen.V9_main_arg0 m (outsA m 0 A.1) 0),
    (hA _ (Cert.KernelIdeal.Hand.mem_uc Cert.KernelIdeal.main_arg1 rfl)).trans (Cert.KernelIdeal.Gen.V9_main_arg1 m (outsA m 0 A.1) 0),
    (hA _ (Cert.KernelIdeal.Hand.mem_uc Cert.KernelIdeal.main_arg2 rfl)).trans (Cert.KernelIdeal.Gen.V9_main_arg2 m (outsA m 0 A.1) 0),
    (hA _ (Cert.KernelIdeal.Hand.mem_uc Cert.KernelIdeal.main_arg3 rfl)).trans (Cert.KernelIdeal.Gen.V9_main_arg3 m (outsA m 0 A.1) 0),
    (hA _ (Cert.KernelIdeal.Hand.mem_uc Cert.KernelIdeal.main_arg4 rfl)).trans (Cert.KernelIdeal.Gen.V9_main_arg4 m (outsA m 0 A.1) 0),
    (hA _ (Cert.KernelIdeal.Hand.mem_uc Cert.KernelIdeal.main_arg5 rfl)).trans (Cert.KernelIdeal.Gen.V9_main_arg5 m (outsA m 0 A.1) 0),
    (hA _ (Cert.KernelIdeal.Hand.mem_uc Cert.KernelIdeal.main_arg6 rfl)).trans (Cert.KernelIdeal.Gen.V9_main_arg6 m (outsA m 0 A.1) 0),
    (hA _ (Cert.KernelIdeal.Hand.mem_uc Cert.KernelIdeal.main_arg7 rfl)).trans (Cert.KernelIdeal.Gen.V9_main_arg7 m (outsA m 0 A.1) 0),
    (hA _ (Cert.KernelIdeal.Hand.mem_uc Cert.KernelIdeal.main_arg8 rfl)).trans (Cert.KernelIdeal.Gen.V9_main_arg8 m (outsA m 0 A.1) 0),
    (hA _ (Cert.KernelIdeal.Hand.mem_uc Cert.KernelIdeal.main_arg9 rfl)).trans (Cert.KernelIdeal.Gen.V9_main_arg9 m (outsA m 0 A.1) 0),
    (hA _ (Cert.KernelIdeal.Hand.mem_uc Cert.KernelIdeal.main_arg10 rfl)).trans (Cert.KernelIdeal.Gen.V9_main_arg10 m (outsA m 0 A.1) 0),
    (hA _ (Cert.KernelIdeal.Hand.mem_uc Cert.KernelIdeal.main_arg11 rfl)).trans (Cert.KernelIdeal.Gen.V9_main_arg11 m (outsA m 0 A.1) 0),
    (hA _ (Cert.KernelIdeal.Hand.mem_uc Cert.KernelIdeal.main_arg12 rfl)).trans (Cert.KernelIdeal.Gen.V9_main_arg12 m (outsA m 0 A.1) 0)⟩

end Cert.Equation

end

end
-- ==== Proof.lean ====
/- The claim assembled from the modules under Proof/: the frames of the three programs, the named constants and the equality of the results. -/
module

public import proofs.«01_k».proof.Defs
public import proofs.«01_k».proof.Proof.Run
public import proofs.«01_k».proof.Proof.KernelRun
public import proofs.«01_k».proof.Proof.Gen.ReferenceIdeal.Frame
public import proofs.«01_k».proof.Proof.Equation

@[expose] public section

noncomputable section

namespace Cert.Proof

open Idealize.ShloMosaic Idealize.SL.Sem

/-- Each named constant of the ideal program stands for the real number its entry names. -/
theorem preserves : Cert.preserves_Kernel_KernelIdeal :=
  ⟨IdealRules.named_const.statement Cert.KernelIdeal.κ "masked" .f32 0xF149F2CA#32 ⊥ rfl,
    IdealRules.named_const.statement Cert.KernelIdeal.κ "z_scale" .f32 0x3F38AA3B#32 _ rfl,
    IdealRules.named_const.statement Cert.KernelIdeal.κ "log2e" .f32 0x3FB8AA3B#32 _ rfl,
    IdealRules.named_const.statement Cert.KernelIdeal.κ "ln2" .f32 0x3F317218#32 _ rfl⟩

/-- The whole certificate: no run of the three programs faults and each leaves its arguments and semaphores as they were; the named constants are
    the real numbers they stand for; kernel and reference give the same four results. -/
theorem claim : Cert.Claim :=
  ⟨Cert.Kernel.Gen.facts, Cert.KernelIdeal.Gen.facts, Cert.ReferenceIdeal.Gen.facts, Cert.Equation.factsPre,
    fun m ρ _ => Cert.Kernel.Hand.frame_all m ρ, fun m ρ _ => Cert.KernelIdeal.Hand.frame_all m ρ,
    fun m ρ _ => Cert.KernelIdeal.Hand.frame_all m ρ, fun m ρ _ => Cert.ReferenceIdeal.Gen.frame m ρ,
    fun m ρ _ => Cert.ReferenceIdeal.Gen.frame m ρ, preserves, Cert.Equation.algebraic⟩

end Cert.Proof

end

end
